-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.bf16_pair.BufferStatement Cert.KernelIdeal.S32x8x2x128 Cert.KernelIdeal.S32x8x1x128
  ∧ IdealRules.bf16_pair.BufferStatement Cert.KernelIdeal.S24x8x2x128 Cert.KernelIdeal.S24x8x1x128
  ∧ IdealRules.bf16_pair.BufferStatement Cert.KernelIdeal.S12x1792x2x128 Cert.KernelIdeal.S12x1792x1x128
  ∧ IdealRules.bf16_pair.BufferStatement Cert.KernelIdeal.S12x1280x2x128 Cert.KernelIdeal.S12x1280x1x128
  ∧ IdealRules.bf16_pair.Statement Cert.KernelIdeal.S16x128 Cert.KernelIdeal.S8x128
  ∧ IdealRules.bf16_pair.Statement Cert.KernelIdeal.S1x8x2x128 Cert.KernelIdeal.S1x8x1x128
  ∧ IdealRules.bf16_pair.Statement Cert.KernelIdeal.S1x256x2x128 Cert.KernelIdeal.S1x256x1x128
  ∧ IdealRules.bf16_pair.Statement Cert.KernelIdeal.S512x128 Cert.KernelIdeal.S256x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3584x4x384 : Shape := ⟨3, ![3584, 4, 384]⟩
abbrev S3584x4x3 : Shape := ⟨3, ![3584, 4, 3]⟩
abbrev S2560x4x384 : Shape := ⟨3, ![2560, 4, 384]⟩
abbrev S2560x4x3 : Shape := ⟨3, ![2560, 4, 3]⟩
abbrev S3584x384x4 : Shape := ⟨3, ![3584, 384, 4]⟩
abbrev S3584x384 : Shape := ⟨2, ![3584, 384]⟩
abbrev S3584x1x384 : Shape := ⟨3, ![3584, 1, 384]⟩
abbrev S3x4x3584 : Shape := ⟨3, ![3, 4, 3584]⟩
abbrev S2560x384x4 : Shape := ⟨3, ![2560, 384, 4]⟩
abbrev S2560x384 : Shape := ⟨2, ![2560, 384]⟩
abbrev S2560x1x384 : Shape := ⟨3, ![2560, 1, 384]⟩
abbrev S3x4x2560 : Shape := ⟨3, ![3, 4, 2560]⟩
abbrev S2560x3584 : Shape := ⟨2, ![2560, 3584]⟩
abbrev S3x3584x128 : Shape := ⟨3, ![3, 3584, 128]⟩
abbrev S3x2560x128 : Shape := ⟨3, ![3, 2560, 128]⟩
abbrev S32x8x128 : Shape := ⟨3, ![32, 8, 128]⟩
abbrev S24x8x128 : Shape := ⟨3, ![24, 8, 128]⟩
abbrev S12x1792x128 : Shape := ⟨3, ![12, 1792, 128]⟩
abbrev S12x1280x128 : Shape := ⟨3, ![12, 1280, 128]⟩
abbrev S2x512x512 : Shape := ⟨3, ![2, 512, 512]⟩
abbrev S12 : Shape := ⟨1, ![12]⟩
abbrev S2 : Shape := ⟨1, ![2]⟩
abbrev S1 : Shape := ⟨1, ![1]⟩
abbrev S_ : Shape := ⟨0, ![]⟩
abbrev S1x512x128 : Shape := ⟨3, ![1, 512, 128]⟩
abbrev S512x128 : Shape := ⟨2, ![512, 128]⟩
abbrev S512x1x128 : Shape := ⟨3, ![512, 1, 128]⟩
abbrev S1x4x128 : Shape := ⟨3, ![1, 4, 128]⟩
abbrev S4x128 : Shape := ⟨2, ![4, 128]⟩
abbrev S128x128 : Shape := ⟨2, ![128, 128]⟩
abbrev S16x128 : Shape := ⟨2, ![16, 128]⟩
abbrev S8x128 : Shape := ⟨2, ![8, 128]⟩
abbrev S1x8x128 : Shape := ⟨3, ![1, 8, 128]⟩
abbrev S1x2560x128 : Shape := ⟨3, ![1, 2560, 128]⟩
abbrev S2560x128 : Shape := ⟨2, ![2560, 128]⟩
abbrev S32x128 : Shape := ⟨2, ![32, 128]⟩
abbrev S16x128x1 : Shape := ⟨3, ![16, 128, 1]⟩
abbrev S1x3584x128 : Shape := ⟨3, ![1, 3584, 128]⟩
abbrev S3584x128 : Shape := ⟨2, ![3584, 128]⟩
abbrev S1x256x128 : Shape := ⟨3, ![1, 256, 128]⟩
abbrev S256x128 : Shape := ⟨2, ![256, 128]⟩
abbrev S512x1536 : Shape := ⟨2, ![512, 1536]⟩
abbrev S512x512 : Shape := ⟨2, ![512, 512]⟩
abbrev S1x512x512 : Shape := ⟨3, ![1, 512, 512]⟩

abbrev nBuf : Space → Nat
  | .hbm => 13
  | .vmem => 9
  | .smem => 0
  | _ => 0

abbrev bufTy : (tb : Table) → Fin (tcTables nBuf tb) → BufTy
  | .hbm, ⟨0, _⟩ => ⟨S3584x4x384, .i8⟩
  | .hbm, ⟨1, _⟩ => ⟨S3584x4x3, .f32⟩
  | .hbm, ⟨2, _⟩ => ⟨S2560x4x384, .i8⟩
  | .hbm, ⟨3, _⟩ => ⟨S2560x4x3, .f32⟩
  | .hbm, ⟨4, _⟩ => ⟨S3584x384x4, .i8⟩
  | .hbm, ⟨5, _⟩ => ⟨S3584x384, .i32⟩
  | .hbm, ⟨6, _⟩ => ⟨S3584x1x384, .i32⟩
  | .hbm, ⟨7, _⟩ => ⟨S3x4x3584, .f32⟩
  | .hbm, ⟨8, _⟩ => ⟨S2560x384x4, .i8⟩
  | .hbm, ⟨9, _⟩ => ⟨S2560x384, .i32⟩
  | .hbm, ⟨10, _⟩ => ⟨S2560x1x384, .i32⟩
  | .hbm, ⟨11, _⟩ => ⟨S3x4x2560, .f32⟩
  | .hbm, ⟨12, _⟩ => ⟨S2560x3584, .f32⟩
  | .local _ .vmem, ⟨0, _⟩ => ⟨S3x4x3584, .f32⟩
  | .local _ .vmem, ⟨1, _⟩ => ⟨S3x4x2560, .f32⟩
  | .local _ .vmem, ⟨2, _⟩ => ⟨S3x3584x128, .i32⟩
  | .local _ .vmem, ⟨3, _⟩ => ⟨S3x2560x128, .i32⟩
  | .local _ .vmem, ⟨4, _⟩ => ⟨S32x8x128, .i32⟩
  | .local _ .vmem, ⟨5, _⟩ => ⟨S24x8x128, .i32⟩
  | .local _ .vmem, ⟨6, _⟩ => ⟨S12x1792x128, .i32⟩
  | .local _ .vmem, ⟨7, _⟩ => ⟨S12x1280x128, .i32⟩
  | .local _ .vmem, ⟨8, _⟩ => ⟨S2x512x512, .f32⟩
  | _, _ => ⟨S3584x4x384, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_sem0_0 : DmaSem sig := 0
abbrev cc0_sem1_0 : DmaSem sig := 1

abbrev nD : Nat := 1
abbrev τ : Topo := Topo.v7x

variable {F : FTy → Type} [BitOps F]

abbrev grid0 : Pipeline.Grid := .none

@[reducible] def k0_t1_loop : Scf.Loop 32 :=
  let c0_i32_1081 : BitVec 32 := 0#32
  let c80_i32 : BitVec 32 := 80#32
  let v1129 : BitVec 32 := Scalar.addi c0_i32_1081 c80_i32
  let c1_i32_1082 : BitVec 32 := 1#32
  ⟨c0_i32_1081, v1129, c1_i32_1082⟩
def k0_off1 (k0_t1 : Fin k0_t1_loop.trips) (c0_i32_1138 : BitVec 32) : Fin 3 → Nat :=
  let c0_i32_1081 : BitVec 32 := 0#32
  let c1_i32_1082 : BitVec 32 := 1#32
  let arg14 : BitVec 32 := Scf.iv c0_i32_1081 c1_i32_1082 k0_t1
  let c32_i32 : BitVec 32 := 32#32
  let v1145 : BitVec 32 := Scalar.muli arg14 c32_i32
  let c0_i32_1105 : BitVec 32 := 0#32
  let v1147 : BitVec 1 := Scalar.cmpi .sgt v1145 c0_i32_1105
  let v1148 : BitVec 32 := Scalar.extui v1147
  let c0_i32_1106 : BitVec 32 := 0#32
  let v1149 : BitVec 1 := Scalar.cmpi .slt v1145 c0_i32_1106
  let v1150 : BitVec 32 := Scalar.extui v1149
  let v1151 : BitVec 32 := Scalar.subi v1148 v1150
  let c128_i32_1104 : BitVec 32 := 128#32
  let c0_i32_1107 : BitVec 32 := 0#32
  let v1152 : BitVec 1 := Scalar.cmpi .sgt c128_i32_1104 c0_i32_1107
  let v1153 : BitVec 32 := Scalar.extui v1152
  let c0_i32_1108 : BitVec 32 := 0#32
  let v1154 : BitVec 1 := Scalar.cmpi .slt c128_i32_1104 c0_i32_1108
  let v1155 : BitVec 32 := Scalar.extui v1154
  let v1156 : BitVec 32 := Scalar.subi v1153 v1155
  let v1157 : BitVec 1 := Scalar.cmpi .ne v1151 v1156
  let v1158 : BitVec 32 := Scalar.remsi v1145 c128_i32_1104
  let c0_i32_1109 : BitVec 32 := 0#32
  let v1159 : BitVec 1 := Scalar.cmpi .ne v1158 c0_i32_1109
  let v1160 : BitVec 1 := Scalar.andi v1157 v1159
  let v1146 : BitVec 32 := Scalar.divsi v1145 c128_i32_1104
  let c1_i32_1110 : BitVec 32 := 1#32
  let v1161 : BitVec 32 := Scalar.subi v1146 c1_i32_1110
  let v1162 : BitVec 32 := Scalar.select v1160 v1161 v1146
  let c0_i32_1112 : BitVec 32 := 0#32
  let v1164 : BitVec 1 := Scalar.cmpi .sgt v1162 c0_i32_1112
  let v1165 : BitVec 32 := Scalar.extui v1164
  let c0_i32_1113 : BitVec 32 := 0#32
  let v1166 : BitVec 1 := Scalar.cmpi .slt v1162 c0_i32_1113
  let v1167 : BitVec 32 := Scalar.extui v1166
  let v1168 : BitVec 32 := Scalar.subi v1165 v1167
  let c8_i32_1111 : BitVec 32 := 8#32
  let c0_i32_1114 : BitVec 32 := 0#32
  let v1169 : BitVec 1 := Scalar.cmpi .sgt c8_i32_1111 c0_i32_1114
  let v1170 : BitVec 32 := Scalar.extui v1169
  let c0_i32_1115 : BitVec 32 := 0#32
  let v1171 : BitVec 1 := Scalar.cmpi .slt c8_i32_1111 c0_i32_1115
  let v1172 : BitVec 32 := Scalar.extui v1171
  let v1173 : BitVec 32 := Scalar.subi v1170 v1172
  let v1174 : BitVec 1 := Scalar.cmpi .ne v1168 v1173
  let v1175 : BitVec 32 := Scalar.remsi v1162 c8_i32_1111
  let c0_i32_1116 : BitVec 32 := 0#32
  let v1176 : BitVec 1 := Scalar.cmpi .ne v1175 c0_i32_1116
  let v1177 : BitVec 1 := Scalar.andi v1174 v1176
  let v1163 : BitVec 32 := Scalar.divsi v1162 c8_i32_1111
  let c1_i32_1117 : BitVec 32 := 1#32
  let v1178 : BitVec 32 := Scalar.subi v1163 c1_i32_1117
  let v1179 : BitVec 32 := Scalar.select v1177 v1178 v1163
  let c8_i32_1137 : BitVec 32 := 8#32
  let v1218 : BitVec 32 := Scalar.muli v1179 c8_i32_1137
  let c128_i32_1124 : BitVec 32 := 128#32
  let c0_i32_1125 : BitVec 32 := 0#32
  let v1191 : BitVec 1 := Scalar.cmpi .eq c128_i32_1124 c0_i32_1125
  let c1_i32_1126 : BitVec 32 := 1#32
  let v1192 : BitVec 32 := Scalar.select v1191 c1_i32_1126 c128_i32_1124
  let v1193 : BitVec 32 := Scalar.remsi v1145 v1192
  let c0_i32_1128 : BitVec 32 := 0#32
  let v1195 : BitVec 1 := Scalar.cmpi .slt v1193 c0_i32_1128
  let c0_i32_1129 : BitVec 32 := 0#32
  let v1196 : BitVec 1 := Scalar.cmpi .slt v1192 c0_i32_1129
  let v1197 : BitVec 1 := Scalar.xori v1195 v1196
  let c0_i32_1127 : BitVec 32 := 0#32
  let v1194 : BitVec 1 := Scalar.cmpi .ne v1193 c0_i32_1127
  let v1198 : BitVec 1 := Scalar.andi v1197 v1194
  let v1199 : BitVec 32 := Scalar.addi v1193 v1192
  let v1200 : BitVec 32 := Scalar.select v1198 v1199 v1193
  let c0_i32_1131 : BitVec 32 := 0#32
  let v1202 : BitVec 1 := Scalar.cmpi .sgt v1200 c0_i32_1131
  let v1203 : BitVec 32 := Scalar.extui v1202
  let c0_i32_1132 : BitVec 32 := 0#32
  let v1204 : BitVec 1 := Scalar.cmpi .slt v1200 c0_i32_1132
  let v1205 : BitVec 32 := Scalar.extui v1204
  let v1206 : BitVec 32 := Scalar.subi v1203 v1205
  let c16_i32_1130 : BitVec 32 := 16#32
  let c0_i32_1133 : BitVec 32 := 0#32
  let v1207 : BitVec 1 := Scalar.cmpi .sgt c16_i32_1130 c0_i32_1133
  let v1208 : BitVec 32 := Scalar.extui v1207
  let c0_i32_1134 : BitVec 32 := 0#32
  let v1209 : BitVec 1 := Scalar.cmpi .slt c16_i32_1130 c0_i32_1134
  let v1210 : BitVec 32 := Scalar.extui v1209
  let v1211 : BitVec 32 := Scalar.subi v1208 v1210
  let v1212 : BitVec 1 := Scalar.cmpi .ne v1206 v1211
  let v1213 : BitVec 32 := Scalar.remsi v1200 c16_i32_1130
  let c0_i32_1135 : BitVec 32 := 0#32
  let v1214 : BitVec 1 := Scalar.cmpi .ne v1213 c0_i32_1135
  let v1215 : BitVec 1 := Scalar.andi v1212 v1214
  let v1201 : BitVec 32 := Scalar.divsi v1200 c16_i32_1130
  let c1_i32_1136 : BitVec 32 := 1#32
  let v1216 : BitVec 32 := Scalar.subi v1201 c1_i32_1136
  let v1217 : BitVec 32 := Scalar.select v1215 v1216 v1201
  let v1219 : BitVec 32 := Scalar.addi v1218 v1217
  let v1220 : BitVec 32 := Scalar.addi v1219 c0_i32_1138
  let v1221 : Index := Scalar.indexCast v1220
  let c0_1139 : Index := 0#32
  let c0_1140 : Index := 0#32
  ![v1221.toNat, 0, 0]
def k0_off2 (k0_t1 : Fin k0_t1_loop.trips) (c0_i32_1145 : BitVec 32) : Fin 2 → Nat :=
  let c0_i32_1081 : BitVec 32 := 0#32
  let c1_i32_1082 : BitVec 32 := 1#32
  let arg14 : BitVec 32 := Scf.iv c0_i32_1081 c1_i32_1082 k0_t1
  let c32_i32 : BitVec 32 := 32#32
  let v1145 : BitVec 32 := Scalar.muli arg14 c32_i32
  let v1230 : BitVec 32 := Scalar.addi v1145 c0_i32_1145
  let v1233 : Index := Scalar.indexCast v1230
  let c0_1149 : Index := 0#32
  ![v1233.toNat, 0]
def k0_mult1 (k0_t1 : Fin k0_t1_loop.trips) : BitVec 32 :=
  let c0_i32_1081 : BitVec 32 := 0#32
  let c1_i32_1082 : BitVec 32 := 1#32
  let arg14 : BitVec 32 := Scf.iv c0_i32_1081 c1_i32_1082 k0_t1
  let c16_i32_1187 : BitVec 32 := 16#32
  let v1320 : BitVec 32 := Scalar.muli arg14 c16_i32_1187
  let c0_i32_1188 : BitVec 32 := 0#32
  let v1321 : BitVec 32 := Scalar.addi v1320 c0_i32_1188
  v1321
def k0_off3 (k0_t1 : Fin k0_t1_loop.trips) (c0_i32_1188 : BitVec 32) : Fin 3 → Nat :=
  let c0_1189 : Index := 0#32
  let c0_i32_1081 : BitVec 32 := 0#32
  let c1_i32_1082 : BitVec 32 := 1#32
  let arg14 : BitVec 32 := Scf.iv c0_i32_1081 c1_i32_1082 k0_t1
  let c16_i32_1187 : BitVec 32 := 16#32
  let v1320 : BitVec 32 := Scalar.muli arg14 c16_i32_1187
  let v1321 : BitVec 32 := Scalar.addi v1320 c0_i32_1188
  let v1322 : BitVec 32 := v1321
  let v1323 : Index := Scalar.indexCast v1322
  let c0_1190 : Index := 0#32
  ![0, v1323.toNat, 0]
def k0_mult2 (k0_t1 : Fin k0_t1_loop.trips) : BitVec 32 :=
  let c0_i32_1081 : BitVec 32 := 0#32
  let c1_i32_1082 : BitVec 32 := 1#32
  let arg14 : BitVec 32 := Scf.iv c0_i32_1081 c1_i32_1082 k0_t1
  let c16_i32_1193 : BitVec 32 := 16#32
  let v1341 : BitVec 32 := Scalar.muli arg14 c16_i32_1193
  let c8_i32_1194 : BitVec 32 := 8#32
  let v1342 : BitVec 32 := Scalar.addi v1341 c8_i32_1194
  v1342
def k0_mult3 (k0_t1 : Fin k0_t1_loop.trips) : BitVec 32 :=
  let c0_i32_1081 : BitVec 32 := 0#32
  let c1_i32_1082 : BitVec 32 := 1#32
  let arg14 : BitVec 32 := Scf.iv c0_i32_1081 c1_i32_1082 k0_t1
  let c16_i32_1201 : BitVec 32 := 16#32
  let v1368 : BitVec 32 := Scalar.muli arg14 c16_i32_1201
  let c0_i32_1202 : BitVec 32 := 0#32
  let v1369 : BitVec 32 := Scalar.addi v1368 c0_i32_1202
  v1369
def k0_off4 (k0_t1 : Fin k0_t1_loop.trips) (c0_i32_1202 : BitVec 32) : Fin 3 → Nat :=
  let c1_1203 : Index := 1#32
  let c0_i32_1081 : BitVec 32 := 0#32
  let c1_i32_1082 : BitVec 32 := 1#32
  let arg14 : BitVec 32 := Scf.iv c0_i32_1081 c1_i32_1082 k0_t1
  let c16_i32_1201 : BitVec 32 := 16#32
  let v1368 : BitVec 32 := Scalar.muli arg14 c16_i32_1201
  let v1369 : BitVec 32 := Scalar.addi v1368 c0_i32_1202
  let v1370 : BitVec 32 := v1369
  let v1371 : Index := Scalar.indexCast v1370
  let c0_1204 : Index := 0#32
  ![1, v1371.toNat, 0]
def k0_mult4 (k0_t1 : Fin k0_t1_loop.trips) : BitVec 32 :=
  let c0_i32_1081 : BitVec 32 := 0#32
  let c1_i32_1082 : BitVec 32 := 1#32
  let arg14 : BitVec 32 := Scf.iv c0_i32_1081 c1_i32_1082 k0_t1
  let c16_i32_1207 : BitVec 32 := 16#32
  let v1389 : BitVec 32 := Scalar.muli arg14 c16_i32_1207
  let c8_i32_1208 : BitVec 32 := 8#32
  let v1390 : BitVec 32 := Scalar.addi v1389 c8_i32_1208
  v1390
def k0_mult5 (k0_t1 : Fin k0_t1_loop.trips) : BitVec 32 :=
  let c0_i32_1081 : BitVec 32 := 0#32
  let c1_i32_1082 : BitVec 32 := 1#32
  let arg14 : BitVec 32 := Scf.iv c0_i32_1081 c1_i32_1082 k0_t1
  let c16_i32_1215 : BitVec 32 := 16#32
  let v1416 : BitVec 32 := Scalar.muli arg14 c16_i32_1215
  let c0_i32_1216 : BitVec 32 := 0#32
  let v1417 : BitVec 32 := Scalar.addi v1416 c0_i32_1216
  v1417
def k0_off5 (k0_t1 : Fin k0_t1_loop.trips) (c0_i32_1216 : BitVec 32) : Fin 3 → Nat :=
  let c2_1217 : Index := 2#32
  let c0_i32_1081 : BitVec 32 := 0#32
  let c1_i32_1082 : BitVec 32 := 1#32
  let arg14 : BitVec 32 := Scf.iv c0_i32_1081 c1_i32_1082 k0_t1
  let c16_i32_1215 : BitVec 32 := 16#32
  let v1416 : BitVec 32 := Scalar.muli arg14 c16_i32_1215
  let v1417 : BitVec 32 := Scalar.addi v1416 c0_i32_1216
  let v1418 : BitVec 32 := v1417
  let v1419 : Index := Scalar.indexCast v1418
  let c0_1218 : Index := 0#32
  ![2, v1419.toNat, 0]
def k0_mult6 (k0_t1 : Fin k0_t1_loop.trips) : BitVec 32 :=
  let c0_i32_1081 : BitVec 32 := 0#32
  let c1_i32_1082 : BitVec 32 := 1#32
  let arg14 : BitVec 32 := Scf.iv c0_i32_1081 c1_i32_1082 k0_t1
  let c16_i32_1221 : BitVec 32 := 16#32
  let v1437 : BitVec 32 := Scalar.muli arg14 c16_i32_1221
  let c8_i32_1222 : BitVec 32 := 8#32
  let v1438 : BitVec 32 := Scalar.addi v1437 c8_i32_1222
  v1438
def k0_mult7 (k0_t1 : Fin k0_t1_loop.trips) : BitVec 32 :=
  let c0_i32_1081 : BitVec 32 := 0#32
  let c1_i32_1082 : BitVec 32 := 1#32
  let arg14 : BitVec 32 := Scf.iv c0_i32_1081 c1_i32_1082 k0_t1
  let c16_i32_1229 : BitVec 32 := 16#32
  let v1464 : BitVec 32 := Scalar.muli arg14 c16_i32_1229
  let c0_i32_1230 : BitVec 32 := 0#32
  let v1465 : BitVec 32 := Scalar.addi v1464 c0_i32_1230
  v1465
def k0_off6 (k0_t1 : Fin k0_t1_loop.trips) (c0_i32_1230 : BitVec 32) : Fin 3 → Nat :=
  let c3_1231 : Index := 3#32
  let c0_i32_1081 : BitVec 32 := 0#32
  let c1_i32_1082 : BitVec 32 := 1#32
  let arg14 : BitVec 32 := Scf.iv c0_i32_1081 c1_i32_1082 k0_t1
  let c16_i32_1229 : BitVec 32 := 16#32
  let v1464 : BitVec 32 := Scalar.muli arg14 c16_i32_1229
  let v1465 : BitVec 32 := Scalar.addi v1464 c0_i32_1230
  let v1466 : BitVec 32 := v1465
  let v1467 : Index := Scalar.indexCast v1466
  let c0_1232 : Index := 0#32
  ![3, v1467.toNat, 0]
def k0_mult8 (k0_t1 : Fin k0_t1_loop.trips) : BitVec 32 :=
  let c0_i32_1081 : BitVec 32 := 0#32
  let c1_i32_1082 : BitVec 32 := 1#32
  let arg14 : BitVec 32 := Scf.iv c0_i32_1081 c1_i32_1082 k0_t1
  let c16_i32_1235 : BitVec 32 := 16#32
  let v1485 : BitVec 32 := Scalar.muli arg14 c16_i32_1235
  let c8_i32_1236 : BitVec 32 := 8#32
  let v1486 : BitVec 32 := Scalar.addi v1485 c8_i32_1236
  v1486
def k0_mult9 (k0_t1 : Fin k0_t1_loop.trips) : BitVec 32 :=
  let c0_i32_1081 : BitVec 32 := 0#32
  let c1_i32_1082 : BitVec 32 := 1#32
  let arg14 : BitVec 32 := Scf.iv c0_i32_1081 c1_i32_1082 k0_t1
  let c16_i32_1285 : BitVec 32 := 16#32
  let v1582 : BitVec 32 := Scalar.muli arg14 c16_i32_1285
  let c0_i32_1286 : BitVec 32 := 0#32
  let v1583 : BitVec 32 := Scalar.addi v1582 c0_i32_1286
  v1583
def k0_off7 (k0_t1 : Fin k0_t1_loop.trips) (c0_i32_1286 : BitVec 32) : Fin 3 → Nat :=
  let c4_1287 : Index := 4#32
  let c0_i32_1081 : BitVec 32 := 0#32
  let c1_i32_1082 : BitVec 32 := 1#32
  let arg14 : BitVec 32 := Scf.iv c0_i32_1081 c1_i32_1082 k0_t1
  let c16_i32_1285 : BitVec 32 := 16#32
  let v1582 : BitVec 32 := Scalar.muli arg14 c16_i32_1285
  let v1583 : BitVec 32 := Scalar.addi v1582 c0_i32_1286
  let v1584 : BitVec 32 := v1583
  let v1585 : Index := Scalar.indexCast v1584
  let c0_1288 : Index := 0#32
  ![4, v1585.toNat, 0]
def k0_mult10 (k0_t1 : Fin k0_t1_loop.trips) : BitVec 32 :=
  let c0_i32_1081 : BitVec 32 := 0#32
  let c1_i32_1082 : BitVec 32 := 1#32
  let arg14 : BitVec 32 := Scf.iv c0_i32_1081 c1_i32_1082 k0_t1
  let c16_i32_1291 : BitVec 32 := 16#32
  let v1603 : BitVec 32 := Scalar.muli arg14 c16_i32_1291
  let c8_i32_1292 : BitVec 32 := 8#32
  let v1604 : BitVec 32 := Scalar.addi v1603 c8_i32_1292
  v1604
def k0_mult11 (k0_t1 : Fin k0_t1_loop.trips) : BitVec 32 :=
  let c0_i32_1081 : BitVec 32 := 0#32
  let c1_i32_1082 : BitVec 32 := 1#32
  let arg14 : BitVec 32 := Scf.iv c0_i32_1081 c1_i32_1082 k0_t1
  let c16_i32_1299 : BitVec 32 := 16#32
  let v1630 : BitVec 32 := Scalar.muli arg14 c16_i32_1299
  let c0_i32_1300 : BitVec 32 := 0#32
  let v1631 : BitVec 32 := Scalar.addi v1630 c0_i32_1300
  v1631
def k0_off8 (k0_t1 : Fin k0_t1_loop.trips) (c0_i32_1300 : BitVec 32) : Fin 3 → Nat :=
  let c5_1301 : Index := 5#32
  let c0_i32_1081 : BitVec 32 := 0#32
  let c1_i32_1082 : BitVec 32 := 1#32
  let arg14 : BitVec 32 := Scf.iv c0_i32_1081 c1_i32_1082 k0_t1
  let c16_i32_1299 : BitVec 32 := 16#32
  let v1630 : BitVec 32 := Scalar.muli arg14 c16_i32_1299
  let v1631 : BitVec 32 := Scalar.addi v1630 c0_i32_1300
  let v1632 : BitVec 32 := v1631
  let v1633 : Index := Scalar.indexCast v1632
  let c0_1302 : Index := 0#32
  ![5, v1633.toNat, 0]
def k0_mult12 (k0_t1 : Fin k0_t1_loop.trips) : BitVec 32 :=
  let c0_i32_1081 : BitVec 32 := 0#32
  let c1_i32_1082 : BitVec 32 := 1#32
  let arg14 : BitVec 32 := Scf.iv c0_i32_1081 c1_i32_1082 k0_t1
  let c16_i32_1305 : BitVec 32 := 16#32
  let v1651 : BitVec 32 := Scalar.muli arg14 c16_i32_1305
  let c8_i32_1306 : BitVec 32 := 8#32
  let v1652 : BitVec 32 := Scalar.addi v1651 c8_i32_1306
  v1652
def k0_mult13 (k0_t1 : Fin k0_t1_loop.trips) : BitVec 32 :=
  let c0_i32_1081 : BitVec 32 := 0#32
  let c1_i32_1082 : BitVec 32 := 1#32
  let arg14 : BitVec 32 := Scf.iv c0_i32_1081 c1_i32_1082 k0_t1
  let c16_i32_1313 : BitVec 32 := 16#32
  let v1678 : BitVec 32 := Scalar.muli arg14 c16_i32_1313
  let c0_i32_1314 : BitVec 32 := 0#32
  let v1679 : BitVec 32 := Scalar.addi v1678 c0_i32_1314
  v1679
def k0_off9 (k0_t1 : Fin k0_t1_loop.trips) (c0_i32_1314 : BitVec 32) : Fin 3 → Nat :=
  let c6_1315 : Index := 6#32
  let c0_i32_1081 : BitVec 32 := 0#32
  let c1_i32_1082 : BitVec 32 := 1#32
  let arg14 : BitVec 32 := Scf.iv c0_i32_1081 c1_i32_1082 k0_t1
  let c16_i32_1313 : BitVec 32 := 16#32
  let v1678 : BitVec 32 := Scalar.muli arg14 c16_i32_1313
  let v1679 : BitVec 32 := Scalar.addi v1678 c0_i32_1314
  let v1680 : BitVec 32 := v1679
  let v1681 : Index := Scalar.indexCast v1680
  let c0_1316 : Index := 0#32
  ![6, v1681.toNat, 0]
def k0_mult14 (k0_t1 : Fin k0_t1_loop.trips) : BitVec 32 :=
  let c0_i32_1081 : BitVec 32 := 0#32
  let c1_i32_1082 : BitVec 32 := 1#32
  let arg14 : BitVec 32 := Scf.iv c0_i32_1081 c1_i32_1082 k0_t1
  let c16_i32_1319 : BitVec 32 := 16#32
  let v1699 : BitVec 32 := Scalar.muli arg14 c16_i32_1319
  let c8_i32_1320 : BitVec 32 := 8#32
  let v1700 : BitVec 32 := Scalar.addi v1699 c8_i32_1320
  v1700
def k0_mult15 (k0_t1 : Fin k0_t1_loop.trips) : BitVec 32 :=
  let c0_i32_1081 : BitVec 32 := 0#32
  let c1_i32_1082 : BitVec 32 := 1#32
  let arg14 : BitVec 32 := Scf.iv c0_i32_1081 c1_i32_1082 k0_t1
  let c16_i32_1327 : BitVec 32 := 16#32
  let v1726 : BitVec 32 := Scalar.muli arg14 c16_i32_1327
  let c0_i32_1328 : BitVec 32 := 0#32
  let v1727 : BitVec 32 := Scalar.addi v1726 c0_i32_1328
  v1727
def k0_off10 (k0_t1 : Fin k0_t1_loop.trips) (c0_i32_1328 : BitVec 32) : Fin 3 → Nat :=
  let c7_1329 : Index := 7#32
  let c0_i32_1081 : BitVec 32 := 0#32
  let c1_i32_1082 : BitVec 32 := 1#32
  let arg14 : BitVec 32 := Scf.iv c0_i32_1081 c1_i32_1082 k0_t1
  let c16_i32_1327 : BitVec 32 := 16#32
  let v1726 : BitVec 32 := Scalar.muli arg14 c16_i32_1327
  let v1727 : BitVec 32 := Scalar.addi v1726 c0_i32_1328
  let v1728 : BitVec 32 := v1727
  let v1729 : Index := Scalar.indexCast v1728
  let c0_1330 : Index := 0#32
  ![7, v1729.toNat, 0]
def k0_mult16 (k0_t1 : Fin k0_t1_loop.trips) : BitVec 32 :=
  let c0_i32_1081 : BitVec 32 := 0#32
  let c1_i32_1082 : BitVec 32 := 1#32
  let arg14 : BitVec 32 := Scf.iv c0_i32_1081 c1_i32_1082 k0_t1
  let c16_i32_1333 : BitVec 32 := 16#32
  let v1747 : BitVec 32 := Scalar.muli arg14 c16_i32_1333
  let c8_i32_1334 : BitVec 32 := 8#32
  let v1748 : BitVec 32 := Scalar.addi v1747 c8_i32_1334
  v1748
def k0_mult17 (k0_t1 : Fin k0_t1_loop.trips) : BitVec 32 :=
  let c0_i32_1081 : BitVec 32 := 0#32
  let c1_i32_1082 : BitVec 32 := 1#32
  let arg14 : BitVec 32 := Scf.iv c0_i32_1081 c1_i32_1082 k0_t1
  let c16_i32_1383 : BitVec 32 := 16#32
  let v1844 : BitVec 32 := Scalar.muli arg14 c16_i32_1383
  let c0_i32_1384 : BitVec 32 := 0#32
  let v1845 : BitVec 32 := Scalar.addi v1844 c0_i32_1384
  v1845
def k0_off11 (k0_t1 : Fin k0_t1_loop.trips) (c0_i32_1384 : BitVec 32) : Fin 3 → Nat :=
  let c8_1385 : Index := 8#32
  let c0_i32_1081 : BitVec 32 := 0#32
  let c1_i32_1082 : BitVec 32 := 1#32
  let arg14 : BitVec 32 := Scf.iv c0_i32_1081 c1_i32_1082 k0_t1
  let c16_i32_1383 : BitVec 32 := 16#32
  let v1844 : BitVec 32 := Scalar.muli arg14 c16_i32_1383
  let v1845 : BitVec 32 := Scalar.addi v1844 c0_i32_1384
  let v1846 : BitVec 32 := v1845
  let v1847 : Index := Scalar.indexCast v1846
  let c0_1386 : Index := 0#32
  ![8, v1847.toNat, 0]
def k0_mult18 (k0_t1 : Fin k0_t1_loop.trips) : BitVec 32 :=
  let c0_i32_1081 : BitVec 32 := 0#32
  let c1_i32_1082 : BitVec 32 := 1#32
  let arg14 : BitVec 32 := Scf.iv c0_i32_1081 c1_i32_1082 k0_t1
  let c16_i32_1389 : BitVec 32 := 16#32
  let v1865 : BitVec 32 := Scalar.muli arg14 c16_i32_1389
  let c8_i32_1390 : BitVec 32 := 8#32
  let v1866 : BitVec 32 := Scalar.addi v1865 c8_i32_1390
  v1866
def k0_mult19 (k0_t1 : Fin k0_t1_loop.trips) : BitVec 32 :=
  let c0_i32_1081 : BitVec 32 := 0#32
  let c1_i32_1082 : BitVec 32 := 1#32
  let arg14 : BitVec 32 := Scf.iv c0_i32_1081 c1_i32_1082 k0_t1
  let c16_i32_1397 : BitVec 32 := 16#32
  let v1892 : BitVec 32 := Scalar.muli arg14 c16_i32_1397
  let c0_i32_1398 : BitVec 32 := 0#32
  let v1893 : BitVec 32 := Scalar.addi v1892 c0_i32_1398
  v1893
def k0_off12 (k0_t1 : Fin k0_t1_loop.trips) (c0_i32_1398 : BitVec 32) : Fin 3 → Nat :=
  let c9_1399 : Index := 9#32
  let c0_i32_1081 : BitVec 32 := 0#32
  let c1_i32_1082 : BitVec 32 := 1#32
  let arg14 : BitVec 32 := Scf.iv c0_i32_1081 c1_i32_1082 k0_t1
  let c16_i32_1397 : BitVec 32 := 16#32
  let v1892 : BitVec 32 := Scalar.muli arg14 c16_i32_1397
  let v1893 : BitVec 32 := Scalar.addi v1892 c0_i32_1398
  let v1894 : BitVec 32 := v1893
  let v1895 : Index := Scalar.indexCast v1894
  let c0_1400 : Index := 0#32
  ![9, v1895.toNat, 0]
def k0_mult20 (k0_t1 : Fin k0_t1_loop.trips) : BitVec 32 :=
  let c0_i32_1081 : BitVec 32 := 0#32
  let c1_i32_1082 : BitVec 32 := 1#32
  let arg14 : BitVec 32 := Scf.iv c0_i32_1081 c1_i32_1082 k0_t1
  let c16_i32_1403 : BitVec 32 := 16#32
  let v1913 : BitVec 32 := Scalar.muli arg14 c16_i32_1403
  let c8_i32_1404 : BitVec 32 := 8#32
  let v1914 : BitVec 32 := Scalar.addi v1913 c8_i32_1404
  v1914
def k0_mult21 (k0_t1 : Fin k0_t1_loop.trips) : BitVec 32 :=
  let c0_i32_1081 : BitVec 32 := 0#32
  let c1_i32_1082 : BitVec 32 := 1#32
  let arg14 : BitVec 32 := Scf.iv c0_i32_1081 c1_i32_1082 k0_t1
  let c16_i32_1411 : BitVec 32 := 16#32
  let v1940 : BitVec 32 := Scalar.muli arg14 c16_i32_1411
  let c0_i32_1412 : BitVec 32 := 0#32
  let v1941 : BitVec 32 := Scalar.addi v1940 c0_i32_1412
  v1941
def k0_off13 (k0_t1 : Fin k0_t1_loop.trips) (c0_i32_1412 : BitVec 32) : Fin 3 → Nat :=
  let c10_1413 : Index := 10#32
  let c0_i32_1081 : BitVec 32 := 0#32
  let c1_i32_1082 : BitVec 32 := 1#32
  let arg14 : BitVec 32 := Scf.iv c0_i32_1081 c1_i32_1082 k0_t1
  let c16_i32_1411 : BitVec 32 := 16#32
  let v1940 : BitVec 32 := Scalar.muli arg14 c16_i32_1411
  let v1941 : BitVec 32 := Scalar.addi v1940 c0_i32_1412
  let v1942 : BitVec 32 := v1941
  let v1943 : Index := Scalar.indexCast v1942
  let c0_1414 : Index := 0#32
  ![10, v1943.toNat, 0]
def k0_mult22 (k0_t1 : Fin k0_t1_loop.trips) : BitVec 32 :=
  let c0_i32_1081 : BitVec 32 := 0#32
  let c1_i32_1082 : BitVec 32 := 1#32
  let arg14 : BitVec 32 := Scf.iv c0_i32_1081 c1_i32_1082 k0_t1
  let c16_i32_1417 : BitVec 32 := 16#32
  let v1961 : BitVec 32 := Scalar.muli arg14 c16_i32_1417
  let c8_i32_1418 : BitVec 32 := 8#32
  let v1962 : BitVec 32 := Scalar.addi v1961 c8_i32_1418
  v1962
def k0_mult23 (k0_t1 : Fin k0_t1_loop.trips) : BitVec 32 :=
  let c0_i32_1081 : BitVec 32 := 0#32
  let c1_i32_1082 : BitVec 32 := 1#32
  let arg14 : BitVec 32 := Scf.iv c0_i32_1081 c1_i32_1082 k0_t1
  let c16_i32_1425 : BitVec 32 := 16#32
  let v1988 : BitVec 32 := Scalar.muli arg14 c16_i32_1425
  let c0_i32_1426 : BitVec 32 := 0#32
  let v1989 : BitVec 32 := Scalar.addi v1988 c0_i32_1426
  v1989
def k0_off14 (k0_t1 : Fin k0_t1_loop.trips) (c0_i32_1426 : BitVec 32) : Fin 3 → Nat :=
  let c11_1427 : Index := 11#32
  let c0_i32_1081 : BitVec 32 := 0#32
  let c1_i32_1082 : BitVec 32 := 1#32
  let arg14 : BitVec 32 := Scf.iv c0_i32_1081 c1_i32_1082 k0_t1
  let c16_i32_1425 : BitVec 32 := 16#32
  let v1988 : BitVec 32 := Scalar.muli arg14 c16_i32_1425
  let v1989 : BitVec 32 := Scalar.addi v1988 c0_i32_1426
  let v1990 : BitVec 32 := v1989
  let v1991 : Index := Scalar.indexCast v1990
  let c0_1428 : Index := 0#32
  ![11, v1991.toNat, 0]
def k0_mult24 (k0_t1 : Fin k0_t1_loop.trips) : BitVec 32 :=
  let c0_i32_1081 : BitVec 32 := 0#32
  let c1_i32_1082 : BitVec 32 := 1#32
  let arg14 : BitVec 32 := Scf.iv c0_i32_1081 c1_i32_1082 k0_t1
  let c16_i32_1431 : BitVec 32 := 16#32
  let v2009 : BitVec 32 := Scalar.muli arg14 c16_i32_1431
  let c8_i32_1432 : BitVec 32 := 8#32
  let v2010 : BitVec 32 := Scalar.addi v2009 c8_i32_1432
  v2010
@[reducible] def k0_t2_loop : Scf.Loop 32 :=
  let c0_i32_1085 : BitVec 32 := 0#32
  let c112_i32 : BitVec 32 := 112#32
  let v1133 : BitVec 32 := Scalar.addi c0_i32_1085 c112_i32
  let c1_i32_1086 : BitVec 32 := 1#32
  ⟨c0_i32_1085, v1133, c1_i32_1086⟩
def k0_off15 (k0_t2 : Fin k0_t2_loop.trips) (c0_i32_1138 : BitVec 32) : Fin 3 → Nat :=
  let c0_i32_1085 : BitVec 32 := 0#32
  let c1_i32_1086 : BitVec 32 := 1#32
  let arg14 : BitVec 32 := Scf.iv c0_i32_1085 c1_i32_1086 k0_t2
  let c32_i32 : BitVec 32 := 32#32
  let v1145 : BitVec 32 := Scalar.muli arg14 c32_i32
  let c0_i32_1105 : BitVec 32 := 0#32
  let v1147 : BitVec 1 := Scalar.cmpi .sgt v1145 c0_i32_1105
  let v1148 : BitVec 32 := Scalar.extui v1147
  let c0_i32_1106 : BitVec 32 := 0#32
  let v1149 : BitVec 1 := Scalar.cmpi .slt v1145 c0_i32_1106
  let v1150 : BitVec 32 := Scalar.extui v1149
  let v1151 : BitVec 32 := Scalar.subi v1148 v1150
  let c128_i32_1104 : BitVec 32 := 128#32
  let c0_i32_1107 : BitVec 32 := 0#32
  let v1152 : BitVec 1 := Scalar.cmpi .sgt c128_i32_1104 c0_i32_1107
  let v1153 : BitVec 32 := Scalar.extui v1152
  let c0_i32_1108 : BitVec 32 := 0#32
  let v1154 : BitVec 1 := Scalar.cmpi .slt c128_i32_1104 c0_i32_1108
  let v1155 : BitVec 32 := Scalar.extui v1154
  let v1156 : BitVec 32 := Scalar.subi v1153 v1155
  let v1157 : BitVec 1 := Scalar.cmpi .ne v1151 v1156
  let v1158 : BitVec 32 := Scalar.remsi v1145 c128_i32_1104
  let c0_i32_1109 : BitVec 32 := 0#32
  let v1159 : BitVec 1 := Scalar.cmpi .ne v1158 c0_i32_1109
  let v1160 : BitVec 1 := Scalar.andi v1157 v1159
  let v1146 : BitVec 32 := Scalar.divsi v1145 c128_i32_1104
  let c1_i32_1110 : BitVec 32 := 1#32
  let v1161 : BitVec 32 := Scalar.subi v1146 c1_i32_1110
  let v1162 : BitVec 32 := Scalar.select v1160 v1161 v1146
  let c0_i32_1112 : BitVec 32 := 0#32
  let v1164 : BitVec 1 := Scalar.cmpi .sgt v1162 c0_i32_1112
  let v1165 : BitVec 32 := Scalar.extui v1164
  let c0_i32_1113 : BitVec 32 := 0#32
  let v1166 : BitVec 1 := Scalar.cmpi .slt v1162 c0_i32_1113
  let v1167 : BitVec 32 := Scalar.extui v1166
  let v1168 : BitVec 32 := Scalar.subi v1165 v1167
  let c8_i32_1111 : BitVec 32 := 8#32
  let c0_i32_1114 : BitVec 32 := 0#32
  let v1169 : BitVec 1 := Scalar.cmpi .sgt c8_i32_1111 c0_i32_1114
  let v1170 : BitVec 32 := Scalar.extui v1169
  let c0_i32_1115 : BitVec 32 := 0#32
  let v1171 : BitVec 1 := Scalar.cmpi .slt c8_i32_1111 c0_i32_1115
  let v1172 : BitVec 32 := Scalar.extui v1171
  let v1173 : BitVec 32 := Scalar.subi v1170 v1172
  let v1174 : BitVec 1 := Scalar.cmpi .ne v1168 v1173
  let v1175 : BitVec 32 := Scalar.remsi v1162 c8_i32_1111
  let c0_i32_1116 : BitVec 32 := 0#32
  let v1176 : BitVec 1 := Scalar.cmpi .ne v1175 c0_i32_1116
  let v1177 : BitVec 1 := Scalar.andi v1174 v1176
  let v1163 : BitVec 32 := Scalar.divsi v1162 c8_i32_1111
  let c1_i32_1117 : BitVec 32 := 1#32
  let v1178 : BitVec 32 := Scalar.subi v1163 c1_i32_1117
  let v1179 : BitVec 32 := Scalar.select v1177 v1178 v1163
  let c8_i32_1137 : BitVec 32 := 8#32
  let v1218 : BitVec 32 := Scalar.muli v1179 c8_i32_1137
  let c128_i32_1124 : BitVec 32 := 128#32
  let c0_i32_1125 : BitVec 32 := 0#32
  let v1191 : BitVec 1 := Scalar.cmpi .eq c128_i32_1124 c0_i32_1125
  let c1_i32_1126 : BitVec 32 := 1#32
  let v1192 : BitVec 32 := Scalar.select v1191 c1_i32_1126 c128_i32_1124
  let v1193 : BitVec 32 := Scalar.remsi v1145 v1192
  let c0_i32_1128 : BitVec 32 := 0#32
  let v1195 : BitVec 1 := Scalar.cmpi .slt v1193 c0_i32_1128
  let c0_i32_1129 : BitVec 32 := 0#32
  let v1196 : BitVec 1 := Scalar.cmpi .slt v1192 c0_i32_1129
  let v1197 : BitVec 1 := Scalar.xori v1195 v1196
  let c0_i32_1127 : BitVec 32 := 0#32
  let v1194 : BitVec 1 := Scalar.cmpi .ne v1193 c0_i32_1127
  let v1198 : BitVec 1 := Scalar.andi v1197 v1194
  let v1199 : BitVec 32 := Scalar.addi v1193 v1192
  let v1200 : BitVec 32 := Scalar.select v1198 v1199 v1193
  let c0_i32_1131 : BitVec 32 := 0#32
  let v1202 : BitVec 1 := Scalar.cmpi .sgt v1200 c0_i32_1131
  let v1203 : BitVec 32 := Scalar.extui v1202
  let c0_i32_1132 : BitVec 32 := 0#32
  let v1204 : BitVec 1 := Scalar.cmpi .slt v1200 c0_i32_1132
  let v1205 : BitVec 32 := Scalar.extui v1204
  let v1206 : BitVec 32 := Scalar.subi v1203 v1205
  let c16_i32_1130 : BitVec 32 := 16#32
  let c0_i32_1133 : BitVec 32 := 0#32
  let v1207 : BitVec 1 := Scalar.cmpi .sgt c16_i32_1130 c0_i32_1133
  let v1208 : BitVec 32 := Scalar.extui v1207
  let c0_i32_1134 : BitVec 32 := 0#32
  let v1209 : BitVec 1 := Scalar.cmpi .slt c16_i32_1130 c0_i32_1134
  let v1210 : BitVec 32 := Scalar.extui v1209
  let v1211 : BitVec 32 := Scalar.subi v1208 v1210
  let v1212 : BitVec 1 := Scalar.cmpi .ne v1206 v1211
  let v1213 : BitVec 32 := Scalar.remsi v1200 c16_i32_1130
  let c0_i32_1135 : BitVec 32 := 0#32
  let v1214 : BitVec 1 := Scalar.cmpi .ne v1213 c0_i32_1135
  let v1215 : BitVec 1 := Scalar.andi v1212 v1214
  let v1201 : BitVec 32 := Scalar.divsi v1200 c16_i32_1130
  let c1_i32_1136 : BitVec 32 := 1#32
  let v1216 : BitVec 32 := Scalar.subi v1201 c1_i32_1136
  let v1217 : BitVec 32 := Scalar.select v1215 v1216 v1201
  let v1219 : BitVec 32 := Scalar.addi v1218 v1217
  let v1220 : BitVec 32 := Scalar.addi v1219 c0_i32_1138
  let v1221 : Index := Scalar.indexCast v1220
  let c0_1139 : Index := 0#32
  let c0_1140 : Index := 0#32
  ![v1221.toNat, 0, 0]
def k0_off16 (k0_t2 : Fin k0_t2_loop.trips) (c0_i32_1145 : BitVec 32) : Fin 2 → Nat :=
  let c0_i32_1085 : BitVec 32 := 0#32
  let c1_i32_1086 : BitVec 32 := 1#32
  let arg14 : BitVec 32 := Scf.iv c0_i32_1085 c1_i32_1086 k0_t2
  let c32_i32 : BitVec 32 := 32#32
  let v1145 : BitVec 32 := Scalar.muli arg14 c32_i32
  let v1230 : BitVec 32 := Scalar.addi v1145 c0_i32_1145
  let v1233 : Index := Scalar.indexCast v1230
  let c0_1149 : Index := 0#32
  ![v1233.toNat, 0]
def k0_mult25 (k0_t2 : Fin k0_t2_loop.trips) : BitVec 32 :=
  let c0_i32_1085 : BitVec 32 := 0#32
  let c1_i32_1086 : BitVec 32 := 1#32
  let arg14 : BitVec 32 := Scf.iv c0_i32_1085 c1_i32_1086 k0_t2
  let c16_i32_1187 : BitVec 32 := 16#32
  let v1320 : BitVec 32 := Scalar.muli arg14 c16_i32_1187
  let c0_i32_1188 : BitVec 32 := 0#32
  let v1321 : BitVec 32 := Scalar.addi v1320 c0_i32_1188
  v1321
def k0_off17 (k0_t2 : Fin k0_t2_loop.trips) (c0_i32_1188 : BitVec 32) : Fin 3 → Nat :=
  let c0_1189 : Index := 0#32
  let c0_i32_1085 : BitVec 32 := 0#32
  let c1_i32_1086 : BitVec 32 := 1#32
  let arg14 : BitVec 32 := Scf.iv c0_i32_1085 c1_i32_1086 k0_t2
  let c16_i32_1187 : BitVec 32 := 16#32
  let v1320 : BitVec 32 := Scalar.muli arg14 c16_i32_1187
  let v1321 : BitVec 32 := Scalar.addi v1320 c0_i32_1188
  let v1322 : BitVec 32 := v1321
  let v1323 : Index := Scalar.indexCast v1322
  let c0_1190 : Index := 0#32
  ![0, v1323.toNat, 0]
def k0_mult26 (k0_t2 : Fin k0_t2_loop.trips) : BitVec 32 :=
  let c0_i32_1085 : BitVec 32 := 0#32
  let c1_i32_1086 : BitVec 32 := 1#32
  let arg14 : BitVec 32 := Scf.iv c0_i32_1085 c1_i32_1086 k0_t2
  let c16_i32_1193 : BitVec 32 := 16#32
  let v1341 : BitVec 32 := Scalar.muli arg14 c16_i32_1193
  let c8_i32_1194 : BitVec 32 := 8#32
  let v1342 : BitVec 32 := Scalar.addi v1341 c8_i32_1194
  v1342
def k0_mult27 (k0_t2 : Fin k0_t2_loop.trips) : BitVec 32 :=
  let c0_i32_1085 : BitVec 32 := 0#32
  let c1_i32_1086 : BitVec 32 := 1#32
  let arg14 : BitVec 32 := Scf.iv c0_i32_1085 c1_i32_1086 k0_t2
  let c16_i32_1201 : BitVec 32 := 16#32
  let v1368 : BitVec 32 := Scalar.muli arg14 c16_i32_1201
  let c0_i32_1202 : BitVec 32 := 0#32
  let v1369 : BitVec 32 := Scalar.addi v1368 c0_i32_1202
  v1369
def k0_off18 (k0_t2 : Fin k0_t2_loop.trips) (c0_i32_1202 : BitVec 32) : Fin 3 → Nat :=
  let c1_1203 : Index := 1#32
  let c0_i32_1085 : BitVec 32 := 0#32
  let c1_i32_1086 : BitVec 32 := 1#32
  let arg14 : BitVec 32 := Scf.iv c0_i32_1085 c1_i32_1086 k0_t2
  let c16_i32_1201 : BitVec 32 := 16#32
  let v1368 : BitVec 32 := Scalar.muli arg14 c16_i32_1201
  let v1369 : BitVec 32 := Scalar.addi v1368 c0_i32_1202
  let v1370 : BitVec 32 := v1369
  let v1371 : Index := Scalar.indexCast v1370
  let c0_1204 : Index := 0#32
  ![1, v1371.toNat, 0]
def k0_mult28 (k0_t2 : Fin k0_t2_loop.trips) : BitVec 32 :=
  let c0_i32_1085 : BitVec 32 := 0#32
  let c1_i32_1086 : BitVec 32 := 1#32
  let arg14 : BitVec 32 := Scf.iv c0_i32_1085 c1_i32_1086 k0_t2
  let c16_i32_1207 : BitVec 32 := 16#32
  let v1389 : BitVec 32 := Scalar.muli arg14 c16_i32_1207
  let c8_i32_1208 : BitVec 32 := 8#32
  let v1390 : BitVec 32 := Scalar.addi v1389 c8_i32_1208
  v1390
def k0_mult29 (k0_t2 : Fin k0_t2_loop.trips) : BitVec 32 :=
  let c0_i32_1085 : BitVec 32 := 0#32
  let c1_i32_1086 : BitVec 32 := 1#32
  let arg14 : BitVec 32 := Scf.iv c0_i32_1085 c1_i32_1086 k0_t2
  let c16_i32_1215 : BitVec 32 := 16#32
  let v1416 : BitVec 32 := Scalar.muli arg14 c16_i32_1215
  let c0_i32_1216 : BitVec 32 := 0#32
  let v1417 : BitVec 32 := Scalar.addi v1416 c0_i32_1216
  v1417
def k0_off19 (k0_t2 : Fin k0_t2_loop.trips) (c0_i32_1216 : BitVec 32) : Fin 3 → Nat :=
  let c2_1217 : Index := 2#32
  let c0_i32_1085 : BitVec 32 := 0#32
  let c1_i32_1086 : BitVec 32 := 1#32
  let arg14 : BitVec 32 := Scf.iv c0_i32_1085 c1_i32_1086 k0_t2
  let c16_i32_1215 : BitVec 32 := 16#32
  let v1416 : BitVec 32 := Scalar.muli arg14 c16_i32_1215
  let v1417 : BitVec 32 := Scalar.addi v1416 c0_i32_1216
  let v1418 : BitVec 32 := v1417
  let v1419 : Index := Scalar.indexCast v1418
  let c0_1218 : Index := 0#32
  ![2, v1419.toNat, 0]
def k0_mult30 (k0_t2 : Fin k0_t2_loop.trips) : BitVec 32 :=
  let c0_i32_1085 : BitVec 32 := 0#32
  let c1_i32_1086 : BitVec 32 := 1#32
  let arg14 : BitVec 32 := Scf.iv c0_i32_1085 c1_i32_1086 k0_t2
  let c16_i32_1221 : BitVec 32 := 16#32
  let v1437 : BitVec 32 := Scalar.muli arg14 c16_i32_1221
  let c8_i32_1222 : BitVec 32 := 8#32
  let v1438 : BitVec 32 := Scalar.addi v1437 c8_i32_1222
  v1438
def k0_mult31 (k0_t2 : Fin k0_t2_loop.trips) : BitVec 32 :=
  let c0_i32_1085 : BitVec 32 := 0#32
  let c1_i32_1086 : BitVec 32 := 1#32
  let arg14 : BitVec 32 := Scf.iv c0_i32_1085 c1_i32_1086 k0_t2
  let c16_i32_1229 : BitVec 32 := 16#32
  let v1464 : BitVec 32 := Scalar.muli arg14 c16_i32_1229
  let c0_i32_1230 : BitVec 32 := 0#32
  let v1465 : BitVec 32 := Scalar.addi v1464 c0_i32_1230
  v1465
def k0_off20 (k0_t2 : Fin k0_t2_loop.trips) (c0_i32_1230 : BitVec 32) : Fin 3 → Nat :=
  let c3_1231 : Index := 3#32
  let c0_i32_1085 : BitVec 32 := 0#32
  let c1_i32_1086 : BitVec 32 := 1#32
  let arg14 : BitVec 32 := Scf.iv c0_i32_1085 c1_i32_1086 k0_t2
  let c16_i32_1229 : BitVec 32 := 16#32
  let v1464 : BitVec 32 := Scalar.muli arg14 c16_i32_1229
  let v1465 : BitVec 32 := Scalar.addi v1464 c0_i32_1230
  let v1466 : BitVec 32 := v1465
  let v1467 : Index := Scalar.indexCast v1466
  let c0_1232 : Index := 0#32
  ![3, v1467.toNat, 0]
def k0_mult32 (k0_t2 : Fin k0_t2_loop.trips) : BitVec 32 :=
  let c0_i32_1085 : BitVec 32 := 0#32
  let c1_i32_1086 : BitVec 32 := 1#32
  let arg14 : BitVec 32 := Scf.iv c0_i32_1085 c1_i32_1086 k0_t2
  let c16_i32_1235 : BitVec 32 := 16#32
  let v1485 : BitVec 32 := Scalar.muli arg14 c16_i32_1235
  let c8_i32_1236 : BitVec 32 := 8#32
  let v1486 : BitVec 32 := Scalar.addi v1485 c8_i32_1236
  v1486
def k0_mult33 (k0_t2 : Fin k0_t2_loop.trips) : BitVec 32 :=
  let c0_i32_1085 : BitVec 32 := 0#32
  let c1_i32_1086 : BitVec 32 := 1#32
  let arg14 : BitVec 32 := Scf.iv c0_i32_1085 c1_i32_1086 k0_t2
  let c16_i32_1285 : BitVec 32 := 16#32
  let v1582 : BitVec 32 := Scalar.muli arg14 c16_i32_1285
  let c0_i32_1286 : BitVec 32 := 0#32
  let v1583 : BitVec 32 := Scalar.addi v1582 c0_i32_1286
  v1583
def k0_off21 (k0_t2 : Fin k0_t2_loop.trips) (c0_i32_1286 : BitVec 32) : Fin 3 → Nat :=
  let c4_1287 : Index := 4#32
  let c0_i32_1085 : BitVec 32 := 0#32
  let c1_i32_1086 : BitVec 32 := 1#32
  let arg14 : BitVec 32 := Scf.iv c0_i32_1085 c1_i32_1086 k0_t2
  let c16_i32_1285 : BitVec 32 := 16#32
  let v1582 : BitVec 32 := Scalar.muli arg14 c16_i32_1285
  let v1583 : BitVec 32 := Scalar.addi v1582 c0_i32_1286
  let v1584 : BitVec 32 := v1583
  let v1585 : Index := Scalar.indexCast v1584
  let c0_1288 : Index := 0#32
  ![4, v1585.toNat, 0]
def k0_mult34 (k0_t2 : Fin k0_t2_loop.trips) : BitVec 32 :=
  let c0_i32_1085 : BitVec 32 := 0#32
  let c1_i32_1086 : BitVec 32 := 1#32
  let arg14 : BitVec 32 := Scf.iv c0_i32_1085 c1_i32_1086 k0_t2
  let c16_i32_1291 : BitVec 32 := 16#32
  let v1603 : BitVec 32 := Scalar.muli arg14 c16_i32_1291
  let c8_i32_1292 : BitVec 32 := 8#32
  let v1604 : BitVec 32 := Scalar.addi v1603 c8_i32_1292
  v1604
def k0_mult35 (k0_t2 : Fin k0_t2_loop.trips) : BitVec 32 :=
  let c0_i32_1085 : BitVec 32 := 0#32
  let c1_i32_1086 : BitVec 32 := 1#32
  let arg14 : BitVec 32 := Scf.iv c0_i32_1085 c1_i32_1086 k0_t2
  let c16_i32_1299 : BitVec 32 := 16#32
  let v1630 : BitVec 32 := Scalar.muli arg14 c16_i32_1299
  let c0_i32_1300 : BitVec 32 := 0#32
  let v1631 : BitVec 32 := Scalar.addi v1630 c0_i32_1300
  v1631
def k0_off22 (k0_t2 : Fin k0_t2_loop.trips) (c0_i32_1300 : BitVec 32) : Fin 3 → Nat :=
  let c5_1301 : Index := 5#32
  let c0_i32_1085 : BitVec 32 := 0#32
  let c1_i32_1086 : BitVec 32 := 1#32
  let arg14 : BitVec 32 := Scf.iv c0_i32_1085 c1_i32_1086 k0_t2
  let c16_i32_1299 : BitVec 32 := 16#32
  let v1630 : BitVec 32 := Scalar.muli arg14 c16_i32_1299
  let v1631 : BitVec 32 := Scalar.addi v1630 c0_i32_1300
  let v1632 : BitVec 32 := v1631
  let v1633 : Index := Scalar.indexCast v1632
  let c0_1302 : Index := 0#32
  ![5, v1633.toNat, 0]
def k0_mult36 (k0_t2 : Fin k0_t2_loop.trips) : BitVec 32 :=
  let c0_i32_1085 : BitVec 32 := 0#32
  let c1_i32_1086 : BitVec 32 := 1#32
  let arg14 : BitVec 32 := Scf.iv c0_i32_1085 c1_i32_1086 k0_t2
  let c16_i32_1305 : BitVec 32 := 16#32
  let v1651 : BitVec 32 := Scalar.muli arg14 c16_i32_1305
  let c8_i32_1306 : BitVec 32 := 8#32
  let v1652 : BitVec 32 := Scalar.addi v1651 c8_i32_1306
  v1652
def k0_mult37 (k0_t2 : Fin k0_t2_loop.trips) : BitVec 32 :=
  let c0_i32_1085 : BitVec 32 := 0#32
  let c1_i32_1086 : BitVec 32 := 1#32
  let arg14 : BitVec 32 := Scf.iv c0_i32_1085 c1_i32_1086 k0_t2
  let c16_i32_1313 : BitVec 32 := 16#32
  let v1678 : BitVec 32 := Scalar.muli arg14 c16_i32_1313
  let c0_i32_1314 : BitVec 32 := 0#32
  let v1679 : BitVec 32 := Scalar.addi v1678 c0_i32_1314
  v1679
def k0_off23 (k0_t2 : Fin k0_t2_loop.trips) (c0_i32_1314 : BitVec 32) : Fin 3 → Nat :=
  let c6_1315 : Index := 6#32
  let c0_i32_1085 : BitVec 32 := 0#32
  let c1_i32_1086 : BitVec 32 := 1#32
  let arg14 : BitVec 32 := Scf.iv c0_i32_1085 c1_i32_1086 k0_t2
  let c16_i32_1313 : BitVec 32 := 16#32
  let v1678 : BitVec 32 := Scalar.muli arg14 c16_i32_1313
  let v1679 : BitVec 32 := Scalar.addi v1678 c0_i32_1314
  let v1680 : BitVec 32 := v1679
  let v1681 : Index := Scalar.indexCast v1680
  let c0_1316 : Index := 0#32
  ![6, v1681.toNat, 0]
def k0_mult38 (k0_t2 : Fin k0_t2_loop.trips) : BitVec 32 :=
  let c0_i32_1085 : BitVec 32 := 0#32
  let c1_i32_1086 : BitVec 32 := 1#32
  let arg14 : BitVec 32 := Scf.iv c0_i32_1085 c1_i32_1086 k0_t2
  let c16_i32_1319 : BitVec 32 := 16#32
  let v1699 : BitVec 32 := Scalar.muli arg14 c16_i32_1319
  let c8_i32_1320 : BitVec 32 := 8#32
  let v1700 : BitVec 32 := Scalar.addi v1699 c8_i32_1320
  v1700
def k0_mult39 (k0_t2 : Fin k0_t2_loop.trips) : BitVec 32 :=
  let c0_i32_1085 : BitVec 32 := 0#32
  let c1_i32_1086 : BitVec 32 := 1#32
  let arg14 : BitVec 32 := Scf.iv c0_i32_1085 c1_i32_1086 k0_t2
  let c16_i32_1327 : BitVec 32 := 16#32
  let v1726 : BitVec 32 := Scalar.muli arg14 c16_i32_1327
  let c0_i32_1328 : BitVec 32 := 0#32
  let v1727 : BitVec 32 := Scalar.addi v1726 c0_i32_1328
  v1727
def k0_off24 (k0_t2 : Fin k0_t2_loop.trips) (c0_i32_1328 : BitVec 32) : Fin 3 → Nat :=
  let c7_1329 : Index := 7#32
  let c0_i32_1085 : BitVec 32 := 0#32
  let c1_i32_1086 : BitVec 32 := 1#32
  let arg14 : BitVec 32 := Scf.iv c0_i32_1085 c1_i32_1086 k0_t2
  let c16_i32_1327 : BitVec 32 := 16#32
  let v1726 : BitVec 32 := Scalar.muli arg14 c16_i32_1327
  let v1727 : BitVec 32 := Scalar.addi v1726 c0_i32_1328
  let v1728 : BitVec 32 := v1727
  let v1729 : Index := Scalar.indexCast v1728
  let c0_1330 : Index := 0#32
  ![7, v1729.toNat, 0]
def k0_mult40 (k0_t2 : Fin k0_t2_loop.trips) : BitVec 32 :=
  let c0_i32_1085 : BitVec 32 := 0#32
  let c1_i32_1086 : BitVec 32 := 1#32
  let arg14 : BitVec 32 := Scf.iv c0_i32_1085 c1_i32_1086 k0_t2
  let c16_i32_1333 : BitVec 32 := 16#32
  let v1747 : BitVec 32 := Scalar.muli arg14 c16_i32_1333
  let c8_i32_1334 : BitVec 32 := 8#32
  let v1748 : BitVec 32 := Scalar.addi v1747 c8_i32_1334
  v1748
def k0_mult41 (k0_t2 : Fin k0_t2_loop.trips) : BitVec 32 :=
  let c0_i32_1085 : BitVec 32 := 0#32
  let c1_i32_1086 : BitVec 32 := 1#32
  let arg14 : BitVec 32 := Scf.iv c0_i32_1085 c1_i32_1086 k0_t2
  let c16_i32_1383 : BitVec 32 := 16#32
  let v1844 : BitVec 32 := Scalar.muli arg14 c16_i32_1383
  let c0_i32_1384 : BitVec 32 := 0#32
  let v1845 : BitVec 32 := Scalar.addi v1844 c0_i32_1384
  v1845
def k0_off25 (k0_t2 : Fin k0_t2_loop.trips) (c0_i32_1384 : BitVec 32) : Fin 3 → Nat :=
  let c8_1385 : Index := 8#32
  let c0_i32_1085 : BitVec 32 := 0#32
  let c1_i32_1086 : BitVec 32 := 1#32
  let arg14 : BitVec 32 := Scf.iv c0_i32_1085 c1_i32_1086 k0_t2
  let c16_i32_1383 : BitVec 32 := 16#32
  let v1844 : BitVec 32 := Scalar.muli arg14 c16_i32_1383
  let v1845 : BitVec 32 := Scalar.addi v1844 c0_i32_1384
  let v1846 : BitVec 32 := v1845
  let v1847 : Index := Scalar.indexCast v1846
  let c0_1386 : Index := 0#32
  ![8, v1847.toNat, 0]
def k0_mult42 (k0_t2 : Fin k0_t2_loop.trips) : BitVec 32 :=
  let c0_i32_1085 : BitVec 32 := 0#32
  let c1_i32_1086 : BitVec 32 := 1#32
  let arg14 : BitVec 32 := Scf.iv c0_i32_1085 c1_i32_1086 k0_t2
  let c16_i32_1389 : BitVec 32 := 16#32
  let v1865 : BitVec 32 := Scalar.muli arg14 c16_i32_1389
  let c8_i32_1390 : BitVec 32 := 8#32
  let v1866 : BitVec 32 := Scalar.addi v1865 c8_i32_1390
  v1866
def k0_mult43 (k0_t2 : Fin k0_t2_loop.trips) : BitVec 32 :=
  let c0_i32_1085 : BitVec 32 := 0#32
  let c1_i32_1086 : BitVec 32 := 1#32
  let arg14 : BitVec 32 := Scf.iv c0_i32_1085 c1_i32_1086 k0_t2
  let c16_i32_1397 : BitVec 32 := 16#32
  let v1892 : BitVec 32 := Scalar.muli arg14 c16_i32_1397
  let c0_i32_1398 : BitVec 32 := 0#32
  let v1893 : BitVec 32 := Scalar.addi v1892 c0_i32_1398
  v1893
def k0_off26 (k0_t2 : Fin k0_t2_loop.trips) (c0_i32_1398 : BitVec 32) : Fin 3 → Nat :=
  let c9_1399 : Index := 9#32
  let c0_i32_1085 : BitVec 32 := 0#32
  let c1_i32_1086 : BitVec 32 := 1#32
  let arg14 : BitVec 32 := Scf.iv c0_i32_1085 c1_i32_1086 k0_t2
  let c16_i32_1397 : BitVec 32 := 16#32
  let v1892 : BitVec 32 := Scalar.muli arg14 c16_i32_1397
  let v1893 : BitVec 32 := Scalar.addi v1892 c0_i32_1398
  let v1894 : BitVec 32 := v1893
  let v1895 : Index := Scalar.indexCast v1894
  let c0_1400 : Index := 0#32
  ![9, v1895.toNat, 0]
def k0_mult44 (k0_t2 : Fin k0_t2_loop.trips) : BitVec 32 :=
  let c0_i32_1085 : BitVec 32 := 0#32
  let c1_i32_1086 : BitVec 32 := 1#32
  let arg14 : BitVec 32 := Scf.iv c0_i32_1085 c1_i32_1086 k0_t2
  let c16_i32_1403 : BitVec 32 := 16#32
  let v1913 : BitVec 32 := Scalar.muli arg14 c16_i32_1403
  let c8_i32_1404 : BitVec 32 := 8#32
  let v1914 : BitVec 32 := Scalar.addi v1913 c8_i32_1404
  v1914
def k0_mult45 (k0_t2 : Fin k0_t2_loop.trips) : BitVec 32 :=
  let c0_i32_1085 : BitVec 32 := 0#32
  let c1_i32_1086 : BitVec 32 := 1#32
  let arg14 : BitVec 32 := Scf.iv c0_i32_1085 c1_i32_1086 k0_t2
  let c16_i32_1411 : BitVec 32 := 16#32
  let v1940 : BitVec 32 := Scalar.muli arg14 c16_i32_1411
  let c0_i32_1412 : BitVec 32 := 0#32
  let v1941 : BitVec 32 := Scalar.addi v1940 c0_i32_1412
  v1941
def k0_off27 (k0_t2 : Fin k0_t2_loop.trips) (c0_i32_1412 : BitVec 32) : Fin 3 → Nat :=
  let c10_1413 : Index := 10#32
  let c0_i32_1085 : BitVec 32 := 0#32
  let c1_i32_1086 : BitVec 32 := 1#32
  let arg14 : BitVec 32 := Scf.iv c0_i32_1085 c1_i32_1086 k0_t2
  let c16_i32_1411 : BitVec 32 := 16#32
  let v1940 : BitVec 32 := Scalar.muli arg14 c16_i32_1411
  let v1941 : BitVec 32 := Scalar.addi v1940 c0_i32_1412
  let v1942 : BitVec 32 := v1941
  let v1943 : Index := Scalar.indexCast v1942
  let c0_1414 : Index := 0#32
  ![10, v1943.toNat, 0]
def k0_mult46 (k0_t2 : Fin k0_t2_loop.trips) : BitVec 32 :=
  let c0_i32_1085 : BitVec 32 := 0#32
  let c1_i32_1086 : BitVec 32 := 1#32
  let arg14 : BitVec 32 := Scf.iv c0_i32_1085 c1_i32_1086 k0_t2
  let c16_i32_1417 : BitVec 32 := 16#32
  let v1961 : BitVec 32 := Scalar.muli arg14 c16_i32_1417
  let c8_i32_1418 : BitVec 32 := 8#32
  let v1962 : BitVec 32 := Scalar.addi v1961 c8_i32_1418
  v1962
def k0_mult47 (k0_t2 : Fin k0_t2_loop.trips) : BitVec 32 :=
  let c0_i32_1085 : BitVec 32 := 0#32
  let c1_i32_1086 : BitVec 32 := 1#32
  let arg14 : BitVec 32 := Scf.iv c0_i32_1085 c1_i32_1086 k0_t2
  let c16_i32_1425 : BitVec 32 := 16#32
  let v1988 : BitVec 32 := Scalar.muli arg14 c16_i32_1425
  let c0_i32_1426 : BitVec 32 := 0#32
  let v1989 : BitVec 32 := Scalar.addi v1988 c0_i32_1426
  v1989
def k0_off28 (k0_t2 : Fin k0_t2_loop.trips) (c0_i32_1426 : BitVec 32) : Fin 3 → Nat :=
  let c11_1427 : Index := 11#32
  let c0_i32_1085 : BitVec 32 := 0#32
  let c1_i32_1086 : BitVec 32 := 1#32
  let arg14 : BitVec 32 := Scf.iv c0_i32_1085 c1_i32_1086 k0_t2
  let c16_i32_1425 : BitVec 32 := 16#32
  let v1988 : BitVec 32 := Scalar.muli arg14 c16_i32_1425
  let v1989 : BitVec 32 := Scalar.addi v1988 c0_i32_1426
  let v1990 : BitVec 32 := v1989
  let v1991 : Index := Scalar.indexCast v1990
  let c0_1428 : Index := 0#32
  ![11, v1991.toNat, 0]
def k0_mult48 (k0_t2 : Fin k0_t2_loop.trips) : BitVec 32 :=
  let c0_i32_1085 : BitVec 32 := 0#32
  let c1_i32_1086 : BitVec 32 := 1#32
  let arg14 : BitVec 32 := Scf.iv c0_i32_1085 c1_i32_1086 k0_t2
  let c16_i32_1431 : BitVec 32 := 16#32
  let v2009 : BitVec 32 := Scalar.muli arg14 c16_i32_1431
  let c8_i32_1432 : BitVec 32 := 8#32
  let v2010 : BitVec 32 := Scalar.addi v2009 c8_i32_1432
  v2010
@[reducible] def k0_t3_loop : Scf.Loop 32 :=
  let c0_i32_1088 : BitVec 32 := 0#32
  let c5_i32_1089 : BitVec 32 := 5#32
  let v1134 : BitVec 32 := Scalar.addi c0_i32_1088 c5_i32_1089
  let c1_i32_1090 : BitVec 32 := 1#32
  ⟨c0_i32_1088, v1134, c1_i32_1090⟩
def k0_mult49 (k0_t3 : Fin k0_t3_loop.trips) : BitVec 32 :=
  let c0_i32_1088 : BitVec 32 := 0#32
  let c1_i32_1090 : BitVec 32 := 1#32
  let arg14 : BitVec 32 := Scf.iv c0_i32_1088 c1_i32_1090 k0_t3
  let c256_i32_1104 : BitVec 32 := 256#32
  let v1145 : BitVec 32 := Scalar.muli arg14 c256_i32_1104
  v1145
def k0_off29 (k0_t3 : Fin k0_t3_loop.trips) : Fin 3 → Nat :=
  let c0_1105 : Index := 0#32
  let c0_i32_1088 : BitVec 32 := 0#32
  let c1_i32_1090 : BitVec 32 := 1#32
  let arg14 : BitVec 32 := Scf.iv c0_i32_1088 c1_i32_1090 k0_t3
  let c256_i32_1104 : BitVec 32 := 256#32
  let v1145 : BitVec 32 := Scalar.muli arg14 c256_i32_1104
  let v1146 : BitVec 32 := v1145
  let v1147 : Index := Scalar.indexCast v1146
  let c0_1106 : Index := 0#32
  ![0, v1147.toNat, 0]
def k0_mult50 (k0_t3 : Fin k0_t3_loop.trips) : BitVec 32 :=
  let c0_i32_1088 : BitVec 32 := 0#32
  let c1_i32_1090 : BitVec 32 := 1#32
  let arg14 : BitVec 32 := Scf.iv c0_i32_1088 c1_i32_1090 k0_t3
  let c256_i32_1107 : BitVec 32 := 256#32
  let v1151 : BitVec 32 := Scalar.muli arg14 c256_i32_1107
  v1151
def k0_off30 (k0_t3 : Fin k0_t3_loop.trips) : Fin 3 → Nat :=
  let c1_1108 : Index := 1#32
  let c0_i32_1088 : BitVec 32 := 0#32
  let c1_i32_1090 : BitVec 32 := 1#32
  let arg14 : BitVec 32 := Scf.iv c0_i32_1088 c1_i32_1090 k0_t3
  let c256_i32_1107 : BitVec 32 := 256#32
  let v1151 : BitVec 32 := Scalar.muli arg14 c256_i32_1107
  let v1152 : BitVec 32 := v1151
  let v1153 : Index := Scalar.indexCast v1152
  let c0_1109 : Index := 0#32
  ![1, v1153.toNat, 0]
def k0_mult51 (k0_t3 : Fin k0_t3_loop.trips) : BitVec 32 :=
  let c0_i32_1088 : BitVec 32 := 0#32
  let c1_i32_1090 : BitVec 32 := 1#32
  let arg14 : BitVec 32 := Scf.iv c0_i32_1088 c1_i32_1090 k0_t3
  let c256_i32_1110 : BitVec 32 := 256#32
  let v1157 : BitVec 32 := Scalar.muli arg14 c256_i32_1110
  v1157
def k0_off31 (k0_t3 : Fin k0_t3_loop.trips) : Fin 3 → Nat :=
  let c2_1111 : Index := 2#32
  let c0_i32_1088 : BitVec 32 := 0#32
  let c1_i32_1090 : BitVec 32 := 1#32
  let arg14 : BitVec 32 := Scf.iv c0_i32_1088 c1_i32_1090 k0_t3
  let c256_i32_1110 : BitVec 32 := 256#32
  let v1157 : BitVec 32 := Scalar.muli arg14 c256_i32_1110
  let v1158 : BitVec 32 := v1157
  let v1159 : Index := Scalar.indexCast v1158
  let c0_1112 : Index := 0#32
  ![2, v1159.toNat, 0]
def k0_mult52 (k0_t3 : Fin k0_t3_loop.trips) : BitVec 32 :=
  let c0_i32_1088 : BitVec 32 := 0#32
  let c1_i32_1090 : BitVec 32 := 1#32
  let arg14 : BitVec 32 := Scf.iv c0_i32_1088 c1_i32_1090 k0_t3
  let c256_i32_1113 : BitVec 32 := 256#32
  let v1163 : BitVec 32 := Scalar.muli arg14 c256_i32_1113
  v1163
def k0_off32 (k0_t3 : Fin k0_t3_loop.trips) : Fin 3 → Nat :=
  let c3_1114 : Index := 3#32
  let c0_i32_1088 : BitVec 32 := 0#32
  let c1_i32_1090 : BitVec 32 := 1#32
  let arg14 : BitVec 32 := Scf.iv c0_i32_1088 c1_i32_1090 k0_t3
  let c256_i32_1113 : BitVec 32 := 256#32
  let v1163 : BitVec 32 := Scalar.muli arg14 c256_i32_1113
  let v1164 : BitVec 32 := v1163
  let v1165 : Index := Scalar.indexCast v1164
  let c0_1115 : Index := 0#32
  ![3, v1165.toNat, 0]
def k0_mult53 (k0_t3 : Fin k0_t3_loop.trips) : BitVec 32 :=
  let c0_i32_1088 : BitVec 32 := 0#32
  let c1_i32_1090 : BitVec 32 := 1#32
  let arg14 : BitVec 32 := Scf.iv c0_i32_1088 c1_i32_1090 k0_t3
  let c256_i32_1116 : BitVec 32 := 256#32
  let v1169 : BitVec 32 := Scalar.muli arg14 c256_i32_1116
  v1169
def k0_off33 (k0_t3 : Fin k0_t3_loop.trips) : Fin 3 → Nat :=
  let c4_1117 : Index := 4#32
  let c0_i32_1088 : BitVec 32 := 0#32
  let c1_i32_1090 : BitVec 32 := 1#32
  let arg14 : BitVec 32 := Scf.iv c0_i32_1088 c1_i32_1090 k0_t3
  let c256_i32_1116 : BitVec 32 := 256#32
  let v1169 : BitVec 32 := Scalar.muli arg14 c256_i32_1116
  let v1170 : BitVec 32 := v1169
  let v1171 : Index := Scalar.indexCast v1170
  let c0_1118 : Index := 0#32
  ![4, v1171.toNat, 0]
def k0_mult54 (k0_t3 : Fin k0_t3_loop.trips) : BitVec 32 :=
  let c0_i32_1088 : BitVec 32 := 0#32
  let c1_i32_1090 : BitVec 32 := 1#32
  let arg14 : BitVec 32 := Scf.iv c0_i32_1088 c1_i32_1090 k0_t3
  let c256_i32_1119 : BitVec 32 := 256#32
  let v1175 : BitVec 32 := Scalar.muli arg14 c256_i32_1119
  v1175
def k0_off34 (k0_t3 : Fin k0_t3_loop.trips) : Fin 3 → Nat :=
  let c5_1120 : Index := 5#32
  let c0_i32_1088 : BitVec 32 := 0#32
  let c1_i32_1090 : BitVec 32 := 1#32
  let arg14 : BitVec 32 := Scf.iv c0_i32_1088 c1_i32_1090 k0_t3
  let c256_i32_1119 : BitVec 32 := 256#32
  let v1175 : BitVec 32 := Scalar.muli arg14 c256_i32_1119
  let v1176 : BitVec 32 := v1175
  let v1177 : Index := Scalar.indexCast v1176
  let c0_1121 : Index := 0#32
  ![5, v1177.toNat, 0]
def k0_mult55 (k0_t3 : Fin k0_t3_loop.trips) : BitVec 32 :=
  let c0_i32_1088 : BitVec 32 := 0#32
  let c1_i32_1090 : BitVec 32 := 1#32
  let arg14 : BitVec 32 := Scf.iv c0_i32_1088 c1_i32_1090 k0_t3
  let c256_i32_1122 : BitVec 32 := 256#32
  let v1181 : BitVec 32 := Scalar.muli arg14 c256_i32_1122
  v1181
def k0_off35 (k0_t3 : Fin k0_t3_loop.trips) : Fin 3 → Nat :=
  let c6_1123 : Index := 6#32
  let c0_i32_1088 : BitVec 32 := 0#32
  let c1_i32_1090 : BitVec 32 := 1#32
  let arg14 : BitVec 32 := Scf.iv c0_i32_1088 c1_i32_1090 k0_t3
  let c256_i32_1122 : BitVec 32 := 256#32
  let v1181 : BitVec 32 := Scalar.muli arg14 c256_i32_1122
  let v1182 : BitVec 32 := v1181
  let v1183 : Index := Scalar.indexCast v1182
  let c0_1124 : Index := 0#32
  ![6, v1183.toNat, 0]
def k0_mult56 (k0_t3 : Fin k0_t3_loop.trips) : BitVec 32 :=
  let c0_i32_1088 : BitVec 32 := 0#32
  let c1_i32_1090 : BitVec 32 := 1#32
  let arg14 : BitVec 32 := Scf.iv c0_i32_1088 c1_i32_1090 k0_t3
  let c256_i32_1125 : BitVec 32 := 256#32
  let v1187 : BitVec 32 := Scalar.muli arg14 c256_i32_1125
  v1187
def k0_off36 (k0_t3 : Fin k0_t3_loop.trips) : Fin 3 → Nat :=
  let c7_1126 : Index := 7#32
  let c0_i32_1088 : BitVec 32 := 0#32
  let c1_i32_1090 : BitVec 32 := 1#32
  let arg14 : BitVec 32 := Scf.iv c0_i32_1088 c1_i32_1090 k0_t3
  let c256_i32_1125 : BitVec 32 := 256#32
  let v1187 : BitVec 32 := Scalar.muli arg14 c256_i32_1125
  let v1188 : BitVec 32 := v1187
  let v1189 : Index := Scalar.indexCast v1188
  let c0_1127 : Index := 0#32
  ![7, v1189.toNat, 0]
def k0_mult57 (k0_t3 : Fin k0_t3_loop.trips) : BitVec 32 :=
  let c0_i32_1088 : BitVec 32 := 0#32
  let c1_i32_1090 : BitVec 32 := 1#32
  let arg14 : BitVec 32 := Scf.iv c0_i32_1088 c1_i32_1090 k0_t3
  let c256_i32_1128 : BitVec 32 := 256#32
  let v1193 : BitVec 32 := Scalar.muli arg14 c256_i32_1128
  v1193
def k0_off37 (k0_t3 : Fin k0_t3_loop.trips) : Fin 3 → Nat :=
  let c8_1129 : Index := 8#32
  let c0_i32_1088 : BitVec 32 := 0#32
  let c1_i32_1090 : BitVec 32 := 1#32
  let arg14 : BitVec 32 := Scf.iv c0_i32_1088 c1_i32_1090 k0_t3
  let c256_i32_1128 : BitVec 32 := 256#32
  let v1193 : BitVec 32 := Scalar.muli arg14 c256_i32_1128
  let v1194 : BitVec 32 := v1193
  let v1195 : Index := Scalar.indexCast v1194
  let c0_1130 : Index := 0#32
  ![8, v1195.toNat, 0]
def k0_mult58 (k0_t3 : Fin k0_t3_loop.trips) : BitVec 32 :=
  let c0_i32_1088 : BitVec 32 := 0#32
  let c1_i32_1090 : BitVec 32 := 1#32
  let arg14 : BitVec 32 := Scf.iv c0_i32_1088 c1_i32_1090 k0_t3
  let c256_i32_1131 : BitVec 32 := 256#32
  let v1199 : BitVec 32 := Scalar.muli arg14 c256_i32_1131
  v1199
def k0_off38 (k0_t3 : Fin k0_t3_loop.trips) : Fin 3 → Nat :=
  let c9_1132 : Index := 9#32
  let c0_i32_1088 : BitVec 32 := 0#32
  let c1_i32_1090 : BitVec 32 := 1#32
  let arg14 : BitVec 32 := Scf.iv c0_i32_1088 c1_i32_1090 k0_t3
  let c256_i32_1131 : BitVec 32 := 256#32
  let v1199 : BitVec 32 := Scalar.muli arg14 c256_i32_1131
  let v1200 : BitVec 32 := v1199
  let v1201 : Index := Scalar.indexCast v1200
  let c0_1133 : Index := 0#32
  ![9, v1201.toNat, 0]
def k0_mult59 (k0_t3 : Fin k0_t3_loop.trips) : BitVec 32 :=
  let c0_i32_1088 : BitVec 32 := 0#32
  let c1_i32_1090 : BitVec 32 := 1#32
  let arg14 : BitVec 32 := Scf.iv c0_i32_1088 c1_i32_1090 k0_t3
  let c256_i32_1134 : BitVec 32 := 256#32
  let v1205 : BitVec 32 := Scalar.muli arg14 c256_i32_1134
  v1205
def k0_off39 (k0_t3 : Fin k0_t3_loop.trips) : Fin 3 → Nat :=
  let c10_1135 : Index := 10#32
  let c0_i32_1088 : BitVec 32 := 0#32
  let c1_i32_1090 : BitVec 32 := 1#32
  let arg14 : BitVec 32 := Scf.iv c0_i32_1088 c1_i32_1090 k0_t3
  let c256_i32_1134 : BitVec 32 := 256#32
  let v1205 : BitVec 32 := Scalar.muli arg14 c256_i32_1134
  let v1206 : BitVec 32 := v1205
  let v1207 : Index := Scalar.indexCast v1206
  let c0_1136 : Index := 0#32
  ![10, v1207.toNat, 0]
def k0_mult60 (k0_t3 : Fin k0_t3_loop.trips) : BitVec 32 :=
  let c0_i32_1088 : BitVec 32 := 0#32
  let c1_i32_1090 : BitVec 32 := 1#32
  let arg14 : BitVec 32 := Scf.iv c0_i32_1088 c1_i32_1090 k0_t3
  let c256_i32_1137 : BitVec 32 := 256#32
  let v1211 : BitVec 32 := Scalar.muli arg14 c256_i32_1137
  v1211
def k0_off40 (k0_t3 : Fin k0_t3_loop.trips) : Fin 3 → Nat :=
  let c11_1138 : Index := 11#32
  let c0_i32_1088 : BitVec 32 := 0#32
  let c1_i32_1090 : BitVec 32 := 1#32
  let arg14 : BitVec 32 := Scf.iv c0_i32_1088 c1_i32_1090 k0_t3
  let c256_i32_1137 : BitVec 32 := 256#32
  let v1211 : BitVec 32 := Scalar.muli arg14 c256_i32_1137
  let v1212 : BitVec 32 := v1211
  let v1213 : Index := Scalar.indexCast v1212
  let c0_1139 : Index := 0#32
  ![11, v1213.toNat, 0]
def k0_cond1 (k0_t3 : Fin k0_t3_loop.trips) : BitVec 1 :=
  let c0_i32_1088 : BitVec 32 := 0#32
  let c1_i32_1090 : BitVec 32 := 1#32
  let arg14 : BitVec 32 := Scf.iv c0_i32_1088 c1_i32_1090 k0_t3
  let c7_i32_1176 : BitVec 32 := 7#32
  let v1255 : BitVec 32 := Scalar.muli arg14 c7_i32_1176
  let c0_i32_1177 : BitVec 32 := 0#32
  let v1256 : BitVec 32 := Scalar.addi v1255 c0_i32_1177
  let c2_i32_1178 : BitVec 32 := 2#32
  let v1257 : BitVec 1 := Scalar.cmpi .sge v1256 c2_i32_1178
  let v1258 : BitVec 32 := Scalar.extui v1257
  let c0_i32_1179 : BitVec 32 := 0#32
  let v1259 : BitVec 1 := Scalar.cmpi .ne v1258 c0_i32_1179
  v1259

def k0_off41 (k0_t3 : Fin k0_t3_loop.trips) : Fin 2 → Nat :=
  let c0_i32_1088 : BitVec 32 := 0#32
  let c1_i32_1090 : BitVec 32 := 1#32
  let arg14 : BitVec 32 := Scf.iv c0_i32_1088 c1_i32_1090 k0_t3
  let c512_i32_1490 : BitVec 32 := 512#32
  let v1582 : BitVec 32 := Scalar.muli arg14 c512_i32_1490
  let c0_i32_1493 : BitVec 32 := 0#32
  ![v1582.toNat, 0]
def k0_off42 (k0_t3 : Fin k0_t3_loop.trips) : Fin 2 → Nat :=
  let c0_i32_1088 : BitVec 32 := 0#32
  let c1_i32_1090 : BitVec 32 := 1#32
  let arg14 : BitVec 32 := Scf.iv c0_i32_1088 c1_i32_1090 k0_t3
  let c512_i32_1184 : BitVec 32 := 512#32
  let v1264 : BitVec 32 := Scalar.muli arg14 c512_i32_1184
  let c0_i32_1187 : BitVec 32 := 0#32
  ![v1264.toNat, 0]
def k0_cond2 (k0_t3 : Fin k0_t3_loop.trips) : BitVec 1 :=
  let c0_i32_1088 : BitVec 32 := 0#32
  let c1_i32_1090 : BitVec 32 := 1#32
  let arg14 : BitVec 32 := Scf.iv c0_i32_1088 c1_i32_1090 k0_t3
  let c7_i32_1226 : BitVec 32 := 7#32
  let v1307 : BitVec 32 := Scalar.muli arg14 c7_i32_1226
  let c1_i32_1227 : BitVec 32 := 1#32
  let v1308 : BitVec 32 := Scalar.addi v1307 c1_i32_1227
  let c2_i32_1228 : BitVec 32 := 2#32
  let v1309 : BitVec 1 := Scalar.cmpi .sge v1308 c2_i32_1228
  let v1310 : BitVec 32 := Scalar.extui v1309
  let c0_i32_1229 : BitVec 32 := 0#32
  let v1311 : BitVec 1 := Scalar.cmpi .ne v1310 c0_i32_1229
  v1311

def k0_off43 (k0_t3 : Fin k0_t3_loop.trips) : Fin 2 → Nat :=
  let c0_i32_1088 : BitVec 32 := 0#32
  let c1_i32_1090 : BitVec 32 := 1#32
  let arg14 : BitVec 32 := Scf.iv c0_i32_1088 c1_i32_1090 k0_t3
  let c512_i32_1490 : BitVec 32 := 512#32
  let v1582 : BitVec 32 := Scalar.muli arg14 c512_i32_1490
  let c512_i32_1493 : BitVec 32 := 512#32
  ![v1582.toNat, 512]
def k0_off44 (k0_t3 : Fin k0_t3_loop.trips) : Fin 2 → Nat :=
  let c0_i32_1088 : BitVec 32 := 0#32
  let c1_i32_1090 : BitVec 32 := 1#32
  let arg14 : BitVec 32 := Scf.iv c0_i32_1088 c1_i32_1090 k0_t3
  let c512_i32_1234 : BitVec 32 := 512#32
  let v1316 : BitVec 32 := Scalar.muli arg14 c512_i32_1234
  let c512_i32_1237 : BitVec 32 := 512#32
  ![v1316.toNat, 512]
def k0_cond3 (k0_t3 : Fin k0_t3_loop.trips) : BitVec 1 :=
  let c0_i32_1088 : BitVec 32 := 0#32
  let c1_i32_1090 : BitVec 32 := 1#32
  let arg14 : BitVec 32 := Scf.iv c0_i32_1088 c1_i32_1090 k0_t3
  let c7_i32_1276 : BitVec 32 := 7#32
  let v1359 : BitVec 32 := Scalar.muli arg14 c7_i32_1276
  let c2_i32_1277 : BitVec 32 := 2#32
  let v1360 : BitVec 32 := Scalar.addi v1359 c2_i32_1277
  let c2_i32_1278 : BitVec 32 := 2#32
  let v1361 : BitVec 1 := Scalar.cmpi .sge v1360 c2_i32_1278
  let v1362 : BitVec 32 := Scalar.extui v1361
  let c0_i32_1279 : BitVec 32 := 0#32
  let v1363 : BitVec 1 := Scalar.cmpi .ne v1362 c0_i32_1279
  v1363

def k0_off45 (k0_t3 : Fin k0_t3_loop.trips) : Fin 2 → Nat :=
  let c0_i32_1088 : BitVec 32 := 0#32
  let c1_i32_1090 : BitVec 32 := 1#32
  let arg14 : BitVec 32 := Scf.iv c0_i32_1088 c1_i32_1090 k0_t3
  let c512_i32_1490 : BitVec 32 := 512#32
  let v1582 : BitVec 32 := Scalar.muli arg14 c512_i32_1490
  let c1024_i32_1493 : BitVec 32 := 1024#32
  ![v1582.toNat, 1024]
def k0_off46 (k0_t3 : Fin k0_t3_loop.trips) : Fin 2 → Nat :=
  let c0_i32_1088 : BitVec 32 := 0#32
  let c1_i32_1090 : BitVec 32 := 1#32
  let arg14 : BitVec 32 := Scf.iv c0_i32_1088 c1_i32_1090 k0_t3
  let c512_i32_1284 : BitVec 32 := 512#32
  let v1368 : BitVec 32 := Scalar.muli arg14 c512_i32_1284
  let c1024_i32_1287 : BitVec 32 := 1024#32
  ![v1368.toNat, 1024]
def k0_cond4 (k0_t3 : Fin k0_t3_loop.trips) : BitVec 1 :=
  let c0_i32_1088 : BitVec 32 := 0#32
  let c1_i32_1090 : BitVec 32 := 1#32
  let arg14 : BitVec 32 := Scf.iv c0_i32_1088 c1_i32_1090 k0_t3
  let c7_i32_1326 : BitVec 32 := 7#32
  let v1411 : BitVec 32 := Scalar.muli arg14 c7_i32_1326
  let c3_i32_1327 : BitVec 32 := 3#32
  let v1412 : BitVec 32 := Scalar.addi v1411 c3_i32_1327
  let c2_i32_1328 : BitVec 32 := 2#32
  let v1413 : BitVec 1 := Scalar.cmpi .sge v1412 c2_i32_1328
  let v1414 : BitVec 32 := Scalar.extui v1413
  let c0_i32_1329 : BitVec 32 := 0#32
  let v1415 : BitVec 1 := Scalar.cmpi .ne v1414 c0_i32_1329
  v1415

def k0_off47 (k0_t3 : Fin k0_t3_loop.trips) : Fin 2 → Nat :=
  let c0_i32_1088 : BitVec 32 := 0#32
  let c1_i32_1090 : BitVec 32 := 1#32
  let arg14 : BitVec 32 := Scf.iv c0_i32_1088 c1_i32_1090 k0_t3
  let c512_i32_1490 : BitVec 32 := 512#32
  let v1582 : BitVec 32 := Scalar.muli arg14 c512_i32_1490
  let c1536_i32_1493 : BitVec 32 := 1536#32
  ![v1582.toNat, 1536]
def k0_off48 (k0_t3 : Fin k0_t3_loop.trips) : Fin 2 → Nat :=
  let c0_i32_1088 : BitVec 32 := 0#32
  let c1_i32_1090 : BitVec 32 := 1#32
  let arg14 : BitVec 32 := Scf.iv c0_i32_1088 c1_i32_1090 k0_t3
  let c512_i32_1334 : BitVec 32 := 512#32
  let v1420 : BitVec 32 := Scalar.muli arg14 c512_i32_1334
  let c1536_i32_1337 : BitVec 32 := 1536#32
  ![v1420.toNat, 1536]
def k0_cond5 (k0_t3 : Fin k0_t3_loop.trips) : BitVec 1 :=
  let c0_i32_1088 : BitVec 32 := 0#32
  let c1_i32_1090 : BitVec 32 := 1#32
  let arg14 : BitVec 32 := Scf.iv c0_i32_1088 c1_i32_1090 k0_t3
  let c7_i32_1376 : BitVec 32 := 7#32
  let v1463 : BitVec 32 := Scalar.muli arg14 c7_i32_1376
  let c4_i32_1377 : BitVec 32 := 4#32
  let v1464 : BitVec 32 := Scalar.addi v1463 c4_i32_1377
  let c2_i32_1378 : BitVec 32 := 2#32
  let v1465 : BitVec 1 := Scalar.cmpi .sge v1464 c2_i32_1378
  let v1466 : BitVec 32 := Scalar.extui v1465
  let c0_i32_1379 : BitVec 32 := 0#32
  let v1467 : BitVec 1 := Scalar.cmpi .ne v1466 c0_i32_1379
  v1467

def k0_off49 (k0_t3 : Fin k0_t3_loop.trips) : Fin 2 → Nat :=
  let c0_i32_1088 : BitVec 32 := 0#32
  let c1_i32_1090 : BitVec 32 := 1#32
  let arg14 : BitVec 32 := Scf.iv c0_i32_1088 c1_i32_1090 k0_t3
  let c512_i32_1490 : BitVec 32 := 512#32
  let v1582 : BitVec 32 := Scalar.muli arg14 c512_i32_1490
  let c2048_i32_1493 : BitVec 32 := 2048#32
  ![v1582.toNat, 2048]
def k0_off50 (k0_t3 : Fin k0_t3_loop.trips) : Fin 2 → Nat :=
  let c0_i32_1088 : BitVec 32 := 0#32
  let c1_i32_1090 : BitVec 32 := 1#32
  let arg14 : BitVec 32 := Scf.iv c0_i32_1088 c1_i32_1090 k0_t3
  let c512_i32_1384 : BitVec 32 := 512#32
  let v1472 : BitVec 32 := Scalar.muli arg14 c512_i32_1384
  let c2048_i32_1387 : BitVec 32 := 2048#32
  ![v1472.toNat, 2048]
def k0_cond6 (k0_t3 : Fin k0_t3_loop.trips) : BitVec 1 :=
  let c0_i32_1088 : BitVec 32 := 0#32
  let c1_i32_1090 : BitVec 32 := 1#32
  let arg14 : BitVec 32 := Scf.iv c0_i32_1088 c1_i32_1090 k0_t3
  let c7_i32_1426 : BitVec 32 := 7#32
  let v1515 : BitVec 32 := Scalar.muli arg14 c7_i32_1426
  let c5_i32_1427 : BitVec 32 := 5#32
  let v1516 : BitVec 32 := Scalar.addi v1515 c5_i32_1427
  let c2_i32_1428 : BitVec 32 := 2#32
  let v1517 : BitVec 1 := Scalar.cmpi .sge v1516 c2_i32_1428
  let v1518 : BitVec 32 := Scalar.extui v1517
  let c0_i32_1429 : BitVec 32 := 0#32
  let v1519 : BitVec 1 := Scalar.cmpi .ne v1518 c0_i32_1429
  v1519

def k0_off51 (k0_t3 : Fin k0_t3_loop.trips) : Fin 2 → Nat :=
  let c0_i32_1088 : BitVec 32 := 0#32
  let c1_i32_1090 : BitVec 32 := 1#32
  let arg14 : BitVec 32 := Scf.iv c0_i32_1088 c1_i32_1090 k0_t3
  let c512_i32_1490 : BitVec 32 := 512#32
  let v1582 : BitVec 32 := Scalar.muli arg14 c512_i32_1490
  let c2560_i32_1493 : BitVec 32 := 2560#32
  ![v1582.toNat, 2560]
def k0_off52 (k0_t3 : Fin k0_t3_loop.trips) : Fin 2 → Nat :=
  let c0_i32_1088 : BitVec 32 := 0#32
  let c1_i32_1090 : BitVec 32 := 1#32
  let arg14 : BitVec 32 := Scf.iv c0_i32_1088 c1_i32_1090 k0_t3
  let c512_i32_1434 : BitVec 32 := 512#32
  let v1524 : BitVec 32 := Scalar.muli arg14 c512_i32_1434
  let c2560_i32_1437 : BitVec 32 := 2560#32
  ![v1524.toNat, 2560]
def k0_cond7 (k0_t3 : Fin k0_t3_loop.trips) : BitVec 1 :=
  let c0_i32_1088 : BitVec 32 := 0#32
  let c1_i32_1090 : BitVec 32 := 1#32
  let arg14 : BitVec 32 := Scf.iv c0_i32_1088 c1_i32_1090 k0_t3
  let c7_i32_1476 : BitVec 32 := 7#32
  let v1567 : BitVec 32 := Scalar.muli arg14 c7_i32_1476
  let c6_i32_1477 : BitVec 32 := 6#32
  let v1568 : BitVec 32 := Scalar.addi v1567 c6_i32_1477
  let c2_i32_1478 : BitVec 32 := 2#32
  let v1569 : BitVec 1 := Scalar.cmpi .sge v1568 c2_i32_1478
  let v1570 : BitVec 32 := Scalar.extui v1569
  let c0_i32_1479 : BitVec 32 := 0#32
  let v1571 : BitVec 1 := Scalar.cmpi .ne v1570 c0_i32_1479
  v1571

def k0_off53 (k0_t3 : Fin k0_t3_loop.trips) : Fin 2 → Nat :=
  let c0_i32_1088 : BitVec 32 := 0#32
  let c1_i32_1090 : BitVec 32 := 1#32
  let arg14 : BitVec 32 := Scf.iv c0_i32_1088 c1_i32_1090 k0_t3
  let c512_i32_1490 : BitVec 32 := 512#32
  let v1582 : BitVec 32 := Scalar.muli arg14 c512_i32_1490
  let c3072_i32_1493 : BitVec 32 := 3072#32
  ![v1582.toNat, 3072]
def k0_off54 (k0_t3 : Fin k0_t3_loop.trips) : Fin 2 → Nat :=
  let c0_i32_1088 : BitVec 32 := 0#32
  let c1_i32_1090 : BitVec 32 := 1#32
  let arg14 : BitVec 32 := Scf.iv c0_i32_1088 c1_i32_1090 k0_t3
  let c512_i32_1484 : BitVec 32 := 512#32
  let v1576 : BitVec 32 := Scalar.muli arg14 c512_i32_1484
  let c3072_i32_1487 : BitVec 32 := 3072#32
  ![v1576.toNat, 3072]
abbrev stage0_0 : Fin 1 → Memref sig .tc .vmem S3x4x3584 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x4x2560 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== KernelIdeal.lean ====
abbrev S3584x4x384 : Shape := ⟨3, ![3584, 4, 384]⟩
abbrev S3584x4x3 : Shape := ⟨3, ![3584, 4, 3]⟩
abbrev S2560x4x384 : Shape := ⟨3, ![2560, 4, 384]⟩
abbrev S2560x4x3 : Shape := ⟨3, ![2560, 4, 3]⟩
abbrev S3584x384x4 : Shape := ⟨3, ![3584, 384, 4]⟩
abbrev S3584x384 : Shape := ⟨2, ![3584, 384]⟩
abbrev S3584x1x384 : Shape := ⟨3, ![3584, 1, 384]⟩
abbrev S3x4x3584 : Shape := ⟨3, ![3, 4, 3584]⟩
abbrev S2560x384x4 : Shape := ⟨3, ![2560, 384, 4]⟩
abbrev S2560x384 : Shape := ⟨2, ![2560, 384]⟩
abbrev S2560x1x384 : Shape := ⟨3, ![2560, 1, 384]⟩
abbrev S3x4x2560 : Shape := ⟨3, ![3, 4, 2560]⟩
abbrev S2560x3584 : Shape := ⟨2, ![2560, 3584]⟩
abbrev S3x3584x128 : Shape := ⟨3, ![3, 3584, 128]⟩
abbrev S3x2560x128 : Shape := ⟨3, ![3, 2560, 128]⟩
abbrev S32x8x128 : Shape := ⟨3, ![32, 8, 128]⟩
abbrev S32x8x2x128 : Shape := ⟨4, ![32, 8, 2, 128]⟩
abbrev S32x8x1x128 : Shape := ⟨4, ![32, 8, 1, 128]⟩
abbrev S24x8x128 : Shape := ⟨3, ![24, 8, 128]⟩
abbrev S24x8x2x128 : Shape := ⟨4, ![24, 8, 2, 128]⟩
abbrev S24x8x1x128 : Shape := ⟨4, ![24, 8, 1, 128]⟩
abbrev S12x1792x128 : Shape := ⟨3, ![12, 1792, 128]⟩
abbrev S12x1792x2x128 : Shape := ⟨4, ![12, 1792, 2, 128]⟩
abbrev S12x1792x1x128 : Shape := ⟨4, ![12, 1792, 1, 128]⟩
abbrev S12x1280x128 : Shape := ⟨3, ![12, 1280, 128]⟩
abbrev S12x1280x2x128 : Shape := ⟨4, ![12, 1280, 2, 128]⟩
abbrev S12x1280x1x128 : Shape := ⟨4, ![12, 1280, 1, 128]⟩
abbrev S2x512x512 : Shape := ⟨3, ![2, 512, 512]⟩
abbrev S12 : Shape := ⟨1, ![12]⟩
abbrev S2 : Shape := ⟨1, ![2]⟩
abbrev S1 : Shape := ⟨1, ![1]⟩
abbrev S_ : Shape := ⟨0, ![]⟩
abbrev S1x512x128 : Shape := ⟨3, ![1, 512, 128]⟩
abbrev S512x128 : Shape := ⟨2, ![512, 128]⟩
abbrev S512x1x128 : Shape := ⟨3, ![512, 1, 128]⟩
abbrev S1x4x128 : Shape := ⟨3, ![1, 4, 128]⟩
abbrev S4x128 : Shape := ⟨2, ![4, 128]⟩
abbrev S128x128 : Shape := ⟨2, ![128, 128]⟩
abbrev S16x128 : Shape := ⟨2, ![16, 128]⟩
abbrev S8x128 : Shape := ⟨2, ![8, 128]⟩
abbrev S1x8x128 : Shape := ⟨3, ![1, 8, 128]⟩
abbrev S1x8x2x128 : Shape := ⟨4, ![1, 8, 2, 128]⟩
abbrev S1x8x1x128 : Shape := ⟨4, ![1, 8, 1, 128]⟩
abbrev S1x2560x128 : Shape := ⟨3, ![1, 2560, 128]⟩
abbrev S2560x128 : Shape := ⟨2, ![2560, 128]⟩
abbrev S32x128 : Shape := ⟨2, ![32, 128]⟩
abbrev S16x128x1 : Shape := ⟨3, ![16, 128, 1]⟩
abbrev S1x3584x128 : Shape := ⟨3, ![1, 3584, 128]⟩
abbrev S3584x128 : Shape := ⟨2, ![3584, 128]⟩
abbrev S1x256x128 : Shape := ⟨3, ![1, 256, 128]⟩
abbrev S1x256x2x128 : Shape := ⟨4, ![1, 256, 2, 128]⟩
abbrev S1x256x1x128 : Shape := ⟨4, ![1, 256, 1, 128]⟩
abbrev S256x128 : Shape := ⟨2, ![256, 128]⟩
abbrev S512x1536 : Shape := ⟨2, ![512, 1536]⟩
abbrev S512x512 : Shape := ⟨2, ![512, 512]⟩
abbrev S1x512x512 : Shape := ⟨3, ![1, 512, 512]⟩

abbrev nBuf : Space → Nat
  | .hbm => 13
  | .vmem => 9
  | .smem => 0
  | _ => 0

abbrev bufTy : (tb : Table) → Fin (tcTables nBuf tb) → BufTy
  | .hbm, ⟨0, _⟩ => ⟨S3584x4x384, .i8⟩
  | .hbm, ⟨1, _⟩ => ⟨S3584x4x3, .f32⟩
  | .hbm, ⟨2, _⟩ => ⟨S2560x4x384, .i8⟩
  | .hbm, ⟨3, _⟩ => ⟨S2560x4x3, .f32⟩
  | .hbm, ⟨4, _⟩ => ⟨S3584x384x4, .i8⟩
  | .hbm, ⟨5, _⟩ => ⟨S3584x384, .i32⟩
  | .hbm, ⟨6, _⟩ => ⟨S3584x1x384, .i32⟩
  | .hbm, ⟨7, _⟩ => ⟨S3x4x3584, .f32⟩
  | .hbm, ⟨8, _⟩ => ⟨S2560x384x4, .i8⟩
  | .hbm, ⟨9, _⟩ => ⟨S2560x384, .i32⟩
  | .hbm, ⟨10, _⟩ => ⟨S2560x1x384, .i32⟩
  | .hbm, ⟨11, _⟩ => ⟨S3x4x2560, .f32⟩
  | .hbm, ⟨12, _⟩ => ⟨S2560x3584, .f32⟩
  | .local _ .vmem, ⟨0, _⟩ => ⟨S3x4x3584, .f32⟩
  | .local _ .vmem, ⟨1, _⟩ => ⟨S3x4x2560, .f32⟩
  | .local _ .vmem, ⟨2, _⟩ => ⟨S3x3584x128, .i32⟩
  | .local _ .vmem, ⟨3, _⟩ => ⟨S3x2560x128, .i32⟩
  | .local _ .vmem, ⟨4, _⟩ => ⟨S32x8x2x128, .bf16⟩
  | .local _ .vmem, ⟨5, _⟩ => ⟨S24x8x2x128, .bf16⟩
  | .local _ .vmem, ⟨6, _⟩ => ⟨S12x1792x2x128, .bf16⟩
  | .local _ .vmem, ⟨7, _⟩ => ⟨S12x1280x2x128, .bf16⟩
  | .local _ .vmem, ⟨8, _⟩ => ⟨S2x512x512, .f32⟩
  | _, _ => ⟨S3584x4x384, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

@[reducible] def k0_t1_loop : Scf.Loop 32 :=
  let c0_i32_1081 : BitVec 32 := 0#32
  let c80_i32 : BitVec 32 := 80#32
  let v1129 : BitVec 32 := Scalar.addi c0_i32_1081 c80_i32
  let c1_i32_1082 : BitVec 32 := 1#32
  ⟨c0_i32_1081, v1129, c1_i32_1082⟩
def k0_off1 (k0_t1 : Fin k0_t1_loop.trips) (c0_i32_1138 : BitVec 32) : Fin 4 → Nat :=
  let c0_i32_1081 : BitVec 32 := 0#32
  let c1_i32_1082 : BitVec 32 := 1#32
  let arg14 : BitVec 32 := Scf.iv c0_i32_1081 c1_i32_1082 k0_t1
  let c32_i32 : BitVec 32 := 32#32
  let v1145 : BitVec 32 := Scalar.muli arg14 c32_i32
  let c0_i32_1105 : BitVec 32 := 0#32
  let v1147 : BitVec 1 := Scalar.cmpi .sgt v1145 c0_i32_1105
  let v1148 : BitVec 32 := Scalar.extui v1147
  let c0_i32_1106 : BitVec 32 := 0#32
  let v1149 : BitVec 1 := Scalar.cmpi .slt v1145 c0_i32_1106
  let v1150 : BitVec 32 := Scalar.extui v1149
  let v1151 : BitVec 32 := Scalar.subi v1148 v1150
  let c128_i32_1104 : BitVec 32 := 128#32
  let c0_i32_1107 : BitVec 32 := 0#32
  let v1152 : BitVec 1 := Scalar.cmpi .sgt c128_i32_1104 c0_i32_1107
  let v1153 : BitVec 32 := Scalar.extui v1152
  let c0_i32_1108 : BitVec 32 := 0#32
  let v1154 : BitVec 1 := Scalar.cmpi .slt c128_i32_1104 c0_i32_1108
  let v1155 : BitVec 32 := Scalar.extui v1154
  let v1156 : BitVec 32 := Scalar.subi v1153 v1155
  let v1157 : BitVec 1 := Scalar.cmpi .ne v1151 v1156
  let v1158 : BitVec 32 := Scalar.remsi v1145 c128_i32_1104
  let c0_i32_1109 : BitVec 32 := 0#32
  let v1159 : BitVec 1 := Scalar.cmpi .ne v1158 c0_i32_1109
  let v1160 : BitVec 1 := Scalar.andi v1157 v1159
  let v1146 : BitVec 32 := Scalar.divsi v1145 c128_i32_1104
  let c1_i32_1110 : BitVec 32 := 1#32
  let v1161 : BitVec 32 := Scalar.subi v1146 c1_i32_1110
  let v1162 : BitVec 32 := Scalar.select v1160 v1161 v1146
  let c0_i32_1112 : BitVec 32 := 0#32
  let v1164 : BitVec 1 := Scalar.cmpi .sgt v1162 c0_i32_1112
  let v1165 : BitVec 32 := Scalar.extui v1164
  let c0_i32_1113 : BitVec 32 := 0#32
  let v1166 : BitVec 1 := Scalar.cmpi .slt v1162 c0_i32_1113
  let v1167 : BitVec 32 := Scalar.extui v1166
  let v1168 : BitVec 32 := Scalar.subi v1165 v1167
  let c8_i32_1111 : BitVec 32 := 8#32
  let c0_i32_1114 : BitVec 32 := 0#32
  let v1169 : BitVec 1 := Scalar.cmpi .sgt c8_i32_1111 c0_i32_1114
  let v1170 : BitVec 32 := Scalar.extui v1169
  let c0_i32_1115 : BitVec 32 := 0#32
  let v1171 : BitVec 1 := Scalar.cmpi .slt c8_i32_1111 c0_i32_1115
  let v1172 : BitVec 32 := Scalar.extui v1171
  let v1173 : BitVec 32 := Scalar.subi v1170 v1172
  let v1174 : BitVec 1 := Scalar.cmpi .ne v1168 v1173
  let v1175 : BitVec 32 := Scalar.remsi v1162 c8_i32_1111
  let c0_i32_1116 : BitVec 32 := 0#32
  let v1176 : BitVec 1 := Scalar.cmpi .ne v1175 c0_i32_1116
  let v1177 : BitVec 1 := Scalar.andi v1174 v1176
  let v1163 : BitVec 32 := Scalar.divsi v1162 c8_i32_1111
  let c1_i32_1117 : BitVec 32 := 1#32
  let v1178 : BitVec 32 := Scalar.subi v1163 c1_i32_1117
  let v1179 : BitVec 32 := Scalar.select v1177 v1178 v1163
  let c8_i32_1137 : BitVec 32 := 8#32
  let v1218 : BitVec 32 := Scalar.muli v1179 c8_i32_1137
  let c128_i32_1124 : BitVec 32 := 128#32
  let c0_i32_1125 : BitVec 32 := 0#32
  let v1191 : BitVec 1 := Scalar.cmpi .eq c128_i32_1124 c0_i32_1125
  let c1_i32_1126 : BitVec 32 := 1#32
  let v1192 : BitVec 32 := Scalar.select v1191 c1_i32_1126 c128_i32_1124
  let v1193 : BitVec 32 := Scalar.remsi v1145 v1192
  let c0_i32_1128 : BitVec 32 := 0#32
  let v1195 : BitVec 1 := Scalar.cmpi .slt v1193 c0_i32_1128
  let c0_i32_1129 : BitVec 32 := 0#32
  let v1196 : BitVec 1 := Scalar.cmpi .slt v1192 c0_i32_1129
  let v1197 : BitVec 1 := Scalar.xori v1195 v1196
  let c0_i32_1127 : BitVec 32 := 0#32
  let v1194 : BitVec 1 := Scalar.cmpi .ne v1193 c0_i32_1127
  let v1198 : BitVec 1 := Scalar.andi v1197 v1194
  let v1199 : BitVec 32 := Scalar.addi v1193 v1192
  let v1200 : BitVec 32 := Scalar.select v1198 v1199 v1193
  let c0_i32_1131 : BitVec 32 := 0#32
  let v1202 : BitVec 1 := Scalar.cmpi .sgt v1200 c0_i32_1131
  let v1203 : BitVec 32 := Scalar.extui v1202
  let c0_i32_1132 : BitVec 32 := 0#32
  let v1204 : BitVec 1 := Scalar.cmpi .slt v1200 c0_i32_1132
  let v1205 : BitVec 32 := Scalar.extui v1204
  let v1206 : BitVec 32 := Scalar.subi v1203 v1205
  let c16_i32_1130 : BitVec 32 := 16#32
  let c0_i32_1133 : BitVec 32 := 0#32
  let v1207 : BitVec 1 := Scalar.cmpi .sgt c16_i32_1130 c0_i32_1133
  let v1208 : BitVec 32 := Scalar.extui v1207
  let c0_i32_1134 : BitVec 32 := 0#32
  let v1209 : BitVec 1 := Scalar.cmpi .slt c16_i32_1130 c0_i32_1134
  let v1210 : BitVec 32 := Scalar.extui v1209
  let v1211 : BitVec 32 := Scalar.subi v1208 v1210
  let v1212 : BitVec 1 := Scalar.cmpi .ne v1206 v1211
  let v1213 : BitVec 32 := Scalar.remsi v1200 c16_i32_1130
  let c0_i32_1135 : BitVec 32 := 0#32
  let v1214 : BitVec 1 := Scalar.cmpi .ne v1213 c0_i32_1135
  let v1215 : BitVec 1 := Scalar.andi v1212 v1214
  let v1201 : BitVec 32 := Scalar.divsi v1200 c16_i32_1130
  let c1_i32_1136 : BitVec 32 := 1#32
  let v1216 : BitVec 32 := Scalar.subi v1201 c1_i32_1136
  let v1217 : BitVec 32 := Scalar.select v1215 v1216 v1201
  let v1219 : BitVec 32 := Scalar.addi v1218 v1217
  let v1220 : BitVec 32 := Scalar.addi v1219 c0_i32_1138
  let v1221 : Index := Scalar.indexCast v1220
  let c0_1139 : Index := 0#32
  let c0_1140 : Index := 0#32
  ![v1221.toNat, 0, 0, 0]
def k0_off2 (k0_t1 : Fin k0_t1_loop.trips) (c0_i32_1145 : BitVec 32) : Fin 2 → Nat :=
  let c0_i32_1081 : BitVec 32 := 0#32
  let c1_i32_1082 : BitVec 32 := 1#32
  let arg14 : BitVec 32 := Scf.iv c0_i32_1081 c1_i32_1082 k0_t1
  let c32_i32 : BitVec 32 := 32#32
  let v1145 : BitVec 32 := Scalar.muli arg14 c32_i32
  let v1230 : BitVec 32 := Scalar.addi v1145 c0_i32_1145
  let v1233 : Index := Scalar.indexCast v1230
  let c0_1149 : Index := 0#32
  ![v1233.toNat, 0]
def k0_mult1 (k0_t1 : Fin k0_t1_loop.trips) : BitVec 32 :=
  let c0_i32_1081 : BitVec 32 := 0#32
  let c1_i32_1082 : BitVec 32 := 1#32
  let arg14 : BitVec 32 := Scf.iv c0_i32_1081 c1_i32_1082 k0_t1
  let c16_i32_1187 : BitVec 32 := 16#32
  let v1320 : BitVec 32 := Scalar.muli arg14 c16_i32_1187
  let c0_i32_1188 : BitVec 32 := 0#32
  let v1321 : BitVec 32 := Scalar.addi v1320 c0_i32_1188
  v1321
def k0_off3 (k0_t1 : Fin k0_t1_loop.trips) (c0_i32_1188 : BitVec 32) : Fin 4 → Nat :=
  let c0_1189 : Index := 0#32
  let c0_i32_1081 : BitVec 32 := 0#32
  let c1_i32_1082 : BitVec 32 := 1#32
  let arg14 : BitVec 32 := Scf.iv c0_i32_1081 c1_i32_1082 k0_t1
  let c16_i32_1187 : BitVec 32 := 16#32
  let v1320 : BitVec 32 := Scalar.muli arg14 c16_i32_1187
  let v1321 : BitVec 32 := Scalar.addi v1320 c0_i32_1188
  let v1322 : BitVec 32 := v1321
  let v1323 : Index := Scalar.indexCast v1322
  let c0_1190 : Index := 0#32
  ![0, v1323.toNat, 0, 0]
def k0_mult2 (k0_t1 : Fin k0_t1_loop.trips) : BitVec 32 :=
  let c0_i32_1081 : BitVec 32 := 0#32
  let c1_i32_1082 : BitVec 32 := 1#32
  let arg14 : BitVec 32 := Scf.iv c0_i32_1081 c1_i32_1082 k0_t1
  let c16_i32_1193 : BitVec 32 := 16#32
  let v1341 : BitVec 32 := Scalar.muli arg14 c16_i32_1193
  let c8_i32_1194 : BitVec 32 := 8#32
  let v1342 : BitVec 32 := Scalar.addi v1341 c8_i32_1194
  v1342
def k0_mult3 (k0_t1 : Fin k0_t1_loop.trips) : BitVec 32 :=
  let c0_i32_1081 : BitVec 32 := 0#32
  let c1_i32_1082 : BitVec 32 := 1#32
  let arg14 : BitVec 32 := Scf.iv c0_i32_1081 c1_i32_1082 k0_t1
  let c16_i32_1201 : BitVec 32 := 16#32
  let v1368 : BitVec 32 := Scalar.muli arg14 c16_i32_1201
  let c0_i32_1202 : BitVec 32 := 0#32
  let v1369 : BitVec 32 := Scalar.addi v1368 c0_i32_1202
  v1369
def k0_off4 (k0_t1 : Fin k0_t1_loop.trips) (c0_i32_1202 : BitVec 32) : Fin 4 → Nat :=
  let c1_1203 : Index := 1#32
  let c0_i32_1081 : BitVec 32 := 0#32
  let c1_i32_1082 : BitVec 32 := 1#32
  let arg14 : BitVec 32 := Scf.iv c0_i32_1081 c1_i32_1082 k0_t1
  let c16_i32_1201 : BitVec 32 := 16#32
  let v1368 : BitVec 32 := Scalar.muli arg14 c16_i32_1201
  let v1369 : BitVec 32 := Scalar.addi v1368 c0_i32_1202
  let v1370 : BitVec 32 := v1369
  let v1371 : Index := Scalar.indexCast v1370
  let c0_1204 : Index := 0#32
  ![1, v1371.toNat, 0, 0]
def k0_mult4 (k0_t1 : Fin k0_t1_loop.trips) : BitVec 32 :=
  let c0_i32_1081 : BitVec 32 := 0#32
  let c1_i32_1082 : BitVec 32 := 1#32
  let arg14 : BitVec 32 := Scf.iv c0_i32_1081 c1_i32_1082 k0_t1
  let c16_i32_1207 : BitVec 32 := 16#32
  let v1389 : BitVec 32 := Scalar.muli arg14 c16_i32_1207
  let c8_i32_1208 : BitVec 32 := 8#32
  let v1390 : BitVec 32 := Scalar.addi v1389 c8_i32_1208
  v1390
def k0_mult5 (k0_t1 : Fin k0_t1_loop.trips) : BitVec 32 :=
  let c0_i32_1081 : BitVec 32 := 0#32
  let c1_i32_1082 : BitVec 32 := 1#32
  let arg14 : BitVec 32 := Scf.iv c0_i32_1081 c1_i32_1082 k0_t1
  let c16_i32_1215 : BitVec 32 := 16#32
  let v1416 : BitVec 32 := Scalar.muli arg14 c16_i32_1215
  let c0_i32_1216 : BitVec 32 := 0#32
  let v1417 : BitVec 32 := Scalar.addi v1416 c0_i32_1216
  v1417
def k0_off5 (k0_t1 : Fin k0_t1_loop.trips) (c0_i32_1216 : BitVec 32) : Fin 4 → Nat :=
  let c2_1217 : Index := 2#32
  let c0_i32_1081 : BitVec 32 := 0#32
  let c1_i32_1082 : BitVec 32 := 1#32
  let arg14 : BitVec 32 := Scf.iv c0_i32_1081 c1_i32_1082 k0_t1
  let c16_i32_1215 : BitVec 32 := 16#32
  let v1416 : BitVec 32 := Scalar.muli arg14 c16_i32_1215
  let v1417 : BitVec 32 := Scalar.addi v1416 c0_i32_1216
  let v1418 : BitVec 32 := v1417
  let v1419 : Index := Scalar.indexCast v1418
  let c0_1218 : Index := 0#32
  ![2, v1419.toNat, 0, 0]
def k0_mult6 (k0_t1 : Fin k0_t1_loop.trips) : BitVec 32 :=
  let c0_i32_1081 : BitVec 32 := 0#32
  let c1_i32_1082 : BitVec 32 := 1#32
  let arg14 : BitVec 32 := Scf.iv c0_i32_1081 c1_i32_1082 k0_t1
  let c16_i32_1221 : BitVec 32 := 16#32
  let v1437 : BitVec 32 := Scalar.muli arg14 c16_i32_1221
  let c8_i32_1222 : BitVec 32 := 8#32
  let v1438 : BitVec 32 := Scalar.addi v1437 c8_i32_1222
  v1438
def k0_mult7 (k0_t1 : Fin k0_t1_loop.trips) : BitVec 32 :=
  let c0_i32_1081 : BitVec 32 := 0#32
  let c1_i32_1082 : BitVec 32 := 1#32
  let arg14 : BitVec 32 := Scf.iv c0_i32_1081 c1_i32_1082 k0_t1
  let c16_i32_1229 : BitVec 32 := 16#32
  let v1464 : BitVec 32 := Scalar.muli arg14 c16_i32_1229
  let c0_i32_1230 : BitVec 32 := 0#32
  let v1465 : BitVec 32 := Scalar.addi v1464 c0_i32_1230
  v1465
def k0_off6 (k0_t1 : Fin k0_t1_loop.trips) (c0_i32_1230 : BitVec 32) : Fin 4 → Nat :=
  let c3_1231 : Index := 3#32
  let c0_i32_1081 : BitVec 32 := 0#32
  let c1_i32_1082 : BitVec 32 := 1#32
  let arg14 : BitVec 32 := Scf.iv c0_i32_1081 c1_i32_1082 k0_t1
  let c16_i32_1229 : BitVec 32 := 16#32
  let v1464 : BitVec 32 := Scalar.muli arg14 c16_i32_1229
  let v1465 : BitVec 32 := Scalar.addi v1464 c0_i32_1230
  let v1466 : BitVec 32 := v1465
  let v1467 : Index := Scalar.indexCast v1466
  let c0_1232 : Index := 0#32
  ![3, v1467.toNat, 0, 0]
def k0_mult8 (k0_t1 : Fin k0_t1_loop.trips) : BitVec 32 :=
  let c0_i32_1081 : BitVec 32 := 0#32
  let c1_i32_1082 : BitVec 32 := 1#32
  let arg14 : BitVec 32 := Scf.iv c0_i32_1081 c1_i32_1082 k0_t1
  let c16_i32_1235 : BitVec 32 := 16#32
  let v1485 : BitVec 32 := Scalar.muli arg14 c16_i32_1235
  let c8_i32_1236 : BitVec 32 := 8#32
  let v1486 : BitVec 32 := Scalar.addi v1485 c8_i32_1236
  v1486
def k0_mult9 (k0_t1 : Fin k0_t1_loop.trips) : BitVec 32 :=
  let c0_i32_1081 : BitVec 32 := 0#32
  let c1_i32_1082 : BitVec 32 := 1#32
  let arg14 : BitVec 32 := Scf.iv c0_i32_1081 c1_i32_1082 k0_t1
  let c16_i32_1285 : BitVec 32 := 16#32
  let v1582 : BitVec 32 := Scalar.muli arg14 c16_i32_1285
  let c0_i32_1286 : BitVec 32 := 0#32
  let v1583 : BitVec 32 := Scalar.addi v1582 c0_i32_1286
  v1583
def k0_off7 (k0_t1 : Fin k0_t1_loop.trips) (c0_i32_1286 : BitVec 32) : Fin 4 → Nat :=
  let c4_1287 : Index := 4#32
  let c0_i32_1081 : BitVec 32 := 0#32
  let c1_i32_1082 : BitVec 32 := 1#32
  let arg14 : BitVec 32 := Scf.iv c0_i32_1081 c1_i32_1082 k0_t1
  let c16_i32_1285 : BitVec 32 := 16#32
  let v1582 : BitVec 32 := Scalar.muli arg14 c16_i32_1285
  let v1583 : BitVec 32 := Scalar.addi v1582 c0_i32_1286
  let v1584 : BitVec 32 := v1583
  let v1585 : Index := Scalar.indexCast v1584
  let c0_1288 : Index := 0#32
  ![4, v1585.toNat, 0, 0]
def k0_mult10 (k0_t1 : Fin k0_t1_loop.trips) : BitVec 32 :=
  let c0_i32_1081 : BitVec 32 := 0#32
  let c1_i32_1082 : BitVec 32 := 1#32
  let arg14 : BitVec 32 := Scf.iv c0_i32_1081 c1_i32_1082 k0_t1
  let c16_i32_1291 : BitVec 32 := 16#32
  let v1603 : BitVec 32 := Scalar.muli arg14 c16_i32_1291
  let c8_i32_1292 : BitVec 32 := 8#32
  let v1604 : BitVec 32 := Scalar.addi v1603 c8_i32_1292
  v1604
def k0_mult11 (k0_t1 : Fin k0_t1_loop.trips) : BitVec 32 :=
  let c0_i32_1081 : BitVec 32 := 0#32
  let c1_i32_1082 : BitVec 32 := 1#32
  let arg14 : BitVec 32 := Scf.iv c0_i32_1081 c1_i32_1082 k0_t1
  let c16_i32_1299 : BitVec 32 := 16#32
  let v1630 : BitVec 32 := Scalar.muli arg14 c16_i32_1299
  let c0_i32_1300 : BitVec 32 := 0#32
  let v1631 : BitVec 32 := Scalar.addi v1630 c0_i32_1300
  v1631
def k0_off8 (k0_t1 : Fin k0_t1_loop.trips) (c0_i32_1300 : BitVec 32) : Fin 4 → Nat :=
  let c5_1301 : Index := 5#32
  let c0_i32_1081 : BitVec 32 := 0#32
  let c1_i32_1082 : BitVec 32 := 1#32
  let arg14 : BitVec 32 := Scf.iv c0_i32_1081 c1_i32_1082 k0_t1
  let c16_i32_1299 : BitVec 32 := 16#32
  let v1630 : BitVec 32 := Scalar.muli arg14 c16_i32_1299
  let v1631 : BitVec 32 := Scalar.addi v1630 c0_i32_1300
  let v1632 : BitVec 32 := v1631
  let v1633 : Index := Scalar.indexCast v1632
  let c0_1302 : Index := 0#32
  ![5, v1633.toNat, 0, 0]
def k0_mult12 (k0_t1 : Fin k0_t1_loop.trips) : BitVec 32 :=
  let c0_i32_1081 : BitVec 32 := 0#32
  let c1_i32_1082 : BitVec 32 := 1#32
  let arg14 : BitVec 32 := Scf.iv c0_i32_1081 c1_i32_1082 k0_t1
  let c16_i32_1305 : BitVec 32 := 16#32
  let v1651 : BitVec 32 := Scalar.muli arg14 c16_i32_1305
  let c8_i32_1306 : BitVec 32 := 8#32
  let v1652 : BitVec 32 := Scalar.addi v1651 c8_i32_1306
  v1652
def k0_mult13 (k0_t1 : Fin k0_t1_loop.trips) : BitVec 32 :=
  let c0_i32_1081 : BitVec 32 := 0#32
  let c1_i32_1082 : BitVec 32 := 1#32
  let arg14 : BitVec 32 := Scf.iv c0_i32_1081 c1_i32_1082 k0_t1
  let c16_i32_1313 : BitVec 32 := 16#32
  let v1678 : BitVec 32 := Scalar.muli arg14 c16_i32_1313
  let c0_i32_1314 : BitVec 32 := 0#32
  let v1679 : BitVec 32 := Scalar.addi v1678 c0_i32_1314
  v1679
def k0_off9 (k0_t1 : Fin k0_t1_loop.trips) (c0_i32_1314 : BitVec 32) : Fin 4 → Nat :=
  let c6_1315 : Index := 6#32
  let c0_i32_1081 : BitVec 32 := 0#32
  let c1_i32_1082 : BitVec 32 := 1#32
  let arg14 : BitVec 32 := Scf.iv c0_i32_1081 c1_i32_1082 k0_t1
  let c16_i32_1313 : BitVec 32 := 16#32
  let v1678 : BitVec 32 := Scalar.muli arg14 c16_i32_1313
  let v1679 : BitVec 32 := Scalar.addi v1678 c0_i32_1314
  let v1680 : BitVec 32 := v1679
  let v1681 : Index := Scalar.indexCast v1680
  let c0_1316 : Index := 0#32
  ![6, v1681.toNat, 0, 0]
def k0_mult14 (k0_t1 : Fin k0_t1_loop.trips) : BitVec 32 :=
  let c0_i32_1081 : BitVec 32 := 0#32
  let c1_i32_1082 : BitVec 32 := 1#32
  let arg14 : BitVec 32 := Scf.iv c0_i32_1081 c1_i32_1082 k0_t1
  let c16_i32_1319 : BitVec 32 := 16#32
  let v1699 : BitVec 32 := Scalar.muli arg14 c16_i32_1319
  let c8_i32_1320 : BitVec 32 := 8#32
  let v1700 : BitVec 32 := Scalar.addi v1699 c8_i32_1320
  v1700
def k0_mult15 (k0_t1 : Fin k0_t1_loop.trips) : BitVec 32 :=
  let c0_i32_1081 : BitVec 32 := 0#32
  let c1_i32_1082 : BitVec 32 := 1#32
  let arg14 : BitVec 32 := Scf.iv c0_i32_1081 c1_i32_1082 k0_t1
  let c16_i32_1327 : BitVec 32 := 16#32
  let v1726 : BitVec 32 := Scalar.muli arg14 c16_i32_1327
  let c0_i32_1328 : BitVec 32 := 0#32
  let v1727 : BitVec 32 := Scalar.addi v1726 c0_i32_1328
  v1727
def k0_off10 (k0_t1 : Fin k0_t1_loop.trips) (c0_i32_1328 : BitVec 32) : Fin 4 → Nat :=
  let c7_1329 : Index := 7#32
  let c0_i32_1081 : BitVec 32 := 0#32
  let c1_i32_1082 : BitVec 32 := 1#32
  let arg14 : BitVec 32 := Scf.iv c0_i32_1081 c1_i32_1082 k0_t1
  let c16_i32_1327 : BitVec 32 := 16#32
  let v1726 : BitVec 32 := Scalar.muli arg14 c16_i32_1327
  let v1727 : BitVec 32 := Scalar.addi v1726 c0_i32_1328
  let v1728 : BitVec 32 := v1727
  let v1729 : Index := Scalar.indexCast v1728
  let c0_1330 : Index := 0#32
  ![7, v1729.toNat, 0, 0]
def k0_mult16 (k0_t1 : Fin k0_t1_loop.trips) : BitVec 32 :=
  let c0_i32_1081 : BitVec 32 := 0#32
  let c1_i32_1082 : BitVec 32 := 1#32
  let arg14 : BitVec 32 := Scf.iv c0_i32_1081 c1_i32_1082 k0_t1
  let c16_i32_1333 : BitVec 32 := 16#32
  let v1747 : BitVec 32 := Scalar.muli arg14 c16_i32_1333
  let c8_i32_1334 : BitVec 32 := 8#32
  let v1748 : BitVec 32 := Scalar.addi v1747 c8_i32_1334
  v1748
def k0_mult17 (k0_t1 : Fin k0_t1_loop.trips) : BitVec 32 :=
  let c0_i32_1081 : BitVec 32 := 0#32
  let c1_i32_1082 : BitVec 32 := 1#32
  let arg14 : BitVec 32 := Scf.iv c0_i32_1081 c1_i32_1082 k0_t1
  let c16_i32_1383 : BitVec 32 := 16#32
  let v1844 : BitVec 32 := Scalar.muli arg14 c16_i32_1383
  let c0_i32_1384 : BitVec 32 := 0#32
  let v1845 : BitVec 32 := Scalar.addi v1844 c0_i32_1384
  v1845
def k0_off11 (k0_t1 : Fin k0_t1_loop.trips) (c0_i32_1384 : BitVec 32) : Fin 4 → Nat :=
  let c8_1385 : Index := 8#32
  let c0_i32_1081 : BitVec 32 := 0#32
  let c1_i32_1082 : BitVec 32 := 1#32
  let arg14 : BitVec 32 := Scf.iv c0_i32_1081 c1_i32_1082 k0_t1
  let c16_i32_1383 : BitVec 32 := 16#32
  let v1844 : BitVec 32 := Scalar.muli arg14 c16_i32_1383
  let v1845 : BitVec 32 := Scalar.addi v1844 c0_i32_1384
  let v1846 : BitVec 32 := v1845
  let v1847 : Index := Scalar.indexCast v1846
  let c0_1386 : Index := 0#32
  ![8, v1847.toNat, 0, 0]
def k0_mult18 (k0_t1 : Fin k0_t1_loop.trips) : BitVec 32 :=
  let c0_i32_1081 : BitVec 32 := 0#32
  let c1_i32_1082 : BitVec 32 := 1#32
  let arg14 : BitVec 32 := Scf.iv c0_i32_1081 c1_i32_1082 k0_t1
  let c16_i32_1389 : BitVec 32 := 16#32
  let v1865 : BitVec 32 := Scalar.muli arg14 c16_i32_1389
  let c8_i32_1390 : BitVec 32 := 8#32
  let v1866 : BitVec 32 := Scalar.addi v1865 c8_i32_1390
  v1866
def k0_mult19 (k0_t1 : Fin k0_t1_loop.trips) : BitVec 32 :=
  let c0_i32_1081 : BitVec 32 := 0#32
  let c1_i32_1082 : BitVec 32 := 1#32
  let arg14 : BitVec 32 := Scf.iv c0_i32_1081 c1_i32_1082 k0_t1
  let c16_i32_1397 : BitVec 32 := 16#32
  let v1892 : BitVec 32 := Scalar.muli arg14 c16_i32_1397
  let c0_i32_1398 : BitVec 32 := 0#32
  let v1893 : BitVec 32 := Scalar.addi v1892 c0_i32_1398
  v1893
def k0_off12 (k0_t1 : Fin k0_t1_loop.trips) (c0_i32_1398 : BitVec 32) : Fin 4 → Nat :=
  let c9_1399 : Index := 9#32
  let c0_i32_1081 : BitVec 32 := 0#32
  let c1_i32_1082 : BitVec 32 := 1#32
  let arg14 : BitVec 32 := Scf.iv c0_i32_1081 c1_i32_1082 k0_t1
  let c16_i32_1397 : BitVec 32 := 16#32
  let v1892 : BitVec 32 := Scalar.muli arg14 c16_i32_1397
  let v1893 : BitVec 32 := Scalar.addi v1892 c0_i32_1398
  let v1894 : BitVec 32 := v1893
  let v1895 : Index := Scalar.indexCast v1894
  let c0_1400 : Index := 0#32
  ![9, v1895.toNat, 0, 0]
def k0_mult20 (k0_t1 : Fin k0_t1_loop.trips) : BitVec 32 :=
  let c0_i32_1081 : BitVec 32 := 0#32
  let c1_i32_1082 : BitVec 32 := 1#32
  let arg14 : BitVec 32 := Scf.iv c0_i32_1081 c1_i32_1082 k0_t1
  let c16_i32_1403 : BitVec 32 := 16#32
  let v1913 : BitVec 32 := Scalar.muli arg14 c16_i32_1403
  let c8_i32_1404 : BitVec 32 := 8#32
  let v1914 : BitVec 32 := Scalar.addi v1913 c8_i32_1404
  v1914
def k0_mult21 (k0_t1 : Fin k0_t1_loop.trips) : BitVec 32 :=
  let c0_i32_1081 : BitVec 32 := 0#32
  let c1_i32_1082 : BitVec 32 := 1#32
  let arg14 : BitVec 32 := Scf.iv c0_i32_1081 c1_i32_1082 k0_t1
  let c16_i32_1411 : BitVec 32 := 16#32
  let v1940 : BitVec 32 := Scalar.muli arg14 c16_i32_1411
  let c0_i32_1412 : BitVec 32 := 0#32
  let v1941 : BitVec 32 := Scalar.addi v1940 c0_i32_1412
  v1941
def k0_off13 (k0_t1 : Fin k0_t1_loop.trips) (c0_i32_1412 : BitVec 32) : Fin 4 → Nat :=
  let c10_1413 : Index := 10#32
  let c0_i32_1081 : BitVec 32 := 0#32
  let c1_i32_1082 : BitVec 32 := 1#32
  let arg14 : BitVec 32 := Scf.iv c0_i32_1081 c1_i32_1082 k0_t1
  let c16_i32_1411 : BitVec 32 := 16#32
  let v1940 : BitVec 32 := Scalar.muli arg14 c16_i32_1411
  let v1941 : BitVec 32 := Scalar.addi v1940 c0_i32_1412
  let v1942 : BitVec 32 := v1941
  let v1943 : Index := Scalar.indexCast v1942
  let c0_1414 : Index := 0#32
  ![10, v1943.toNat, 0, 0]
def k0_mult22 (k0_t1 : Fin k0_t1_loop.trips) : BitVec 32 :=
  let c0_i32_1081 : BitVec 32 := 0#32
  let c1_i32_1082 : BitVec 32 := 1#32
  let arg14 : BitVec 32 := Scf.iv c0_i32_1081 c1_i32_1082 k0_t1
  let c16_i32_1417 : BitVec 32 := 16#32
  let v1961 : BitVec 32 := Scalar.muli arg14 c16_i32_1417
  let c8_i32_1418 : BitVec 32 := 8#32
  let v1962 : BitVec 32 := Scalar.addi v1961 c8_i32_1418
  v1962
def k0_mult23 (k0_t1 : Fin k0_t1_loop.trips) : BitVec 32 :=
  let c0_i32_1081 : BitVec 32 := 0#32
  let c1_i32_1082 : BitVec 32 := 1#32
  let arg14 : BitVec 32 := Scf.iv c0_i32_1081 c1_i32_1082 k0_t1
  let c16_i32_1425 : BitVec 32 := 16#32
  let v1988 : BitVec 32 := Scalar.muli arg14 c16_i32_1425
  let c0_i32_1426 : BitVec 32 := 0#32
  let v1989 : BitVec 32 := Scalar.addi v1988 c0_i32_1426
  v1989
def k0_off14 (k0_t1 : Fin k0_t1_loop.trips) (c0_i32_1426 : BitVec 32) : Fin 4 → Nat :=
  let c11_1427 : Index := 11#32
  let c0_i32_1081 : BitVec 32 := 0#32
  let c1_i32_1082 : BitVec 32 := 1#32
  let arg14 : BitVec 32 := Scf.iv c0_i32_1081 c1_i32_1082 k0_t1
  let c16_i32_1425 : BitVec 32 := 16#32
  let v1988 : BitVec 32 := Scalar.muli arg14 c16_i32_1425
  let v1989 : BitVec 32 := Scalar.addi v1988 c0_i32_1426
  let v1990 : BitVec 32 := v1989
  let v1991 : Index := Scalar.indexCast v1990
  let c0_1428 : Index := 0#32
  ![11, v1991.toNat, 0, 0]
def k0_mult24 (k0_t1 : Fin k0_t1_loop.trips) : BitVec 32 :=
  let c0_i32_1081 : BitVec 32 := 0#32
  let c1_i32_1082 : BitVec 32 := 1#32
  let arg14 : BitVec 32 := Scf.iv c0_i32_1081 c1_i32_1082 k0_t1
  let c16_i32_1431 : BitVec 32 := 16#32
  let v2009 : BitVec 32 := Scalar.muli arg14 c16_i32_1431
  let c8_i32_1432 : BitVec 32 := 8#32
  let v2010 : BitVec 32 := Scalar.addi v2009 c8_i32_1432
  v2010
@[reducible] def k0_t2_loop : Scf.Loop 32 :=
  let c0_i32_1085 : BitVec 32 := 0#32
  let c112_i32 : BitVec 32 := 112#32
  let v1133 : BitVec 32 := Scalar.addi c0_i32_1085 c112_i32
  let c1_i32_1086 : BitVec 32 := 1#32
  ⟨c0_i32_1085, v1133, c1_i32_1086⟩
def k0_off15 (k0_t2 : Fin k0_t2_loop.trips) (c0_i32_1138 : BitVec 32) : Fin 4 → Nat :=
  let c0_i32_1085 : BitVec 32 := 0#32
  let c1_i32_1086 : BitVec 32 := 1#32
  let arg14 : BitVec 32 := Scf.iv c0_i32_1085 c1_i32_1086 k0_t2
  let c32_i32 : BitVec 32 := 32#32
  let v1145 : BitVec 32 := Scalar.muli arg14 c32_i32
  let c0_i32_1105 : BitVec 32 := 0#32
  let v1147 : BitVec 1 := Scalar.cmpi .sgt v1145 c0_i32_1105
  let v1148 : BitVec 32 := Scalar.extui v1147
  let c0_i32_1106 : BitVec 32 := 0#32
  let v1149 : BitVec 1 := Scalar.cmpi .slt v1145 c0_i32_1106
  let v1150 : BitVec 32 := Scalar.extui v1149
  let v1151 : BitVec 32 := Scalar.subi v1148 v1150
  let c128_i32_1104 : BitVec 32 := 128#32
  let c0_i32_1107 : BitVec 32 := 0#32
  let v1152 : BitVec 1 := Scalar.cmpi .sgt c128_i32_1104 c0_i32_1107
  let v1153 : BitVec 32 := Scalar.extui v1152
  let c0_i32_1108 : BitVec 32 := 0#32
  let v1154 : BitVec 1 := Scalar.cmpi .slt c128_i32_1104 c0_i32_1108
  let v1155 : BitVec 32 := Scalar.extui v1154
  let v1156 : BitVec 32 := Scalar.subi v1153 v1155
  let v1157 : BitVec 1 := Scalar.cmpi .ne v1151 v1156
  let v1158 : BitVec 32 := Scalar.remsi v1145 c128_i32_1104
  let c0_i32_1109 : BitVec 32 := 0#32
  let v1159 : BitVec 1 := Scalar.cmpi .ne v1158 c0_i32_1109
  let v1160 : BitVec 1 := Scalar.andi v1157 v1159
  let v1146 : BitVec 32 := Scalar.divsi v1145 c128_i32_1104
  let c1_i32_1110 : BitVec 32 := 1#32
  let v1161 : BitVec 32 := Scalar.subi v1146 c1_i32_1110
  let v1162 : BitVec 32 := Scalar.select v1160 v1161 v1146
  let c0_i32_1112 : BitVec 32 := 0#32
  let v1164 : BitVec 1 := Scalar.cmpi .sgt v1162 c0_i32_1112
  let v1165 : BitVec 32 := Scalar.extui v1164
  let c0_i32_1113 : BitVec 32 := 0#32
  let v1166 : BitVec 1 := Scalar.cmpi .slt v1162 c0_i32_1113
  let v1167 : BitVec 32 := Scalar.extui v1166
  let v1168 : BitVec 32 := Scalar.subi v1165 v1167
  let c8_i32_1111 : BitVec 32 := 8#32
  let c0_i32_1114 : BitVec 32 := 0#32
  let v1169 : BitVec 1 := Scalar.cmpi .sgt c8_i32_1111 c0_i32_1114
  let v1170 : BitVec 32 := Scalar.extui v1169
  let c0_i32_1115 : BitVec 32 := 0#32
  let v1171 : BitVec 1 := Scalar.cmpi .slt c8_i32_1111 c0_i32_1115
  let v1172 : BitVec 32 := Scalar.extui v1171
  let v1173 : BitVec 32 := Scalar.subi v1170 v1172
  let v1174 : BitVec 1 := Scalar.cmpi .ne v1168 v1173
  let v1175 : BitVec 32 := Scalar.remsi v1162 c8_i32_1111
  let c0_i32_1116 : BitVec 32 := 0#32
  let v1176 : BitVec 1 := Scalar.cmpi .ne v1175 c0_i32_1116
  let v1177 : BitVec 1 := Scalar.andi v1174 v1176
  let v1163 : BitVec 32 := Scalar.divsi v1162 c8_i32_1111
  let c1_i32_1117 : BitVec 32 := 1#32
  let v1178 : BitVec 32 := Scalar.subi v1163 c1_i32_1117
  let v1179 : BitVec 32 := Scalar.select v1177 v1178 v1163
  let c8_i32_1137 : BitVec 32 := 8#32
  let v1218 : BitVec 32 := Scalar.muli v1179 c8_i32_1137
  let c128_i32_1124 : BitVec 32 := 128#32
  let c0_i32_1125 : BitVec 32 := 0#32
  let v1191 : BitVec 1 := Scalar.cmpi .eq c128_i32_1124 c0_i32_1125
  let c1_i32_1126 : BitVec 32 := 1#32
  let v1192 : BitVec 32 := Scalar.select v1191 c1_i32_1126 c128_i32_1124
  let v1193 : BitVec 32 := Scalar.remsi v1145 v1192
  let c0_i32_1128 : BitVec 32 := 0#32
  let v1195 : BitVec 1 := Scalar.cmpi .slt v1193 c0_i32_1128
  let c0_i32_1129 : BitVec 32 := 0#32
  let v1196 : BitVec 1 := Scalar.cmpi .slt v1192 c0_i32_1129
  let v1197 : BitVec 1 := Scalar.xori v1195 v1196
  let c0_i32_1127 : BitVec 32 := 0#32
  let v1194 : BitVec 1 := Scalar.cmpi .ne v1193 c0_i32_1127
  let v1198 : BitVec 1 := Scalar.andi v1197 v1194
  let v1199 : BitVec 32 := Scalar.addi v1193 v1192
  let v1200 : BitVec 32 := Scalar.select v1198 v1199 v1193
  let c0_i32_1131 : BitVec 32 := 0#32
  let v1202 : BitVec 1 := Scalar.cmpi .sgt v1200 c0_i32_1131
  let v1203 : BitVec 32 := Scalar.extui v1202
  let c0_i32_1132 : BitVec 32 := 0#32
  let v1204 : BitVec 1 := Scalar.cmpi .slt v1200 c0_i32_1132
  let v1205 : BitVec 32 := Scalar.extui v1204
  let v1206 : BitVec 32 := Scalar.subi v1203 v1205
  let c16_i32_1130 : BitVec 32 := 16#32
  let c0_i32_1133 : BitVec 32 := 0#32
  let v1207 : BitVec 1 := Scalar.cmpi .sgt c16_i32_1130 c0_i32_1133
  let v1208 : BitVec 32 := Scalar.extui v1207
  let c0_i32_1134 : BitVec 32 := 0#32
  let v1209 : BitVec 1 := Scalar.cmpi .slt c16_i32_1130 c0_i32_1134
  let v1210 : BitVec 32 := Scalar.extui v1209
  let v1211 : BitVec 32 := Scalar.subi v1208 v1210
  let v1212 : BitVec 1 := Scalar.cmpi .ne v1206 v1211
  let v1213 : BitVec 32 := Scalar.remsi v1200 c16_i32_1130
  let c0_i32_1135 : BitVec 32 := 0#32
  let v1214 : BitVec 1 := Scalar.cmpi .ne v1213 c0_i32_1135
  let v1215 : BitVec 1 := Scalar.andi v1212 v1214
  let v1201 : BitVec 32 := Scalar.divsi v1200 c16_i32_1130
  let c1_i32_1136 : BitVec 32 := 1#32
  let v1216 : BitVec 32 := Scalar.subi v1201 c1_i32_1136
  let v1217 : BitVec 32 := Scalar.select v1215 v1216 v1201
  let v1219 : BitVec 32 := Scalar.addi v1218 v1217
  let v1220 : BitVec 32 := Scalar.addi v1219 c0_i32_1138
  let v1221 : Index := Scalar.indexCast v1220
  let c0_1139 : Index := 0#32
  let c0_1140 : Index := 0#32
  ![v1221.toNat, 0, 0, 0]
def k0_off16 (k0_t2 : Fin k0_t2_loop.trips) (c0_i32_1145 : BitVec 32) : Fin 2 → Nat :=
  let c0_i32_1085 : BitVec 32 := 0#32
  let c1_i32_1086 : BitVec 32 := 1#32
  let arg14 : BitVec 32 := Scf.iv c0_i32_1085 c1_i32_1086 k0_t2
  let c32_i32 : BitVec 32 := 32#32
  let v1145 : BitVec 32 := Scalar.muli arg14 c32_i32
  let v1230 : BitVec 32 := Scalar.addi v1145 c0_i32_1145
  let v1233 : Index := Scalar.indexCast v1230
  let c0_1149 : Index := 0#32
  ![v1233.toNat, 0]
def k0_mult25 (k0_t2 : Fin k0_t2_loop.trips) : BitVec 32 :=
  let c0_i32_1085 : BitVec 32 := 0#32
  let c1_i32_1086 : BitVec 32 := 1#32
  let arg14 : BitVec 32 := Scf.iv c0_i32_1085 c1_i32_1086 k0_t2
  let c16_i32_1187 : BitVec 32 := 16#32
  let v1320 : BitVec 32 := Scalar.muli arg14 c16_i32_1187
  let c0_i32_1188 : BitVec 32 := 0#32
  let v1321 : BitVec 32 := Scalar.addi v1320 c0_i32_1188
  v1321
def k0_off17 (k0_t2 : Fin k0_t2_loop.trips) (c0_i32_1188 : BitVec 32) : Fin 4 → Nat :=
  let c0_1189 : Index := 0#32
  let c0_i32_1085 : BitVec 32 := 0#32
  let c1_i32_1086 : BitVec 32 := 1#32
  let arg14 : BitVec 32 := Scf.iv c0_i32_1085 c1_i32_1086 k0_t2
  let c16_i32_1187 : BitVec 32 := 16#32
  let v1320 : BitVec 32 := Scalar.muli arg14 c16_i32_1187
  let v1321 : BitVec 32 := Scalar.addi v1320 c0_i32_1188
  let v1322 : BitVec 32 := v1321
  let v1323 : Index := Scalar.indexCast v1322
  let c0_1190 : Index := 0#32
  ![0, v1323.toNat, 0, 0]
def k0_mult26 (k0_t2 : Fin k0_t2_loop.trips) : BitVec 32 :=
  let c0_i32_1085 : BitVec 32 := 0#32
  let c1_i32_1086 : BitVec 32 := 1#32
  let arg14 : BitVec 32 := Scf.iv c0_i32_1085 c1_i32_1086 k0_t2
  let c16_i32_1193 : BitVec 32 := 16#32
  let v1341 : BitVec 32 := Scalar.muli arg14 c16_i32_1193
  let c8_i32_1194 : BitVec 32 := 8#32
  let v1342 : BitVec 32 := Scalar.addi v1341 c8_i32_1194
  v1342
def k0_mult27 (k0_t2 : Fin k0_t2_loop.trips) : BitVec 32 :=
  let c0_i32_1085 : BitVec 32 := 0#32
  let c1_i32_1086 : BitVec 32 := 1#32
  let arg14 : BitVec 32 := Scf.iv c0_i32_1085 c1_i32_1086 k0_t2
  let c16_i32_1201 : BitVec 32 := 16#32
  let v1368 : BitVec 32 := Scalar.muli arg14 c16_i32_1201
  let c0_i32_1202 : BitVec 32 := 0#32
  let v1369 : BitVec 32 := Scalar.addi v1368 c0_i32_1202
  v1369
def k0_off18 (k0_t2 : Fin k0_t2_loop.trips) (c0_i32_1202 : BitVec 32) : Fin 4 → Nat :=
  let c1_1203 : Index := 1#32
  let c0_i32_1085 : BitVec 32 := 0#32
  let c1_i32_1086 : BitVec 32 := 1#32
  let arg14 : BitVec 32 := Scf.iv c0_i32_1085 c1_i32_1086 k0_t2
  let c16_i32_1201 : BitVec 32 := 16#32
  let v1368 : BitVec 32 := Scalar.muli arg14 c16_i32_1201
  let v1369 : BitVec 32 := Scalar.addi v1368 c0_i32_1202
  let v1370 : BitVec 32 := v1369
  let v1371 : Index := Scalar.indexCast v1370
  let c0_1204 : Index := 0#32
  ![1, v1371.toNat, 0, 0]
def k0_mult28 (k0_t2 : Fin k0_t2_loop.trips) : BitVec 32 :=
  let c0_i32_1085 : BitVec 32 := 0#32
  let c1_i32_1086 : BitVec 32 := 1#32
  let arg14 : BitVec 32 := Scf.iv c0_i32_1085 c1_i32_1086 k0_t2
  let c16_i32_1207 : BitVec 32 := 16#32
  let v1389 : BitVec 32 := Scalar.muli arg14 c16_i32_1207
  let c8_i32_1208 : BitVec 32 := 8#32
  let v1390 : BitVec 32 := Scalar.addi v1389 c8_i32_1208
  v1390
def k0_mult29 (k0_t2 : Fin k0_t2_loop.trips) : BitVec 32 :=
  let c0_i32_1085 : BitVec 32 := 0#32
  let c1_i32_1086 : BitVec 32 := 1#32
  let arg14 : BitVec 32 := Scf.iv c0_i32_1085 c1_i32_1086 k0_t2
  let c16_i32_1215 : BitVec 32 := 16#32
  let v1416 : BitVec 32 := Scalar.muli arg14 c16_i32_1215
  let c0_i32_1216 : BitVec 32 := 0#32
  let v1417 : BitVec 32 := Scalar.addi v1416 c0_i32_1216
  v1417
def k0_off19 (k0_t2 : Fin k0_t2_loop.trips) (c0_i32_1216 : BitVec 32) : Fin 4 → Nat :=
  let c2_1217 : Index := 2#32
  let c0_i32_1085 : BitVec 32 := 0#32
  let c1_i32_1086 : BitVec 32 := 1#32
  let arg14 : BitVec 32 := Scf.iv c0_i32_1085 c1_i32_1086 k0_t2
  let c16_i32_1215 : BitVec 32 := 16#32
  let v1416 : BitVec 32 := Scalar.muli arg14 c16_i32_1215
  let v1417 : BitVec 32 := Scalar.addi v1416 c0_i32_1216
  let v1418 : BitVec 32 := v1417
  let v1419 : Index := Scalar.indexCast v1418
  let c0_1218 : Index := 0#32
  ![2, v1419.toNat, 0, 0]
def k0_mult30 (k0_t2 : Fin k0_t2_loop.trips) : BitVec 32 :=
  let c0_i32_1085 : BitVec 32 := 0#32
  let c1_i32_1086 : BitVec 32 := 1#32
  let arg14 : BitVec 32 := Scf.iv c0_i32_1085 c1_i32_1086 k0_t2
  let c16_i32_1221 : BitVec 32 := 16#32
  let v1437 : BitVec 32 := Scalar.muli arg14 c16_i32_1221
  let c8_i32_1222 : BitVec 32 := 8#32
  let v1438 : BitVec 32 := Scalar.addi v1437 c8_i32_1222
  v1438
def k0_mult31 (k0_t2 : Fin k0_t2_loop.trips) : BitVec 32 :=
  let c0_i32_1085 : BitVec 32 := 0#32
  let c1_i32_1086 : BitVec 32 := 1#32
  let arg14 : BitVec 32 := Scf.iv c0_i32_1085 c1_i32_1086 k0_t2
  let c16_i32_1229 : BitVec 32 := 16#32
  let v1464 : BitVec 32 := Scalar.muli arg14 c16_i32_1229
  let c0_i32_1230 : BitVec 32 := 0#32
  let v1465 : BitVec 32 := Scalar.addi v1464 c0_i32_1230
  v1465
def k0_off20 (k0_t2 : Fin k0_t2_loop.trips) (c0_i32_1230 : BitVec 32) : Fin 4 → Nat :=
  let c3_1231 : Index := 3#32
  let c0_i32_1085 : BitVec 32 := 0#32
  let c1_i32_1086 : BitVec 32 := 1#32
  let arg14 : BitVec 32 := Scf.iv c0_i32_1085 c1_i32_1086 k0_t2
  let c16_i32_1229 : BitVec 32 := 16#32
  let v1464 : BitVec 32 := Scalar.muli arg14 c16_i32_1229
  let v1465 : BitVec 32 := Scalar.addi v1464 c0_i32_1230
  let v1466 : BitVec 32 := v1465
  let v1467 : Index := Scalar.indexCast v1466
  let c0_1232 : Index := 0#32
  ![3, v1467.toNat, 0, 0]
def k0_mult32 (k0_t2 : Fin k0_t2_loop.trips) : BitVec 32 :=
  let c0_i32_1085 : BitVec 32 := 0#32
  let c1_i32_1086 : BitVec 32 := 1#32
  let arg14 : BitVec 32 := Scf.iv c0_i32_1085 c1_i32_1086 k0_t2
  let c16_i32_1235 : BitVec 32 := 16#32
  let v1485 : BitVec 32 := Scalar.muli arg14 c16_i32_1235
  let c8_i32_1236 : BitVec 32 := 8#32
  let v1486 : BitVec 32 := Scalar.addi v1485 c8_i32_1236
  v1486
def k0_mult33 (k0_t2 : Fin k0_t2_loop.trips) : BitVec 32 :=
  let c0_i32_1085 : BitVec 32 := 0#32
  let c1_i32_1086 : BitVec 32 := 1#32
  let arg14 : BitVec 32 := Scf.iv c0_i32_1085 c1_i32_1086 k0_t2
  let c16_i32_1285 : BitVec 32 := 16#32
  let v1582 : BitVec 32 := Scalar.muli arg14 c16_i32_1285
  let c0_i32_1286 : BitVec 32 := 0#32
  let v1583 : BitVec 32 := Scalar.addi v1582 c0_i32_1286
  v1583
def k0_off21 (k0_t2 : Fin k0_t2_loop.trips) (c0_i32_1286 : BitVec 32) : Fin 4 → Nat :=
  let c4_1287 : Index := 4#32
  let c0_i32_1085 : BitVec 32 := 0#32
  let c1_i32_1086 : BitVec 32 := 1#32
  let arg14 : BitVec 32 := Scf.iv c0_i32_1085 c1_i32_1086 k0_t2
  let c16_i32_1285 : BitVec 32 := 16#32
  let v1582 : BitVec 32 := Scalar.muli arg14 c16_i32_1285
  let v1583 : BitVec 32 := Scalar.addi v1582 c0_i32_1286
  let v1584 : BitVec 32 := v1583
  let v1585 : Index := Scalar.indexCast v1584
  let c0_1288 : Index := 0#32
  ![4, v1585.toNat, 0, 0]
def k0_mult34 (k0_t2 : Fin k0_t2_loop.trips) : BitVec 32 :=
  let c0_i32_1085 : BitVec 32 := 0#32
  let c1_i32_1086 : BitVec 32 := 1#32
  let arg14 : BitVec 32 := Scf.iv c0_i32_1085 c1_i32_1086 k0_t2
  let c16_i32_1291 : BitVec 32 := 16#32
  let v1603 : BitVec 32 := Scalar.muli arg14 c16_i32_1291
  let c8_i32_1292 : BitVec 32 := 8#32
  let v1604 : BitVec 32 := Scalar.addi v1603 c8_i32_1292
  v1604
def k0_mult35 (k0_t2 : Fin k0_t2_loop.trips) : BitVec 32 :=
  let c0_i32_1085 : BitVec 32 := 0#32
  let c1_i32_1086 : BitVec 32 := 1#32
  let arg14 : BitVec 32 := Scf.iv c0_i32_1085 c1_i32_1086 k0_t2
  let c16_i32_1299 : BitVec 32 := 16#32
  let v1630 : BitVec 32 := Scalar.muli arg14 c16_i32_1299
  let c0_i32_1300 : BitVec 32 := 0#32
  let v1631 : BitVec 32 := Scalar.addi v1630 c0_i32_1300
  v1631
def k0_off22 (k0_t2 : Fin k0_t2_loop.trips) (c0_i32_1300 : BitVec 32) : Fin 4 → Nat :=
  let c5_1301 : Index := 5#32
  let c0_i32_1085 : BitVec 32 := 0#32
  let c1_i32_1086 : BitVec 32 := 1#32
  let arg14 : BitVec 32 := Scf.iv c0_i32_1085 c1_i32_1086 k0_t2
  let c16_i32_1299 : BitVec 32 := 16#32
  let v1630 : BitVec 32 := Scalar.muli arg14 c16_i32_1299
  let v1631 : BitVec 32 := Scalar.addi v1630 c0_i32_1300
  let v1632 : BitVec 32 := v1631
  let v1633 : Index := Scalar.indexCast v1632
  let c0_1302 : Index := 0#32
  ![5, v1633.toNat, 0, 0]
def k0_mult36 (k0_t2 : Fin k0_t2_loop.trips) : BitVec 32 :=
  let c0_i32_1085 : BitVec 32 := 0#32
  let c1_i32_1086 : BitVec 32 := 1#32
  let arg14 : BitVec 32 := Scf.iv c0_i32_1085 c1_i32_1086 k0_t2
  let c16_i32_1305 : BitVec 32 := 16#32
  let v1651 : BitVec 32 := Scalar.muli arg14 c16_i32_1305
  let c8_i32_1306 : BitVec 32 := 8#32
  let v1652 : BitVec 32 := Scalar.addi v1651 c8_i32_1306
  v1652
def k0_mult37 (k0_t2 : Fin k0_t2_loop.trips) : BitVec 32 :=
  let c0_i32_1085 : BitVec 32 := 0#32
  let c1_i32_1086 : BitVec 32 := 1#32
  let arg14 : BitVec 32 := Scf.iv c0_i32_1085 c1_i32_1086 k0_t2
  let c16_i32_1313 : BitVec 32 := 16#32
  let v1678 : BitVec 32 := Scalar.muli arg14 c16_i32_1313
  let c0_i32_1314 : BitVec 32 := 0#32
  let v1679 : BitVec 32 := Scalar.addi v1678 c0_i32_1314
  v1679
def k0_off23 (k0_t2 : Fin k0_t2_loop.trips) (c0_i32_1314 : BitVec 32) : Fin 4 → Nat :=
  let c6_1315 : Index := 6#32
  let c0_i32_1085 : BitVec 32 := 0#32
  let c1_i32_1086 : BitVec 32 := 1#32
  let arg14 : BitVec 32 := Scf.iv c0_i32_1085 c1_i32_1086 k0_t2
  let c16_i32_1313 : BitVec 32 := 16#32
  let v1678 : BitVec 32 := Scalar.muli arg14 c16_i32_1313
  let v1679 : BitVec 32 := Scalar.addi v1678 c0_i32_1314
  let v1680 : BitVec 32 := v1679
  let v1681 : Index := Scalar.indexCast v1680
  let c0_1316 : Index := 0#32
  ![6, v1681.toNat, 0, 0]
def k0_mult38 (k0_t2 : Fin k0_t2_loop.trips) : BitVec 32 :=
  let c0_i32_1085 : BitVec 32 := 0#32
  let c1_i32_1086 : BitVec 32 := 1#32
  let arg14 : BitVec 32 := Scf.iv c0_i32_1085 c1_i32_1086 k0_t2
  let c16_i32_1319 : BitVec 32 := 16#32
  let v1699 : BitVec 32 := Scalar.muli arg14 c16_i32_1319
  let c8_i32_1320 : BitVec 32 := 8#32
  let v1700 : BitVec 32 := Scalar.addi v1699 c8_i32_1320
  v1700
def k0_mult39 (k0_t2 : Fin k0_t2_loop.trips) : BitVec 32 :=
  let c0_i32_1085 : BitVec 32 := 0#32
  let c1_i32_1086 : BitVec 32 := 1#32
  let arg14 : BitVec 32 := Scf.iv c0_i32_1085 c1_i32_1086 k0_t2
  let c16_i32_1327 : BitVec 32 := 16#32
  let v1726 : BitVec 32 := Scalar.muli arg14 c16_i32_1327
  let c0_i32_1328 : BitVec 32 := 0#32
  let v1727 : BitVec 32 := Scalar.addi v1726 c0_i32_1328
  v1727
def k0_off24 (k0_t2 : Fin k0_t2_loop.trips) (c0_i32_1328 : BitVec 32) : Fin 4 → Nat :=
  let c7_1329 : Index := 7#32
  let c0_i32_1085 : BitVec 32 := 0#32
  let c1_i32_1086 : BitVec 32 := 1#32
  let arg14 : BitVec 32 := Scf.iv c0_i32_1085 c1_i32_1086 k0_t2
  let c16_i32_1327 : BitVec 32 := 16#32
  let v1726 : BitVec 32 := Scalar.muli arg14 c16_i32_1327
  let v1727 : BitVec 32 := Scalar.addi v1726 c0_i32_1328
  let v1728 : BitVec 32 := v1727
  let v1729 : Index := Scalar.indexCast v1728
  let c0_1330 : Index := 0#32
  ![7, v1729.toNat, 0, 0]
def k0_mult40 (k0_t2 : Fin k0_t2_loop.trips) : BitVec 32 :=
  let c0_i32_1085 : BitVec 32 := 0#32
  let c1_i32_1086 : BitVec 32 := 1#32
  let arg14 : BitVec 32 := Scf.iv c0_i32_1085 c1_i32_1086 k0_t2
  let c16_i32_1333 : BitVec 32 := 16#32
  let v1747 : BitVec 32 := Scalar.muli arg14 c16_i32_1333
  let c8_i32_1334 : BitVec 32 := 8#32
  let v1748 : BitVec 32 := Scalar.addi v1747 c8_i32_1334
  v1748
def k0_mult41 (k0_t2 : Fin k0_t2_loop.trips) : BitVec 32 :=
  let c0_i32_1085 : BitVec 32 := 0#32
  let c1_i32_1086 : BitVec 32 := 1#32
  let arg14 : BitVec 32 := Scf.iv c0_i32_1085 c1_i32_1086 k0_t2
  let c16_i32_1383 : BitVec 32 := 16#32
  let v1844 : BitVec 32 := Scalar.muli arg14 c16_i32_1383
  let c0_i32_1384 : BitVec 32 := 0#32
  let v1845 : BitVec 32 := Scalar.addi v1844 c0_i32_1384
  v1845
def k0_off25 (k0_t2 : Fin k0_t2_loop.trips) (c0_i32_1384 : BitVec 32) : Fin 4 → Nat :=
  let c8_1385 : Index := 8#32
  let c0_i32_1085 : BitVec 32 := 0#32
  let c1_i32_1086 : BitVec 32 := 1#32
  let arg14 : BitVec 32 := Scf.iv c0_i32_1085 c1_i32_1086 k0_t2
  let c16_i32_1383 : BitVec 32 := 16#32
  let v1844 : BitVec 32 := Scalar.muli arg14 c16_i32_1383
  let v1845 : BitVec 32 := Scalar.addi v1844 c0_i32_1384
  let v1846 : BitVec 32 := v1845
  let v1847 : Index := Scalar.indexCast v1846
  let c0_1386 : Index := 0#32
  ![8, v1847.toNat, 0, 0]
def k0_mult42 (k0_t2 : Fin k0_t2_loop.trips) : BitVec 32 :=
  let c0_i32_1085 : BitVec 32 := 0#32
  let c1_i32_1086 : BitVec 32 := 1#32
  let arg14 : BitVec 32 := Scf.iv c0_i32_1085 c1_i32_1086 k0_t2
  let c16_i32_1389 : BitVec 32 := 16#32
  let v1865 : BitVec 32 := Scalar.muli arg14 c16_i32_1389
  let c8_i32_1390 : BitVec 32 := 8#32
  let v1866 : BitVec 32 := Scalar.addi v1865 c8_i32_1390
  v1866
def k0_mult43 (k0_t2 : Fin k0_t2_loop.trips) : BitVec 32 :=
  let c0_i32_1085 : BitVec 32 := 0#32
  let c1_i32_1086 : BitVec 32 := 1#32
  let arg14 : BitVec 32 := Scf.iv c0_i32_1085 c1_i32_1086 k0_t2
  let c16_i32_1397 : BitVec 32 := 16#32
  let v1892 : BitVec 32 := Scalar.muli arg14 c16_i32_1397
  let c0_i32_1398 : BitVec 32 := 0#32
  let v1893 : BitVec 32 := Scalar.addi v1892 c0_i32_1398
  v1893
def k0_off26 (k0_t2 : Fin k0_t2_loop.trips) (c0_i32_1398 : BitVec 32) : Fin 4 → Nat :=
  let c9_1399 : Index := 9#32
  let c0_i32_1085 : BitVec 32 := 0#32
  let c1_i32_1086 : BitVec 32 := 1#32
  let arg14 : BitVec 32 := Scf.iv c0_i32_1085 c1_i32_1086 k0_t2
  let c16_i32_1397 : BitVec 32 := 16#32
  let v1892 : BitVec 32 := Scalar.muli arg14 c16_i32_1397
  let v1893 : BitVec 32 := Scalar.addi v1892 c0_i32_1398
  let v1894 : BitVec 32 := v1893
  let v1895 : Index := Scalar.indexCast v1894
  let c0_1400 : Index := 0#32
  ![9, v1895.toNat, 0, 0]
def k0_mult44 (k0_t2 : Fin k0_t2_loop.trips) : BitVec 32 :=
  let c0_i32_1085 : BitVec 32 := 0#32
  let c1_i32_1086 : BitVec 32 := 1#32
  let arg14 : BitVec 32 := Scf.iv c0_i32_1085 c1_i32_1086 k0_t2
  let c16_i32_1403 : BitVec 32 := 16#32
  let v1913 : BitVec 32 := Scalar.muli arg14 c16_i32_1403
  let c8_i32_1404 : BitVec 32 := 8#32
  let v1914 : BitVec 32 := Scalar.addi v1913 c8_i32_1404
  v1914
def k0_mult45 (k0_t2 : Fin k0_t2_loop.trips) : BitVec 32 :=
  let c0_i32_1085 : BitVec 32 := 0#32
  let c1_i32_1086 : BitVec 32 := 1#32
  let arg14 : BitVec 32 := Scf.iv c0_i32_1085 c1_i32_1086 k0_t2
  let c16_i32_1411 : BitVec 32 := 16#32
  let v1940 : BitVec 32 := Scalar.muli arg14 c16_i32_1411
  let c0_i32_1412 : BitVec 32 := 0#32
  let v1941 : BitVec 32 := Scalar.addi v1940 c0_i32_1412
  v1941
def k0_off27 (k0_t2 : Fin k0_t2_loop.trips) (c0_i32_1412 : BitVec 32) : Fin 4 → Nat :=
  let c10_1413 : Index := 10#32
  let c0_i32_1085 : BitVec 32 := 0#32
  let c1_i32_1086 : BitVec 32 := 1#32
  let arg14 : BitVec 32 := Scf.iv c0_i32_1085 c1_i32_1086 k0_t2
  let c16_i32_1411 : BitVec 32 := 16#32
  let v1940 : BitVec 32 := Scalar.muli arg14 c16_i32_1411
  let v1941 : BitVec 32 := Scalar.addi v1940 c0_i32_1412
  let v1942 : BitVec 32 := v1941
  let v1943 : Index := Scalar.indexCast v1942
  let c0_1414 : Index := 0#32
  ![10, v1943.toNat, 0, 0]
def k0_mult46 (k0_t2 : Fin k0_t2_loop.trips) : BitVec 32 :=
  let c0_i32_1085 : BitVec 32 := 0#32
  let c1_i32_1086 : BitVec 32 := 1#32
  let arg14 : BitVec 32 := Scf.iv c0_i32_1085 c1_i32_1086 k0_t2
  let c16_i32_1417 : BitVec 32 := 16#32
  let v1961 : BitVec 32 := Scalar.muli arg14 c16_i32_1417
  let c8_i32_1418 : BitVec 32 := 8#32
  let v1962 : BitVec 32 := Scalar.addi v1961 c8_i32_1418
  v1962
def k0_mult47 (k0_t2 : Fin k0_t2_loop.trips) : BitVec 32 :=
  let c0_i32_1085 : BitVec 32 := 0#32
  let c1_i32_1086 : BitVec 32 := 1#32
  let arg14 : BitVec 32 := Scf.iv c0_i32_1085 c1_i32_1086 k0_t2
  let c16_i32_1425 : BitVec 32 := 16#32
  let v1988 : BitVec 32 := Scalar.muli arg14 c16_i32_1425
  let c0_i32_1426 : BitVec 32 := 0#32
  let v1989 : BitVec 32 := Scalar.addi v1988 c0_i32_1426
  v1989
def k0_off28 (k0_t2 : Fin k0_t2_loop.trips) (c0_i32_1426 : BitVec 32) : Fin 4 → Nat :=
  let c11_1427 : Index := 11#32
  let c0_i32_1085 : BitVec 32 := 0#32
  let c1_i32_1086 : BitVec 32 := 1#32
  let arg14 : BitVec 32 := Scf.iv c0_i32_1085 c1_i32_1086 k0_t2
  let c16_i32_1425 : BitVec 32 := 16#32
  let v1988 : BitVec 32 := Scalar.muli arg14 c16_i32_1425
  let v1989 : BitVec 32 := Scalar.addi v1988 c0_i32_1426
  let v1990 : BitVec 32 := v1989
  let v1991 : Index := Scalar.indexCast v1990
  let c0_1428 : Index := 0#32
  ![11, v1991.toNat, 0, 0]
def k0_mult48 (k0_t2 : Fin k0_t2_loop.trips) : BitVec 32 :=
  let c0_i32_1085 : BitVec 32 := 0#32
  let c1_i32_1086 : BitVec 32 := 1#32
  let arg14 : BitVec 32 := Scf.iv c0_i32_1085 c1_i32_1086 k0_t2
  let c16_i32_1431 : BitVec 32 := 16#32
  let v2009 : BitVec 32 := Scalar.muli arg14 c16_i32_1431
  let c8_i32_1432 : BitVec 32 := 8#32
  let v2010 : BitVec 32 := Scalar.addi v2009 c8_i32_1432
  v2010
@[reducible] def k0_t3_loop : Scf.Loop 32 :=
  let c0_i32_1088 : BitVec 32 := 0#32
  let c5_i32_1089 : BitVec 32 := 5#32
  let v1134 : BitVec 32 := Scalar.addi c0_i32_1088 c5_i32_1089
  let c1_i32_1090 : BitVec 32 := 1#32
  ⟨c0_i32_1088, v1134, c1_i32_1090⟩
def k0_mult49 (k0_t3 : Fin k0_t3_loop.trips) : BitVec 32 :=
  let c0_i32_1088 : BitVec 32 := 0#32
  let c1_i32_1090 : BitVec 32 := 1#32
  let arg14 : BitVec 32 := Scf.iv c0_i32_1088 c1_i32_1090 k0_t3
  let c256_i32_1104 : BitVec 32 := 256#32
  let v1145 : BitVec 32 := Scalar.muli arg14 c256_i32_1104
  v1145
def k0_off29 (k0_t3 : Fin k0_t3_loop.trips) : Fin 4 → Nat :=
  let c0_1105 : Index := 0#32
  let c0_i32_1088 : BitVec 32 := 0#32
  let c1_i32_1090 : BitVec 32 := 1#32
  let arg14 : BitVec 32 := Scf.iv c0_i32_1088 c1_i32_1090 k0_t3
  let c256_i32_1104 : BitVec 32 := 256#32
  let v1145 : BitVec 32 := Scalar.muli arg14 c256_i32_1104
  let v1146 : BitVec 32 := v1145
  let v1147 : Index := Scalar.indexCast v1146
  let c0_1106 : Index := 0#32
  ![0, v1147.toNat, 0, 0]
def k0_mult50 (k0_t3 : Fin k0_t3_loop.trips) : BitVec 32 :=
  let c0_i32_1088 : BitVec 32 := 0#32
  let c1_i32_1090 : BitVec 32 := 1#32
  let arg14 : BitVec 32 := Scf.iv c0_i32_1088 c1_i32_1090 k0_t3
  let c256_i32_1107 : BitVec 32 := 256#32
  let v1151 : BitVec 32 := Scalar.muli arg14 c256_i32_1107
  v1151
def k0_off30 (k0_t3 : Fin k0_t3_loop.trips) : Fin 4 → Nat :=
  let c1_1108 : Index := 1#32
  let c0_i32_1088 : BitVec 32 := 0#32
  let c1_i32_1090 : BitVec 32 := 1#32
  let arg14 : BitVec 32 := Scf.iv c0_i32_1088 c1_i32_1090 k0_t3
  let c256_i32_1107 : BitVec 32 := 256#32
  let v1151 : BitVec 32 := Scalar.muli arg14 c256_i32_1107
  let v1152 : BitVec 32 := v1151
  let v1153 : Index := Scalar.indexCast v1152
  let c0_1109 : Index := 0#32
  ![1, v1153.toNat, 0, 0]
def k0_mult51 (k0_t3 : Fin k0_t3_loop.trips) : BitVec 32 :=
  let c0_i32_1088 : BitVec 32 := 0#32
  let c1_i32_1090 : BitVec 32 := 1#32
  let arg14 : BitVec 32 := Scf.iv c0_i32_1088 c1_i32_1090 k0_t3
  let c256_i32_1110 : BitVec 32 := 256#32
  let v1157 : BitVec 32 := Scalar.muli arg14 c256_i32_1110
  v1157
def k0_off31 (k0_t3 : Fin k0_t3_loop.trips) : Fin 4 → Nat :=
  let c2_1111 : Index := 2#32
  let c0_i32_1088 : BitVec 32 := 0#32
  let c1_i32_1090 : BitVec 32 := 1#32
  let arg14 : BitVec 32 := Scf.iv c0_i32_1088 c1_i32_1090 k0_t3
  let c256_i32_1110 : BitVec 32 := 256#32
  let v1157 : BitVec 32 := Scalar.muli arg14 c256_i32_1110
  let v1158 : BitVec 32 := v1157
  let v1159 : Index := Scalar.indexCast v1158
  let c0_1112 : Index := 0#32
  ![2, v1159.toNat, 0, 0]
def k0_mult52 (k0_t3 : Fin k0_t3_loop.trips) : BitVec 32 :=
  let c0_i32_1088 : BitVec 32 := 0#32
  let c1_i32_1090 : BitVec 32 := 1#32
  let arg14 : BitVec 32 := Scf.iv c0_i32_1088 c1_i32_1090 k0_t3
  let c256_i32_1113 : BitVec 32 := 256#32
  let v1163 : BitVec 32 := Scalar.muli arg14 c256_i32_1113
  v1163
def k0_off32 (k0_t3 : Fin k0_t3_loop.trips) : Fin 4 → Nat :=
  let c3_1114 : Index := 3#32
  let c0_i32_1088 : BitVec 32 := 0#32
  let c1_i32_1090 : BitVec 32 := 1#32
  let arg14 : BitVec 32 := Scf.iv c0_i32_1088 c1_i32_1090 k0_t3
  let c256_i32_1113 : BitVec 32 := 256#32
  let v1163 : BitVec 32 := Scalar.muli arg14 c256_i32_1113
  let v1164 : BitVec 32 := v1163
  let v1165 : Index := Scalar.indexCast v1164
  let c0_1115 : Index := 0#32
  ![3, v1165.toNat, 0, 0]
def k0_mult53 (k0_t3 : Fin k0_t3_loop.trips) : BitVec 32 :=
  let c0_i32_1088 : BitVec 32 := 0#32
  let c1_i32_1090 : BitVec 32 := 1#32
  let arg14 : BitVec 32 := Scf.iv c0_i32_1088 c1_i32_1090 k0_t3
  let c256_i32_1116 : BitVec 32 := 256#32
  let v1169 : BitVec 32 := Scalar.muli arg14 c256_i32_1116
  v1169
def k0_off33 (k0_t3 : Fin k0_t3_loop.trips) : Fin 4 → Nat :=
  let c4_1117 : Index := 4#32
  let c0_i32_1088 : BitVec 32 := 0#32
  let c1_i32_1090 : BitVec 32 := 1#32
  let arg14 : BitVec 32 := Scf.iv c0_i32_1088 c1_i32_1090 k0_t3
  let c256_i32_1116 : BitVec 32 := 256#32
  let v1169 : BitVec 32 := Scalar.muli arg14 c256_i32_1116
  let v1170 : BitVec 32 := v1169
  let v1171 : Index := Scalar.indexCast v1170
  let c0_1118 : Index := 0#32
  ![4, v1171.toNat, 0, 0]
def k0_mult54 (k0_t3 : Fin k0_t3_loop.trips) : BitVec 32 :=
  let c0_i32_1088 : BitVec 32 := 0#32
  let c1_i32_1090 : BitVec 32 := 1#32
  let arg14 : BitVec 32 := Scf.iv c0_i32_1088 c1_i32_1090 k0_t3
  let c256_i32_1119 : BitVec 32 := 256#32
  let v1175 : BitVec 32 := Scalar.muli arg14 c256_i32_1119
  v1175
def k0_off34 (k0_t3 : Fin k0_t3_loop.trips) : Fin 4 → Nat :=
  let c5_1120 : Index := 5#32
  let c0_i32_1088 : BitVec 32 := 0#32
  let c1_i32_1090 : BitVec 32 := 1#32
  let arg14 : BitVec 32 := Scf.iv c0_i32_1088 c1_i32_1090 k0_t3
  let c256_i32_1119 : BitVec 32 := 256#32
  let v1175 : BitVec 32 := Scalar.muli arg14 c256_i32_1119
  let v1176 : BitVec 32 := v1175
  let v1177 : Index := Scalar.indexCast v1176
  let c0_1121 : Index := 0#32
  ![5, v1177.toNat, 0, 0]
def k0_mult55 (k0_t3 : Fin k0_t3_loop.trips) : BitVec 32 :=
  let c0_i32_1088 : BitVec 32 := 0#32
  let c1_i32_1090 : BitVec 32 := 1#32
  let arg14 : BitVec 32 := Scf.iv c0_i32_1088 c1_i32_1090 k0_t3
  let c256_i32_1122 : BitVec 32 := 256#32
  let v1181 : BitVec 32 := Scalar.muli arg14 c256_i32_1122
  v1181
def k0_off35 (k0_t3 : Fin k0_t3_loop.trips) : Fin 4 → Nat :=
  let c6_1123 : Index := 6#32
  let c0_i32_1088 : BitVec 32 := 0#32
  let c1_i32_1090 : BitVec 32 := 1#32
  let arg14 : BitVec 32 := Scf.iv c0_i32_1088 c1_i32_1090 k0_t3
  let c256_i32_1122 : BitVec 32 := 256#32
  let v1181 : BitVec 32 := Scalar.muli arg14 c256_i32_1122
  let v1182 : BitVec 32 := v1181
  let v1183 : Index := Scalar.indexCast v1182
  let c0_1124 : Index := 0#32
  ![6, v1183.toNat, 0, 0]
def k0_mult56 (k0_t3 : Fin k0_t3_loop.trips) : BitVec 32 :=
  let c0_i32_1088 : BitVec 32 := 0#32
  let c1_i32_1090 : BitVec 32 := 1#32
  let arg14 : BitVec 32 := Scf.iv c0_i32_1088 c1_i32_1090 k0_t3
  let c256_i32_1125 : BitVec 32 := 256#32
  let v1187 : BitVec 32 := Scalar.muli arg14 c256_i32_1125
  v1187
def k0_off36 (k0_t3 : Fin k0_t3_loop.trips) : Fin 4 → Nat :=
  let c7_1126 : Index := 7#32
  let c0_i32_1088 : BitVec 32 := 0#32
  let c1_i32_1090 : BitVec 32 := 1#32
  let arg14 : BitVec 32 := Scf.iv c0_i32_1088 c1_i32_1090 k0_t3
  let c256_i32_1125 : BitVec 32 := 256#32
  let v1187 : BitVec 32 := Scalar.muli arg14 c256_i32_1125
  let v1188 : BitVec 32 := v1187
  let v1189 : Index := Scalar.indexCast v1188
  let c0_1127 : Index := 0#32
  ![7, v1189.toNat, 0, 0]
def k0_mult57 (k0_t3 : Fin k0_t3_loop.trips) : BitVec 32 :=
  let c0_i32_1088 : BitVec 32 := 0#32
  let c1_i32_1090 : BitVec 32 := 1#32
  let arg14 : BitVec 32 := Scf.iv c0_i32_1088 c1_i32_1090 k0_t3
  let c256_i32_1128 : BitVec 32 := 256#32
  let v1193 : BitVec 32 := Scalar.muli arg14 c256_i32_1128
  v1193
def k0_off37 (k0_t3 : Fin k0_t3_loop.trips) : Fin 4 → Nat :=
  let c8_1129 : Index := 8#32
  let c0_i32_1088 : BitVec 32 := 0#32
  let c1_i32_1090 : BitVec 32 := 1#32
  let arg14 : BitVec 32 := Scf.iv c0_i32_1088 c1_i32_1090 k0_t3
  let c256_i32_1128 : BitVec 32 := 256#32
  let v1193 : BitVec 32 := Scalar.muli arg14 c256_i32_1128
  let v1194 : BitVec 32 := v1193
  let v1195 : Index := Scalar.indexCast v1194
  let c0_1130 : Index := 0#32
  ![8, v1195.toNat, 0, 0]
def k0_mult58 (k0_t3 : Fin k0_t3_loop.trips) : BitVec 32 :=
  let c0_i32_1088 : BitVec 32 := 0#32
  let c1_i32_1090 : BitVec 32 := 1#32
  let arg14 : BitVec 32 := Scf.iv c0_i32_1088 c1_i32_1090 k0_t3
  let c256_i32_1131 : BitVec 32 := 256#32
  let v1199 : BitVec 32 := Scalar.muli arg14 c256_i32_1131
  v1199
def k0_off38 (k0_t3 : Fin k0_t3_loop.trips) : Fin 4 → Nat :=
  let c9_1132 : Index := 9#32
  let c0_i32_1088 : BitVec 32 := 0#32
  let c1_i32_1090 : BitVec 32 := 1#32
  let arg14 : BitVec 32 := Scf.iv c0_i32_1088 c1_i32_1090 k0_t3
  let c256_i32_1131 : BitVec 32 := 256#32
  let v1199 : BitVec 32 := Scalar.muli arg14 c256_i32_1131
  let v1200 : BitVec 32 := v1199
  let v1201 : Index := Scalar.indexCast v1200
  let c0_1133 : Index := 0#32
  ![9, v1201.toNat, 0, 0]
def k0_mult59 (k0_t3 : Fin k0_t3_loop.trips) : BitVec 32 :=
  let c0_i32_1088 : BitVec 32 := 0#32
  let c1_i32_1090 : BitVec 32 := 1#32
  let arg14 : BitVec 32 := Scf.iv c0_i32_1088 c1_i32_1090 k0_t3
  let c256_i32_1134 : BitVec 32 := 256#32
  let v1205 : BitVec 32 := Scalar.muli arg14 c256_i32_1134
  v1205
def k0_off39 (k0_t3 : Fin k0_t3_loop.trips) : Fin 4 → Nat :=
  let c10_1135 : Index := 10#32
  let c0_i32_1088 : BitVec 32 := 0#32
  let c1_i32_1090 : BitVec 32 := 1#32
  let arg14 : BitVec 32 := Scf.iv c0_i32_1088 c1_i32_1090 k0_t3
  let c256_i32_1134 : BitVec 32 := 256#32
  let v1205 : BitVec 32 := Scalar.muli arg14 c256_i32_1134
  let v1206 : BitVec 32 := v1205
  let v1207 : Index := Scalar.indexCast v1206
  let c0_1136 : Index := 0#32
  ![10, v1207.toNat, 0, 0]
def k0_mult60 (k0_t3 : Fin k0_t3_loop.trips) : BitVec 32 :=
  let c0_i32_1088 : BitVec 32 := 0#32
  let c1_i32_1090 : BitVec 32 := 1#32
  let arg14 : BitVec 32 := Scf.iv c0_i32_1088 c1_i32_1090 k0_t3
  let c256_i32_1137 : BitVec 32 := 256#32
  let v1211 : BitVec 32 := Scalar.muli arg14 c256_i32_1137
  v1211
def k0_off40 (k0_t3 : Fin k0_t3_loop.trips) : Fin 4 → Nat :=
  let c11_1138 : Index := 11#32
  let c0_i32_1088 : BitVec 32 := 0#32
  let c1_i32_1090 : BitVec 32 := 1#32
  let arg14 : BitVec 32 := Scf.iv c0_i32_1088 c1_i32_1090 k0_t3
  let c256_i32_1137 : BitVec 32 := 256#32
  let v1211 : BitVec 32 := Scalar.muli arg14 c256_i32_1137
  let v1212 : BitVec 32 := v1211
  let v1213 : Index := Scalar.indexCast v1212
  let c0_1139 : Index := 0#32
  ![11, v1213.toNat, 0, 0]
def k0_cond1 (k0_t3 : Fin k0_t3_loop.trips) : BitVec 1 :=
  let c0_i32_1088 : BitVec 32 := 0#32
  let c1_i32_1090 : BitVec 32 := 1#32
  let arg14 : BitVec 32 := Scf.iv c0_i32_1088 c1_i32_1090 k0_t3
  let c7_i32_1176 : BitVec 32 := 7#32
  let v1255 : BitVec 32 := Scalar.muli arg14 c7_i32_1176
  let c0_i32_1177 : BitVec 32 := 0#32
  let v1256 : BitVec 32 := Scalar.addi v1255 c0_i32_1177
  let c2_i32_1178 : BitVec 32 := 2#32
  let v1257 : BitVec 1 := Scalar.cmpi .sge v1256 c2_i32_1178
  let v1258 : BitVec 32 := Scalar.extui v1257
  let c0_i32_1179 : BitVec 32 := 0#32
  let v1259 : BitVec 1 := Scalar.cmpi .ne v1258 c0_i32_1179
  v1259

def k0_off41 (k0_t3 : Fin k0_t3_loop.trips) : Fin 2 → Nat :=
  let c0_i32_1088 : BitVec 32 := 0#32
  let c1_i32_1090 : BitVec 32 := 1#32
  let arg14 : BitVec 32 := Scf.iv c0_i32_1088 c1_i32_1090 k0_t3
  let c512_i32_1490 : BitVec 32 := 512#32
  let v1582 : BitVec 32 := Scalar.muli arg14 c512_i32_1490
  let c0_i32_1493 : BitVec 32 := 0#32
  ![v1582.toNat, 0]
def k0_off42 (k0_t3 : Fin k0_t3_loop.trips) : Fin 2 → Nat :=
  let c0_i32_1088 : BitVec 32 := 0#32
  let c1_i32_1090 : BitVec 32 := 1#32
  let arg14 : BitVec 32 := Scf.iv c0_i32_1088 c1_i32_1090 k0_t3
  let c512_i32_1184 : BitVec 32 := 512#32
  let v1264 : BitVec 32 := Scalar.muli arg14 c512_i32_1184
  let c0_i32_1187 : BitVec 32 := 0#32
  ![v1264.toNat, 0]
def k0_cond2 (k0_t3 : Fin k0_t3_loop.trips) : BitVec 1 :=
  let c0_i32_1088 : BitVec 32 := 0#32
  let c1_i32_1090 : BitVec 32 := 1#32
  let arg14 : BitVec 32 := Scf.iv c0_i32_1088 c1_i32_1090 k0_t3
  let c7_i32_1226 : BitVec 32 := 7#32
  let v1307 : BitVec 32 := Scalar.muli arg14 c7_i32_1226
  let c1_i32_1227 : BitVec 32 := 1#32
  let v1308 : BitVec 32 := Scalar.addi v1307 c1_i32_1227
  let c2_i32_1228 : BitVec 32 := 2#32
  let v1309 : BitVec 1 := Scalar.cmpi .sge v1308 c2_i32_1228
  let v1310 : BitVec 32 := Scalar.extui v1309
  let c0_i32_1229 : BitVec 32 := 0#32
  let v1311 : BitVec 1 := Scalar.cmpi .ne v1310 c0_i32_1229
  v1311

def k0_off43 (k0_t3 : Fin k0_t3_loop.trips) : Fin 2 → Nat :=
  let c0_i32_1088 : BitVec 32 := 0#32
  let c1_i32_1090 : BitVec 32 := 1#32
  let arg14 : BitVec 32 := Scf.iv c0_i32_1088 c1_i32_1090 k0_t3
  let c512_i32_1490 : BitVec 32 := 512#32
  let v1582 : BitVec 32 := Scalar.muli arg14 c512_i32_1490
  let c512_i32_1493 : BitVec 32 := 512#32
  ![v1582.toNat, 512]
def k0_off44 (k0_t3 : Fin k0_t3_loop.trips) : Fin 2 → Nat :=
  let c0_i32_1088 : BitVec 32 := 0#32
  let c1_i32_1090 : BitVec 32 := 1#32
  let arg14 : BitVec 32 := Scf.iv c0_i32_1088 c1_i32_1090 k0_t3
  let c512_i32_1234 : BitVec 32 := 512#32
  let v1316 : BitVec 32 := Scalar.muli arg14 c512_i32_1234
  let c512_i32_1237 : BitVec 32 := 512#32
  ![v1316.toNat, 512]
def k0_cond3 (k0_t3 : Fin k0_t3_loop.trips) : BitVec 1 :=
  let c0_i32_1088 : BitVec 32 := 0#32
  let c1_i32_1090 : BitVec 32 := 1#32
  let arg14 : BitVec 32 := Scf.iv c0_i32_1088 c1_i32_1090 k0_t3
  let c7_i32_1276 : BitVec 32 := 7#32
  let v1359 : BitVec 32 := Scalar.muli arg14 c7_i32_1276
  let c2_i32_1277 : BitVec 32 := 2#32
  let v1360 : BitVec 32 := Scalar.addi v1359 c2_i32_1277
  let c2_i32_1278 : BitVec 32 := 2#32
  let v1361 : BitVec 1 := Scalar.cmpi .sge v1360 c2_i32_1278
  let v1362 : BitVec 32 := Scalar.extui v1361
  let c0_i32_1279 : BitVec 32 := 0#32
  let v1363 : BitVec 1 := Scalar.cmpi .ne v1362 c0_i32_1279
  v1363

def k0_off45 (k0_t3 : Fin k0_t3_loop.trips) : Fin 2 → Nat :=
  let c0_i32_1088 : BitVec 32 := 0#32
  let c1_i32_1090 : BitVec 32 := 1#32
  let arg14 : BitVec 32 := Scf.iv c0_i32_1088 c1_i32_1090 k0_t3
  let c512_i32_1490 : BitVec 32 := 512#32
  let v1582 : BitVec 32 := Scalar.muli arg14 c512_i32_1490
  let c1024_i32_1493 : BitVec 32 := 1024#32
  ![v1582.toNat, 1024]
def k0_off46 (k0_t3 : Fin k0_t3_loop.trips) : Fin 2 → Nat :=
  let c0_i32_1088 : BitVec 32 := 0#32
  let c1_i32_1090 : BitVec 32 := 1#32
  let arg14 : BitVec 32 := Scf.iv c0_i32_1088 c1_i32_1090 k0_t3
  let c512_i32_1284 : BitVec 32 := 512#32
  let v1368 : BitVec 32 := Scalar.muli arg14 c512_i32_1284
  let c1024_i32_1287 : BitVec 32 := 1024#32
  ![v1368.toNat, 1024]
def k0_cond4 (k0_t3 : Fin k0_t3_loop.trips) : BitVec 1 :=
  let c0_i32_1088 : BitVec 32 := 0#32
  let c1_i32_1090 : BitVec 32 := 1#32
  let arg14 : BitVec 32 := Scf.iv c0_i32_1088 c1_i32_1090 k0_t3
  let c7_i32_1326 : BitVec 32 := 7#32
  let v1411 : BitVec 32 := Scalar.muli arg14 c7_i32_1326
  let c3_i32_1327 : BitVec 32 := 3#32
  let v1412 : BitVec 32 := Scalar.addi v1411 c3_i32_1327
  let c2_i32_1328 : BitVec 32 := 2#32
  let v1413 : BitVec 1 := Scalar.cmpi .sge v1412 c2_i32_1328
  let v1414 : BitVec 32 := Scalar.extui v1413
  let c0_i32_1329 : BitVec 32 := 0#32
  let v1415 : BitVec 1 := Scalar.cmpi .ne v1414 c0_i32_1329
  v1415

def k0_off47 (k0_t3 : Fin k0_t3_loop.trips) : Fin 2 → Nat :=
  let c0_i32_1088 : BitVec 32 := 0#32
  let c1_i32_1090 : BitVec 32 := 1#32
  let arg14 : BitVec 32 := Scf.iv c0_i32_1088 c1_i32_1090 k0_t3
  let c512_i32_1490 : BitVec 32 := 512#32
  let v1582 : BitVec 32 := Scalar.muli arg14 c512_i32_1490
  let c1536_i32_1493 : BitVec 32 := 1536#32
  ![v1582.toNat, 1536]
def k0_off48 (k0_t3 : Fin k0_t3_loop.trips) : Fin 2 → Nat :=
  let c0_i32_1088 : BitVec 32 := 0#32
  let c1_i32_1090 : BitVec 32 := 1#32
  let arg14 : BitVec 32 := Scf.iv c0_i32_1088 c1_i32_1090 k0_t3
  let c512_i32_1334 : BitVec 32 := 512#32
  let v1420 : BitVec 32 := Scalar.muli arg14 c512_i32_1334
  let c1536_i32_1337 : BitVec 32 := 1536#32
  ![v1420.toNat, 1536]
def k0_cond5 (k0_t3 : Fin k0_t3_loop.trips) : BitVec 1 :=
  let c0_i32_1088 : BitVec 32 := 0#32
  let c1_i32_1090 : BitVec 32 := 1#32
  let arg14 : BitVec 32 := Scf.iv c0_i32_1088 c1_i32_1090 k0_t3
  let c7_i32_1376 : BitVec 32 := 7#32
  let v1463 : BitVec 32 := Scalar.muli arg14 c7_i32_1376
  let c4_i32_1377 : BitVec 32 := 4#32
  let v1464 : BitVec 32 := Scalar.addi v1463 c4_i32_1377
  let c2_i32_1378 : BitVec 32 := 2#32
  let v1465 : BitVec 1 := Scalar.cmpi .sge v1464 c2_i32_1378
  let v1466 : BitVec 32 := Scalar.extui v1465
  let c0_i32_1379 : BitVec 32 := 0#32
  let v1467 : BitVec 1 := Scalar.cmpi .ne v1466 c0_i32_1379
  v1467

def k0_off49 (k0_t3 : Fin k0_t3_loop.trips) : Fin 2 → Nat :=
  let c0_i32_1088 : BitVec 32 := 0#32
  let c1_i32_1090 : BitVec 32 := 1#32
  let arg14 : BitVec 32 := Scf.iv c0_i32_1088 c1_i32_1090 k0_t3
  let c512_i32_1490 : BitVec 32 := 512#32
  let v1582 : BitVec 32 := Scalar.muli arg14 c512_i32_1490
  let c2048_i32_1493 : BitVec 32 := 2048#32
  ![v1582.toNat, 2048]
def k0_off50 (k0_t3 : Fin k0_t3_loop.trips) : Fin 2 → Nat :=
  let c0_i32_1088 : BitVec 32 := 0#32
  let c1_i32_1090 : BitVec 32 := 1#32
  let arg14 : BitVec 32 := Scf.iv c0_i32_1088 c1_i32_1090 k0_t3
  let c512_i32_1384 : BitVec 32 := 512#32
  let v1472 : BitVec 32 := Scalar.muli arg14 c512_i32_1384
  let c2048_i32_1387 : BitVec 32 := 2048#32
  ![v1472.toNat, 2048]
def k0_cond6 (k0_t3 : Fin k0_t3_loop.trips) : BitVec 1 :=
  let c0_i32_1088 : BitVec 32 := 0#32
  let c1_i32_1090 : BitVec 32 := 1#32
  let arg14 : BitVec 32 := Scf.iv c0_i32_1088 c1_i32_1090 k0_t3
  let c7_i32_1426 : BitVec 32 := 7#32
  let v1515 : BitVec 32 := Scalar.muli arg14 c7_i32_1426
  let c5_i32_1427 : BitVec 32 := 5#32
  let v1516 : BitVec 32 := Scalar.addi v1515 c5_i32_1427
  let c2_i32_1428 : BitVec 32 := 2#32
  let v1517 : BitVec 1 := Scalar.cmpi .sge v1516 c2_i32_1428
  let v1518 : BitVec 32 := Scalar.extui v1517
  let c0_i32_1429 : BitVec 32 := 0#32
  let v1519 : BitVec 1 := Scalar.cmpi .ne v1518 c0_i32_1429
  v1519

def k0_off51 (k0_t3 : Fin k0_t3_loop.trips) : Fin 2 → Nat :=
  let c0_i32_1088 : BitVec 32 := 0#32
  let c1_i32_1090 : BitVec 32 := 1#32
  let arg14 : BitVec 32 := Scf.iv c0_i32_1088 c1_i32_1090 k0_t3
  let c512_i32_1490 : BitVec 32 := 512#32
  let v1582 : BitVec 32 := Scalar.muli arg14 c512_i32_1490
  let c2560_i32_1493 : BitVec 32 := 2560#32
  ![v1582.toNat, 2560]
def k0_off52 (k0_t3 : Fin k0_t3_loop.trips) : Fin 2 → Nat :=
  let c0_i32_1088 : BitVec 32 := 0#32
  let c1_i32_1090 : BitVec 32 := 1#32
  let arg14 : BitVec 32 := Scf.iv c0_i32_1088 c1_i32_1090 k0_t3
  let c512_i32_1434 : BitVec 32 := 512#32
  let v1524 : BitVec 32 := Scalar.muli arg14 c512_i32_1434
  let c2560_i32_1437 : BitVec 32 := 2560#32
  ![v1524.toNat, 2560]
def k0_cond7 (k0_t3 : Fin k0_t3_loop.trips) : BitVec 1 :=
  let c0_i32_1088 : BitVec 32 := 0#32
  let c1_i32_1090 : BitVec 32 := 1#32
  let arg14 : BitVec 32 := Scf.iv c0_i32_1088 c1_i32_1090 k0_t3
  let c7_i32_1476 : BitVec 32 := 7#32
  let v1567 : BitVec 32 := Scalar.muli arg14 c7_i32_1476
  let c6_i32_1477 : BitVec 32 := 6#32
  let v1568 : BitVec 32 := Scalar.addi v1567 c6_i32_1477
  let c2_i32_1478 : BitVec 32 := 2#32
  let v1569 : BitVec 1 := Scalar.cmpi .sge v1568 c2_i32_1478
  let v1570 : BitVec 32 := Scalar.extui v1569
  let c0_i32_1479 : BitVec 32 := 0#32
  let v1571 : BitVec 1 := Scalar.cmpi .ne v1570 c0_i32_1479
  v1571

def k0_off53 (k0_t3 : Fin k0_t3_loop.trips) : Fin 2 → Nat :=
  let c0_i32_1088 : BitVec 32 := 0#32
  let c1_i32_1090 : BitVec 32 := 1#32
  let arg14 : BitVec 32 := Scf.iv c0_i32_1088 c1_i32_1090 k0_t3
  let c512_i32_1490 : BitVec 32 := 512#32
  let v1582 : BitVec 32 := Scalar.muli arg14 c512_i32_1490
  let c3072_i32_1493 : BitVec 32 := 3072#32
  ![v1582.toNat, 3072]
def k0_off54 (k0_t3 : Fin k0_t3_loop.trips) : Fin 2 → Nat :=
  let c0_i32_1088 : BitVec 32 := 0#32
  let c1_i32_1090 : BitVec 32 := 1#32
  let arg14 : BitVec 32 := Scf.iv c0_i32_1088 c1_i32_1090 k0_t3
  let c512_i32_1484 : BitVec 32 := 512#32
  let v1576 : BitVec 32 := Scalar.muli arg14 c512_i32_1484
  let c3072_i32_1487 : BitVec 32 := 3072#32
  ![v1576.toNat, 3072]
abbrev stage0_0 : Fin 1 → Memref sig .tc .vmem S3x4x3584 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x4x2560 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S3584x4x384 : Shape := ⟨3, ![3584, 4, 384]⟩
abbrev S3584x4x3 : Shape := ⟨3, ![3584, 4, 3]⟩
abbrev S2560x4x384 : Shape := ⟨3, ![2560, 4, 384]⟩
abbrev S2560x4x3 : Shape := ⟨3, ![2560, 4, 3]⟩
abbrev S2560x3584 : Shape := ⟨2, ![2560, 3584]⟩
abbrev S3584x4x3x1 : Shape := ⟨4, ![3584, 4, 3, 1]⟩
abbrev S3584x4x3x128 : Shape := ⟨4, ![3584, 4, 3, 128]⟩
abbrev S2560x4x3x1 : Shape := ⟨4, ![2560, 4, 3, 1]⟩
abbrev S2560x4x3x128 : Shape := ⟨4, ![2560, 4, 3, 128]⟩

abbrev nBuf : Space → Nat
  | .hbm => 5
  | .vmem => 5
  | .smem => 0
  | _ => 0

abbrev bufTy : (tb : Table) → Fin (tcTables nBuf tb) → BufTy
  | .hbm, ⟨0, _⟩ => ⟨S3584x4x384, .i8⟩
  | .hbm, ⟨1, _⟩ => ⟨S3584x4x3, .f32⟩
  | .hbm, ⟨2, _⟩ => ⟨S2560x4x384, .i8⟩
  | .hbm, ⟨3, _⟩ => ⟨S2560x4x3, .f32⟩
  | .hbm, ⟨4, _⟩ => ⟨S2560x3584, .f32⟩
  | .local _ .vmem, ⟨0, _⟩ => ⟨S3584x4x384, .i8⟩
  | .local _ .vmem, ⟨1, _⟩ => ⟨S3584x4x3, .f32⟩
  | .local _ .vmem, ⟨2, _⟩ => ⟨S2560x4x384, .i8⟩
  | .local _ .vmem, ⟨3, _⟩ => ⟨S2560x4x3, .f32⟩
  | .local _ .vmem, ⟨4, _⟩ => ⟨S2560x3584, .f32⟩
  | _, _ => ⟨S3584x4x384, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S3584x4x384 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3584x4x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2560x4x384 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2560x4x3 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2560x3584 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.WordBlocks.lean ====
module

public import proofs.«01_k».proof.Proof.Gen.Kernel.Frame
public import proofs.«01_k».proof.Proof.Gen.Kernel.Loops
public import Idealize.ShloMosaic.Lib.Pipeline.ValueKit.Geometry
public import Idealize.ShloMosaic.Lib.Pipeline.Value
public import Idealize.ShloMosaic.Lib.Ring

@[expose] public section

/-! The blocks of the kernel's output and the two slots they are sent from, as sets of elements and as holdings. -/

namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.Sem

variable {F : FTy → Type} [BitOps F]

local notation "𝕄" => MT nD τ sig Unit (Elt F) ℕ (Pipeline.UD sig nD τ) ℕ

/-- The contents of a buffer of the kernel on core `c`. -/
abbrev Cont (F : FTy → Type) (c : Dev nD) (b : Ref sig .tc) : Type := Buf (Elt F) ((c : Thread nD τ).loc b)

/-- One output block's window. -/
abbrev ow (o : Fin 2 → ℕ) (h : ∀ a, o a + S512x512.size a ≤ S2560x3584.size a) : Memref sig .tc .hbm S512x512 .f32 :=
  (Memref.whole main_v8).slice (Rect.unit (s := S2560x3584) o S512x512.size h) (fun _ => rfl)
/-- The first slot of the output buffer. -/
abbrev slot0 : Memref sig .tc .vmem S512x512 .f32 :=
  ((Memref.whole cc0_scratch6).slice (Rect.unit (s := S2x512x512) ![0, 0, 0] S1x512x512.size inb_S2x512x512_S1x512x512_0_0_0) (fun _ => rfl)).squeeze S512x512 squeezes_S1x512x512_S512x512
/-- The second slot of the output buffer. -/
abbrev slot1 : Memref sig .tc .vmem S512x512 .f32 :=
  ((Memref.whole cc0_scratch6).slice (Rect.unit (s := S2x512x512) ![1, 0, 0] S1x512x512.size inb_S2x512x512_S1x512x512_1_0_0) (fun _ => rfl)).squeeze S512x512 squeezes_S1x512x512_S512x512

/-- The elements of the output's block number `n`, the blocks counted row block by row block. -/
def blk (n : ℕ) : Finset S2560x3584.Idx := Finset.univ.filter fun i => 7 * ((i 0).val / 512) + (i 1).val / 512 = n

/-- A window's elements are its block's. -/
theorem ow_set (o : Fin 2 → ℕ) (h) (a b : ℕ) (ha : o 0 = 512 * a) (hb : o 1 = 512 * b) (hb7 : b < 7) : (ow o h).view.set = blk (7 * a + b) := by
  ext i
  refine (ValueKit.mem_set_slice_whole_iff main_v8 (Rect.unit (s := S2560x3584) o S512x512.size h) i Rect.mem_set_unit).trans ?_
  have h1 : (i 1).val < 3584 := (i 1).isLt
  simp only [blk, Finset.mem_filter, Finset.mem_univ, true_and]
  constructor
  · intro H
    have e0 : o 0 ≤ (i 0).val ∧ (i 0).val < o 0 + 512 := H 0
    have e1 : o 1 ≤ (i 1).val ∧ (i 1).val < o 1 + 512 := H 1
    rw [ha] at e0; rw [hb] at e1; omega
  · intro H a'
    fin_cases a'
    · show o 0 ≤ (i 0).val ∧ (i 0).val < o 0 + 512
      rw [ha]; omega
    · show o 1 ≤ (i 1).val ∧ (i 1).val < o 1 + 512
      rw [hb]; omega

/-- Block number `m` of the output holding `f`. -/
noncomputable abbrev atB (c : Dev nD) (m : ℕ) (f : Cont F c main_v8) : sProp 𝕄 := ((Memref.whole main_v8).view.loc (c : Thread nD τ) ↦[blk m]{fullShare} f)
/-- Block number `m` of the output, whatever it holds. -/
noncomputable abbrev atE (c : Dev nD) (m : ℕ) : sProp 𝕄 := iprop(∃ f : Cont F c main_v8, atB c m f)

theorem atB_eq (c : Dev nD) (o : Fin 2 → ℕ) (h) (a b : ℕ) (ha : o 0 = 512 * a) (hb : o 1 = 512 * b) (hb7 : b < 7) (f : Cont F c main_v8) :
    atB c (7 * a + b) f = ((ow o h).view.loc (c : Thread nD τ) ↦[(ow o h).view.set]{fullShare} f) := by
  rw [ow_set o h a b ha hb hb7]

theorem entails_of_eq {P Q : sProp 𝕄} (e : P = Q) : P ⊢ Q := e ▸ .rfl

/-- A window of the output is a block of it. -/
theorem block_out (c : Dev nD) (a b : ℕ) (o : Fin 2 → ℕ) (h) (ha : o 0 = 512 * a) (hb : o 1 = 512 * b) (hb7 : b < 7) (f : Cont F c main_v8) :
    ((ow o h).view.loc (c : Thread nD τ) ↦[(ow o h).view.set]{fullShare} f : sProp 𝕄) ⊢ atE c (7 * a + b) := by
  iintro H
  iexists f
  iapply (entails_of_eq (atB_eq c o h a b ha hb hb7 f).symm) $$ H

/-- A block on its way from a slot. -/
noncomputable abbrev fly (c : Dev nD) (l : SemLoc sig) (m : ℕ) (R : Cont F c cc0_scratch6 → sProp 𝕄) : sProp 𝕄 :=
  iprop(∃ (f : Cont F c main_v8) (s : Cont F c cc0_scratch6), Transfers.Flight countersEmb (c : Thread nD τ) l () 32768 iprop(atB c m f ∗ R s))

/-- A window of the output under way is a block under way. -/
theorem flight_out (c : Dev nD) (a b : ℕ) (o : Fin 2 → ℕ) (h) (ha : o 0 = 512 * a) (hb : o 1 = 512 * b) (hb7 : b < 7) (f : Cont F c main_v8) (l : SemLoc sig)
    (R : Cont F c cc0_scratch6 → sProp 𝕄) (s : Cont F c cc0_scratch6) :
    (Transfers.Flight countersEmb (c : Thread nD τ) l () 32768 iprop(((ow o h).view.loc (c : Thread nD τ) ↦[(ow o h).view.set]{fullShare} f) ∗ R s) : sProp 𝕄)
      ⊢ fly c l (7 * a + b) R := by
  rw [← atB_eq c o h a b ha hb hb7 f]
  iintro H
  iexists f
  iexists s
  iexact H

/-- Offsets of the seven output windows of trip `k`. -/
theorem oOff_eq (k : Fin k0_t3_loop.trips) : k0_off42 k = ![512 * k.val, 0] ∧ k0_off44 k = ![512 * k.val, 512] ∧ k0_off46 k = ![512 * k.val, 1024]
    ∧ k0_off48 k = ![512 * k.val, 1536] ∧ k0_off50 k = ![512 * k.val, 2048] ∧ k0_off52 k = ![512 * k.val, 2560] ∧ k0_off54 k = ![512 * k.val, 3072] := by
  revert k; decide

/-- The elements of the output's blocks before number `n`. -/
def below (n : ℕ) : Finset S2560x3584.Idx := Finset.univ.filter fun i => 7 * ((i 0).val / 512) + (i 1).val / 512 < n
/-- The elements of the output's blocks from number `n` on. -/
def from' (n : ℕ) : Finset S2560x3584.Idx := Finset.univ.filter fun i => n ≤ 7 * ((i 0).val / 512) + (i 1).val / 512

theorem below_succ (n : ℕ) : below (n + 1) = below n ∪ blk n := by
  ext i; simp only [below, blk, Finset.mem_union, Finset.mem_filter, Finset.mem_univ, true_and]; omega
theorem below_disj (n : ℕ) : Disjoint (below n) (blk n) := by
  rw [Finset.disjoint_left]; intro i; simp only [below, blk, Finset.mem_filter, Finset.mem_univ, true_and]; omega
theorem from_eq (n : ℕ) : from' n = blk n ∪ from' (n + 1) := by
  ext i; simp only [from', blk, Finset.mem_union, Finset.mem_filter, Finset.mem_univ, true_and]; omega
theorem from_disj (n : ℕ) : Disjoint (blk n) (from' (n + 1)) := by
  rw [Finset.disjoint_left]; intro i; simp only [from', blk, Finset.mem_filter, Finset.mem_univ, true_and]; omega
theorem from_zero : from' 0 = Finset.univ := by
  ext i; simp [from']
theorem below_zero : below 0 = ∅ := by
  ext i; simp [below]
theorem below_all : below 35 = Finset.univ := by
  ext i
  have h0 : (i 0).val < 2560 := (i 0).isLt
  have h1 : (i 1).val < 3584 := (i 1).isLt
  simp only [below, Finset.mem_filter, Finset.mem_univ, true_and, iff_true]; omega

/-- The blocks before number `n`, whatever they hold. -/
noncomputable abbrev belowE (c : Dev nD) (n : ℕ) : sProp 𝕄 := iprop(∃ f : Cont F c main_v8, (Memref.whole main_v8).view.loc (c : Thread nD τ) ↦[below n]{fullShare} f)
/-- The blocks from number `n` on holding `f`. -/
noncomputable abbrev fromB (c : Dev nD) (n : ℕ) (f : Cont F c main_v8) : sProp 𝕄 := ((Memref.whole main_v8).view.loc (c : Thread nD τ) ↦[from' n]{fullShare} f)

theorem belowE_succ (c : Dev nD) (n : ℕ) : (iprop(belowE c n ∗ atE c n) : sProp 𝕄) ⊢ belowE (F := F) c (n + 1) := by
  iintro ⟨⟨%f, H⟩, ⟨%g, B⟩⟩
  iexists ((blk n).piecewise g f)
  rw [below_succ]
  iapply (pointsTo_join (below_disj n))
  isplitl [H]; · iexact H
  iexact B
theorem fromB_split (c : Dev nD) (n : ℕ) (f : Cont F c main_v8) : (fromB c n f : sProp 𝕄) ⊢ iprop(atB c n f ∗ fromB c (n + 1) f) := by
  refine (entails_of_eq ?_).trans (pointsTo_union (from_disj n)).1
  rw [← from_eq]
theorem belowE_zero (c : Dev nD) (f : Cont F c main_v8) : (iprop(emp) : sProp 𝕄) ⊢ belowE c 0 := by
  have e' : (iprop(emp) : sProp 𝕄) = ((Memref.whole main_v8).view.loc (c : Thread nD τ) ↦[below 0]{fullShare} f) := by rw [below_zero, pointsTo_empty]
  refine (entails_of_eq e').trans ?_
  iintro H
  iexists f
  iexact H

/-- The blocks of a trip, taken from those to come. -/
theorem fromB_trip (c : Dev nD) (e : ℕ) (f : Cont F c main_v8) : (fromB c e f : sProp 𝕄)
    ⊢ iprop(atB c (e + 0) f ∗ atB c (e + 1) f ∗ atB c (e + 2) f ∗ atB c (e + 3) f ∗ atB c (e + 4) f ∗ atB c (e + 5) f ∗ atB c (e + 6) f ∗ fromB c (e + 7) f) := by
  iintro H
  ihave H := (fromB_split c e f) $$ H; icases H with ⟨B0, H⟩
  ihave H := (fromB_split c (e + 1) f) $$ H; icases H with ⟨B1, H⟩
  ihave H := (fromB_split c (e + 2) f) $$ H; icases H with ⟨B2, H⟩
  ihave H := (fromB_split c (e + 3) f) $$ H; icases H with ⟨B3, H⟩
  ihave H := (fromB_split c (e + 4) f) $$ H; icases H with ⟨B4, H⟩
  ihave H := (fromB_split c (e + 5) f) $$ H; icases H with ⟨B5, H⟩
  ihave H := (fromB_split c (e + 6) f) $$ H; icases H with ⟨B6, H⟩
  isplitl [B0]; · iexact B0
  isplitl [B1]; · iexact B1
  isplitl [B2]; · iexact B2
  isplitl [B3]; · iexact B3
  isplitl [B4]; · iexact B4
  isplitl [B5]; · iexact B5
  isplitl [B6]; · iexact B6
  iexact H

/-- Five blocks more done. -/
theorem belowE_trip (c : Dev nD) (e : ℕ)  :
    (iprop(belowE c e ∗ atE c (e + 0) ∗ atE c (e + 1) ∗ atE c (e + 2) ∗ atE c (e + 3) ∗ atE c (e + 4)) : sProp 𝕄) ⊢ belowE (F := F) c (e + 5) := by
  iintro ⟨H, B0, B1, B2, B3, B4⟩
  iapply (belowE_succ c (e + 4)); isplitr [B4]; swap; · iexact B4
  iapply (belowE_succ c (e + 3)); isplitr [B3]; swap; · iexact B3
  iapply (belowE_succ c (e + 2)); isplitr [B2]; swap; · iexact B2
  iapply (belowE_succ c (e + 1)); isplitr [B1]; swap; · iexact B1
  iapply (belowE_succ c e); isplitl [H]; · iexact H
  iexact B0

theorem mem_slot (o : Fin 3 → ℕ) (h : ∀ a, o a + S1x512x512.size a ≤ S2x512x512.size a) (n : ℕ) (e : o = ![n, 0, 0]) (i : S2x512x512.Idx) :
    i ∈ (((Memref.whole cc0_scratch6).slice (Rect.unit (s := S2x512x512) o S1x512x512.size h) (fun _ => rfl)).squeeze S512x512 squeezes_S1x512x512_S512x512).view.set ↔ (i 0).val = n := by
  subst e
  rw [Memref.set_view_squeeze]
  refine (ValueKit.mem_set_slice_whole_iff cc0_scratch6 (Rect.unit (s := S2x512x512) ![n, 0, 0] S1x512x512.size h) i Rect.mem_set_unit).trans ?_
  have h1 : (i 1).val < 512 := (i 1).isLt
  have h2 : (i 2).val < 512 := (i 2).isLt
  constructor
  · intro H
    have e0 : n ≤ (i 0).val ∧ (i 0).val < n + 1 := H 0
    omega
  · intro H a
    fin_cases a
    · show n ≤ (i 0).val ∧ (i 0).val < n + 1; omega
    · show 0 ≤ (i 1).val ∧ (i 1).val < 0 + 512; omega
    · show 0 ≤ (i 2).val ∧ (i 2).val < 0 + 512; omega

theorem slots_disj : Disjoint slot0.view.set slot1.view.set := by
  rw [Finset.disjoint_left]
  intro i h0 h1
  have e0 := (mem_slot ![0, 0, 0] inb_S2x512x512_S1x512x512_0_0_0 0 rfl i).mp h0
  have e1 := (mem_slot ![1, 0, 0] inb_S2x512x512_S1x512x512_1_0_0 1 rfl i).mp h1
  omega

theorem slots_univ : slot0.view.set ∪ slot1.view.set = Finset.univ := by
  ext i
  have hi : ((i : S2x512x512.Idx) 0).val < 2 := ((i : S2x512x512.Idx) 0).isLt
  simp only [Finset.mem_union, Finset.mem_univ, iff_true]
  rcases (by omega : ((i : S2x512x512.Idx) 0).val = 0 ∨ ((i : S2x512x512.Idx) 0).val = 1) with e | e
  · exact Or.inl ((mem_slot ![0, 0, 0] inb_S2x512x512_S1x512x512_0_0_0 0 rfl i).mpr e)
  · exact Or.inr ((mem_slot ![1, 0, 0] inb_S2x512x512_S1x512x512_1_0_0 1 rfl i).mpr e)

/-- The output buffer is its two slots. -/
theorem slots_split (c : Dev nD) (f : Cont F c cc0_scratch6) : ((Memref.whole cc0_scratch6).view.loc (c : Thread nD τ) ↦{fullShare} f : sProp 𝕄)
    ⊢ iprop((slot0.view.loc (c : Thread nD τ) ↦[slot0.view.set]{fullShare} f) ∗ (slot1.view.loc (c : Thread nD τ) ↦[slot1.view.set]{fullShare} f)) :=
  (entails_of_eq (congrArg (fun I => (((Memref.whole cc0_scratch6).view.loc (c : Thread nD τ) ↦[I]{fullShare} f) : sProp 𝕄)) slots_univ.symm)).trans (pointsTo_union slots_disj).1

theorem slots_join (c : Dev nD) (f g : Cont F c cc0_scratch6) :
    (iprop((slot0.view.loc (c : Thread nD τ) ↦[slot0.view.set]{fullShare} f) ∗ (slot1.view.loc (c : Thread nD τ) ↦[slot1.view.set]{fullShare} g)) : sProp 𝕄)
      ⊢ iprop(∃ h : Cont F c cc0_scratch6, ((Memref.whole cc0_scratch6).view.loc (c : Thread nD τ) ↦{fullShare} h)) := by
  refine (pointsTo_join slots_disj).trans ?_
  refine (entails_of_eq (congrArg (fun I => (((Memref.whole cc0_scratch6).view.loc (c : Thread nD τ) ↦[I]{fullShare} _) : sProp 𝕄)) slots_univ)).trans ?_
  iintro H
  iexists _
  iexact H

theorem fromB_zero (c : Dev nD) (f : Cont F c main_v8) : ((Memref.whole main_v8).view.loc (c : Thread nD τ) ↦{fullShare} f : sProp 𝕄) ⊢ fromB c (7 * 0) f :=
  entails_of_eq (congrArg (fun I => (((Memref.whole main_v8).view.loc (c : Thread nD τ) ↦[I]{fullShare} f) : sProp 𝕄)) from_zero.symm)

/-- The blocks before the last two and the last two are the whole output. -/
theorem out_whole (c : Dev nD) : (iprop(belowE c 33 ∗ atE c 33 ∗ atE c 34) : sProp 𝕄) ⊢ iprop(∃ f : Cont F c main_v8, (Memref.whole main_v8).view.loc (c : Thread nD τ) ↦{fullShare} f) := by
  iintro ⟨H, H0, H1⟩
  ihave H := (belowE_succ c 33) $$ [H H0]
  · isplitl [H]; · iexact H
    iexact H0
  ihave H := (belowE_succ c 34) $$ [H H1]
  · isplitl [H]; · iexact H
    iexact H1
  icases H with ⟨%f, H⟩
  iexists f
  iapply (entails_of_eq (congrArg (fun I => (((Memref.whole main_v8).view.loc (c : Thread nD τ) ↦[I]{fullShare} f) : sProp 𝕄)) below_all)) $$ H

end Cert.Kernel.Hand
-- ==== Proof.WordLoop3.lean ====
module

public import proofs.«01_k».proof.Proof.WordBlocks

@[expose] public section

/-! The output loop of the kernel: every trip ends, its transfers within their bounds, each slot's transfer awaited before the slot is used again. -/

namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.Sem

variable {F : FTy → Type} [BitOps F]

local notation "𝕄" => MT nD τ sig Unit (Elt F) ℕ (Pipeline.UD sig nD τ) ℕ

/-- Trip `k` of the output loop on the kernel's buffers. -/
noncomputable abbrev body3 (arg1 : Memref sig .tc .vmem S3x4x3584 .f32) (harg1 : arg1.IsWhole) (arg3 : Memref sig .tc .vmem S3x4x2560 .f32) (harg3 : arg3.IsWhole)
    (k : Fin k0_t3_loop.trips) : Prog (TpuEff nD τ sig (Elt F) Λ₀ .tc) Unit :=
  k0_t3_body (Memref.whole main_v2) (Memref.isWhole_whole _) arg1 harg1 (Memref.whole main_v6) (Memref.isWhole_whole _) arg3 harg3 (Memref.whole main_v8) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 k ()

/-- What trip `k` leaves: the packed factors, its first five blocks at the output, the last two on their way from the two slots. -/
noncomputable abbrev after3 (c : Dev nD) (f9 : Cont F c cc0_scratch4) (f10 : Cont F c cc0_scratch5) (k : ℕ) : sProp 𝕄 :=
  iprop(((Memref.whole cc0_scratch4).view.loc (c : Thread nD τ) ↦{fullShare} f9)
    ∗ ((Memref.whole cc0_scratch5).view.loc (c : Thread nD τ) ↦{fullShare} f10)
    ∗ atE c (7 * k + 0) ∗ atE c (7 * k + 1) ∗ atE c (7 * k + 2) ∗ atE c (7 * k + 3) ∗ atE c (7 * k + 4)
    ∗ fly c (SemLoc.dma (15 : DmaSem sig)) (7 * k + 5) (fun s1 => slot1.view.loc (c : Thread nD τ) ↦[slot1.view.set]{fullShare} s1)
    ∗ fly c (SemLoc.dma (14 : DmaSem sig)) (7 * k + 6) (fun s0 => slot0.view.loc (c : Thread nD τ) ↦[slot0.view.set]{fullShare} s0)
    ∗ ∃ W, owes (c : Thread nD τ) 0 W)

/-- What trip `k` finds of its own: the packed factors and its seven blocks. -/
noncomputable abbrev before3 (c : Dev nD) (f9 : Cont F c cc0_scratch4) (f10 : Cont F c cc0_scratch5) (f4 : Cont F c main_v8) (k : Fin k0_t3_loop.trips) : sProp 𝕄 :=
  iprop(((Memref.whole cc0_scratch4).view.loc (c : Thread nD τ) ↦{fullShare} f9)
    ∗ ((Memref.whole cc0_scratch5).view.loc (c : Thread nD τ) ↦{fullShare} f10)
    ∗ ((ow (k0_off42 k) (k0_off42_inb k)).view.loc (c : Thread nD τ) ↦[(ow (k0_off42 k) (k0_off42_inb k)).view.set]{fullShare} f4)
    ∗ ((ow (k0_off44 k) (k0_off44_inb k)).view.loc (c : Thread nD τ) ↦[(ow (k0_off44 k) (k0_off44_inb k)).view.set]{fullShare} f4)
    ∗ ((ow (k0_off46 k) (k0_off46_inb k)).view.loc (c : Thread nD τ) ↦[(ow (k0_off46 k) (k0_off46_inb k)).view.set]{fullShare} f4)
    ∗ ((ow (k0_off48 k) (k0_off48_inb k)).view.loc (c : Thread nD τ) ↦[(ow (k0_off48 k) (k0_off48_inb k)).view.set]{fullShare} f4)
    ∗ ((ow (k0_off50 k) (k0_off50_inb k)).view.loc (c : Thread nD τ) ↦[(ow (k0_off50 k) (k0_off50_inb k)).view.set]{fullShare} f4)
    ∗ ((ow (k0_off52 k) (k0_off52_inb k)).view.loc (c : Thread nD τ) ↦[(ow (k0_off52 k) (k0_off52_inb k)).view.set]{fullShare} f4)
    ∗ ((ow (k0_off54 k) (k0_off54_inb k)).view.loc (c : Thread nD τ) ↦[(ow (k0_off54 k) (k0_off54_inb k)).view.set]{fullShare} f4))

/-- The trip's windows are its blocks. -/
theorem before3_intro (c : Dev nD) (f9 : Cont F c cc0_scratch4) (f10 : Cont F c cc0_scratch5) (f4 : Cont F c main_v8) (k : Fin k0_t3_loop.trips) :
    (iprop(((Memref.whole cc0_scratch4).view.loc (c : Thread nD τ) ↦{fullShare} f9)
    ∗ ((Memref.whole cc0_scratch5).view.loc (c : Thread nD τ) ↦{fullShare} f10)
    ∗ atB c (7 * k.val + 0) f4
    ∗ atB c (7 * k.val + 1) f4
    ∗ atB c (7 * k.val + 2) f4
    ∗ atB c (7 * k.val + 3) f4
    ∗ atB c (7 * k.val + 4) f4
    ∗ atB c (7 * k.val + 5) f4
    ∗ atB c (7 * k.val + 6) f4) : sProp 𝕄) ⊢ before3 c f9 f10 f4 k := by
  obtain ⟨e0, e1, e2, e3, e4, e5, e6⟩ := oOff_eq k
  rw [atB_eq c _ (k0_off42_inb k) k.val 0 (by rw [e0]; rfl) (by rw [e0]; rfl) (by decide), atB_eq c _ (k0_off44_inb k) k.val 1 (by rw [e1]; rfl) (by rw [e1]; rfl) (by decide),
    atB_eq c _ (k0_off46_inb k) k.val 2 (by rw [e2]; rfl) (by rw [e2]; rfl) (by decide), atB_eq c _ (k0_off48_inb k) k.val 3 (by rw [e3]; rfl) (by rw [e3]; rfl) (by decide),
    atB_eq c _ (k0_off50_inb k) k.val 4 (by rw [e4]; rfl) (by rw [e4]; rfl) (by decide), atB_eq c _ (k0_off52_inb k) k.val 5 (by rw [e5]; rfl) (by rw [e5]; rfl) (by decide),
    atB_eq c _ (k0_off54_inb k) k.val 6 (by rw [e6]; rfl) (by rw [e6]; rfl) (by decide)]

set_option sl_exec.squeezeSlice true in
set_option maxHeartbeats 0 in
/-- A trip after the first: the two transfers that the trip before left under way are awaited in it. -/
theorem trip3 (c : Dev nD) (arg1 : Memref sig .tc .vmem S3x4x3584 .f32) (harg1 : arg1.IsWhole)
    (arg3 : Memref sig .tc .vmem S3x4x2560 .f32) (harg3 : arg3.IsWhole)
    (f9 : Cont F c cc0_scratch4) (f10 : Cont F c cc0_scratch5) (f4 g0 g1 : Cont F c main_v8) (s0 s1 : Cont F c cc0_scratch6) (D0 D1 : Finset S2560x3584.Idx)
    (k : Fin k0_t3_loop.trips) (W : Waits sig Unit)
    (hc1 : k0_cond1 k = 1#1) (hc2 : k0_cond2 k = 1#1) (hc3 : k0_cond3 k = 1#1) (hc4 : k0_cond4 k = 1#1) (hc5 : k0_cond5 k = 1#1) (hc6 : k0_cond6 k = 1#1) (hc7 : k0_cond7 k = 1#1) :
    iprop(before3 c f9 f10 f4 k
      ∗ Transfers.Flight countersEmb (c : Thread nD τ) (SemLoc.dma (14 : DmaSem sig)) () 32768 iprop(((Memref.whole main_v8).view.loc (c : Thread nD τ) ↦[D0]{fullShare} g0) ∗ (slot0.view.loc (c : Thread nD τ) ↦[slot0.view.set]{fullShare} s0))
      ∗ Transfers.Flight countersEmb (c : Thread nD τ) (SemLoc.dma (15 : DmaSem sig)) () 32768 iprop(((Memref.whole main_v8).view.loc (c : Thread nD τ) ↦[D1]{fullShare} g1) ∗ (slot1.view.loc (c : Thread nD τ) ↦[slot1.view.set]{fullShare} s1))
      ∗ owes (c : Thread nD τ) 0 W)
      ⊢ (wp frame (wpE (defs₀ (F := F)) Variants.none c none) Set.univ (body3 arg1 harg1 arg3 harg3 k)
          fun _ => iprop(((Memref.whole main_v8).view.loc (c : Thread nD τ) ↦[D0]{fullShare} g0) ∗ ((Memref.whole main_v8).view.loc (c : Thread nD τ) ↦[D1]{fullShare} g1) ∗ after3 c f9 f10 k.val) : sProp 𝕄) := by
  obtain ⟨e0, e1, e2, e3, e4, e5, e6⟩ := oOff_eq k
  iintro ⟨⟨H9, H10, B0, B1, B2, B3, B4, B5, B6⟩, FL0, FL1, HW⟩
  unfold body3 k0_t3_body
  sl_exec
  sl_step
  have a0 : k0_off42 k 0 = 512 * k.val := by rw [e0]; rfl
  have b0 : k0_off42 k 1 = 512 * ((0 : Fin 7) : ℕ) := by rw [e0]; rfl
  have a1 : k0_off44 k 0 = 512 * k.val := by rw [e1]; rfl
  have b1 : k0_off44 k 1 = 512 * ((1 : Fin 7) : ℕ) := by rw [e1]; rfl
  have a2 : k0_off46 k 0 = 512 * k.val := by rw [e2]; rfl
  have b2 : k0_off46 k 1 = 512 * ((2 : Fin 7) : ℕ) := by rw [e2]; rfl
  have a3 : k0_off48 k 0 = 512 * k.val := by rw [e3]; rfl
  have b3 : k0_off48 k 1 = 512 * ((3 : Fin 7) : ℕ) := by rw [e3]; rfl
  have a4 : k0_off50 k 0 = 512 * k.val := by rw [e4]; rfl
  have b4 : k0_off50 k 1 = 512 * ((4 : Fin 7) : ℕ) := by rw [e4]; rfl
  have a5 : k0_off52 k 0 = 512 * k.val := by rw [e5]; rfl
  have b5 : k0_off52 k 1 = 512 * ((5 : Fin 7) : ℕ) := by rw [e5]; rfl
  have a6 : k0_off54 k 0 = 512 * k.val := by rw [e6]; rfl
  have b6 : k0_off54 k 1 = 512 * ((6 : Fin 7) : ℕ) := by rw [e6]; rfl
  isplitl [FL0_dst]; · iexact FL0_dst
  isplitl [FL1_dst]; · iexact FL1_dst
  isplitl [H9]; · iexact H9
  isplitl [H10]; · iexact H10
  isplitl [B0]
  · iapply (block_out c k.val 0 (k0_off42 k) (k0_off42_inb k) a0 b0 (by decide) _) $$ B0
  isplitl [B1]
  · iapply (block_out c k.val 1 (k0_off44 k) (k0_off44_inb k) a1 b1 (by decide) _) $$ B1
  isplitl [B2]
  · iapply (block_out c k.val 2 (k0_off46 k) (k0_off46_inb k) a2 b2 (by decide) _) $$ B2
  isplitl [B3]
  · iapply (block_out c k.val 3 (k0_off48 k) (k0_off48_inb k) a3 b3 (by decide) _) $$ B3
  isplitl [B4]
  · iapply (block_out c k.val 4 (k0_off50 k) (k0_off50_inb k) a4 b4 (by decide) _) $$ B4
  isplitl [FL1]
  · iapply (flight_out c k.val 5 (k0_off52 k) (k0_off52_inb k) a5 b5 (by decide) _ _ (fun s1 => slot1.view.loc (c : Thread nD τ) ↦[slot1.view.set]{fullShare} s1) _) $$ FL1
  isplitl [FL0]
  · iapply (flight_out c k.val 6 (k0_off54 k) (k0_off54_inb k) a6 b6 (by decide) _ _ (fun s0 => slot0.view.loc (c : Thread nD τ) ↦[slot0.view.set]{fullShare} s0) _) $$ FL0
  iexists _; iexact HW

set_option sl_exec.squeezeSlice true in
set_option maxHeartbeats 0 in
/-- The first trip: both slots free, their semaphores at zero. -/
theorem trip3_first (c : Dev nD) (arg1 : Memref sig .tc .vmem S3x4x3584 .f32) (harg1 : arg1.IsWhole)
    (arg3 : Memref sig .tc .vmem S3x4x2560 .f32) (harg3 : arg3.IsWhole)
    (f9 : Cont F c cc0_scratch4) (f10 : Cont F c cc0_scratch5) (f4 : Cont F c main_v8) (s0 s1 : Cont F c cc0_scratch6)
    (k : Fin k0_t3_loop.trips) (W : Waits sig Unit)
    (hc1 : ¬ k0_cond1 k = 1#1) (hc2 : ¬ k0_cond2 k = 1#1) (hc3 : k0_cond3 k = 1#1) (hc4 : k0_cond4 k = 1#1) (hc5 : k0_cond5 k = 1#1) (hc6 : k0_cond6 k = 1#1) (hc7 : k0_cond7 k = 1#1) :
    iprop(before3 c f9 f10 f4 k
      ∗ (slot0.view.loc (c : Thread nD τ) ↦[slot0.view.set]{fullShare} s0) ∗ semVal ((c : Thread nD τ), SemLoc.dma (14 : DmaSem sig)) 0
      ∗ (slot1.view.loc (c : Thread nD τ) ↦[slot1.view.set]{fullShare} s1) ∗ semVal ((c : Thread nD τ), SemLoc.dma (15 : DmaSem sig)) 0
      ∗ owes (c : Thread nD τ) 0 W)
      ⊢ (wp frame (wpE (defs₀ (F := F)) Variants.none c none) Set.univ (body3 arg1 harg1 arg3 harg3 k)
          fun _ => after3 c f9 f10 k.val : sProp 𝕄) := by
  obtain ⟨e0, e1, e2, e3, e4, e5, e6⟩ := oOff_eq k
  iintro ⟨⟨H9, H10, B0, B1, B2, B3, B4, B5, B6⟩, S0, Q0, S1, Q1, HW⟩
  unfold body3 k0_t3_body
  sl_exec
  sl_step
  have a0 : k0_off42 k 0 = 512 * k.val := by rw [e0]; rfl
  have b0 : k0_off42 k 1 = 512 * ((0 : Fin 7) : ℕ) := by rw [e0]; rfl
  have a1 : k0_off44 k 0 = 512 * k.val := by rw [e1]; rfl
  have b1 : k0_off44 k 1 = 512 * ((1 : Fin 7) : ℕ) := by rw [e1]; rfl
  have a2 : k0_off46 k 0 = 512 * k.val := by rw [e2]; rfl
  have b2 : k0_off46 k 1 = 512 * ((2 : Fin 7) : ℕ) := by rw [e2]; rfl
  have a3 : k0_off48 k 0 = 512 * k.val := by rw [e3]; rfl
  have b3 : k0_off48 k 1 = 512 * ((3 : Fin 7) : ℕ) := by rw [e3]; rfl
  have a4 : k0_off50 k 0 = 512 * k.val := by rw [e4]; rfl
  have b4 : k0_off50 k 1 = 512 * ((4 : Fin 7) : ℕ) := by rw [e4]; rfl
  have a5 : k0_off52 k 0 = 512 * k.val := by rw [e5]; rfl
  have b5 : k0_off52 k 1 = 512 * ((5 : Fin 7) : ℕ) := by rw [e5]; rfl
  have a6 : k0_off54 k 0 = 512 * k.val := by rw [e6]; rfl
  have b6 : k0_off54 k 1 = 512 * ((6 : Fin 7) : ℕ) := by rw [e6]; rfl
  isplitl [H9]; · iexact H9
  isplitl [H10]; · iexact H10
  isplitl [B0]
  · iapply (block_out c k.val 0 (k0_off42 k) (k0_off42_inb k) a0 b0 (by decide) _) $$ B0
  isplitl [B1]
  · iapply (block_out c k.val 1 (k0_off44 k) (k0_off44_inb k) a1 b1 (by decide) _) $$ B1
  isplitl [B2]
  · iapply (block_out c k.val 2 (k0_off46 k) (k0_off46_inb k) a2 b2 (by decide) _) $$ B2
  isplitl [B3]
  · iapply (block_out c k.val 3 (k0_off48 k) (k0_off48_inb k) a3 b3 (by decide) _) $$ B3
  isplitl [B4]
  · iapply (block_out c k.val 4 (k0_off50 k) (k0_off50_inb k) a4 b4 (by decide) _) $$ B4
  isplitl [Q1]
  · iapply (flight_out c k.val 5 (k0_off52 k) (k0_off52_inb k) a5 b5 (by decide) _ _ (fun s1 => slot1.view.loc (c : Thread nD τ) ↦[slot1.view.set]{fullShare} s1) _) $$ Q1
  isplitl [Q0]
  · iapply (flight_out c k.val 6 (k0_off54 k) (k0_off54_inb k) a6 b6 (by decide) _ _ (fun s0 => slot0.view.loc (c : Thread nD τ) ↦[slot0.view.set]{fullShare} s0) _) $$ Q0
  iexists _; iexact HW

/-- What the loop holds of the output and its two slots before trip `k`: at first nothing done and both slots free; later the last two
blocks of the trip before on their way, all earlier ones done. -/
noncomputable def mid3 (c : Dev nD) : ℕ → sProp 𝕄
  | 0 => iprop((∃ s0 : Cont F c cc0_scratch6, slot0.view.loc (c : Thread nD τ) ↦[slot0.view.set]{fullShare} s0) ∗ semVal ((c : Thread nD τ), SemLoc.dma (14 : DmaSem sig)) 0
      ∗ (∃ s1 : Cont F c cc0_scratch6, slot1.view.loc (c : Thread nD τ) ↦[slot1.view.set]{fullShare} s1) ∗ semVal ((c : Thread nD τ), SemLoc.dma (15 : DmaSem sig)) 0)
  | k + 1 => iprop(belowE c (7 * k + 5) ∗ fly c (SemLoc.dma (15 : DmaSem sig)) (7 * k + 5) (fun s1 => slot1.view.loc (c : Thread nD τ) ↦[slot1.view.set]{fullShare} s1) ∗ fly c (SemLoc.dma (14 : DmaSem sig)) (7 * k + 6) (fun s0 => slot0.view.loc (c : Thread nD τ) ↦[slot0.view.set]{fullShare} s0))

/-- The loop's invariant before trip `k`. -/
noncomputable def inv3 (c : Dev nD) (f9 : Cont F c cc0_scratch4) (f10 : Cont F c cc0_scratch5) (f4 : Cont F c main_v8) (k : ℕ) : sProp 𝕄 :=
  iprop(((Memref.whole cc0_scratch4).view.loc (c : Thread nD τ) ↦{fullShare} f9)
    ∗ ((Memref.whole cc0_scratch5).view.loc (c : Thread nD τ) ↦{fullShare} f10)
    ∗ fromB c (7 * k) f4 ∗ mid3 c k ∗ ∃ W, owes (c : Thread nD τ) 0 W)

/-- A trip keeps the invariant. -/
theorem step3 (c : Dev nD) (arg1 : Memref sig .tc .vmem S3x4x3584 .f32) (harg1 : arg1.IsWhole)
    (arg3 : Memref sig .tc .vmem S3x4x2560 .f32) (harg3 : arg3.IsWhole)
    (f9 : Cont F c cc0_scratch4) (f10 : Cont F c cc0_scratch5) (f4 : Cont F c main_v8) (k : Fin k0_t3_loop.trips) :
    (inv3 c f9 f10 f4 k.val : sProp 𝕄)
      ⊢ wp frame (wpE (defs₀ (F := F)) Variants.none c none) Set.univ (body3 arg1 harg1 arg3 harg3 k) fun _ => inv3 c f9 f10 f4 (k.val + 1) := by
  have hc : (1 ≤ k.val → k0_cond1 k = 1#1 ∧ k0_cond2 k = 1#1) ∧ (k.val = 0 → ¬ k0_cond1 k = 1#1 ∧ ¬ k0_cond2 k = 1#1)
      ∧ k0_cond3 k = 1#1 ∧ k0_cond4 k = 1#1 ∧ k0_cond5 k = 1#1 ∧ k0_cond6 k = 1#1 ∧ k0_cond7 k = 1#1 := by revert k; decide
  obtain ⟨hpos, hzero, hc3, hc4, hc5, hc6, hc7⟩ := hc
  unfold inv3
  rcases Nat.eq_zero_or_pos k.val with h0 | h1
  · obtain ⟨hc1, hc2⟩ := hzero h0
    have e : mid3 (F := F) c k.val = mid3 c 0 := by rw [h0]
    rw [e]; unfold mid3
    iintro ⟨H9, H10, HB, ⟨⟨%s0, S0⟩, Q0, ⟨%s1, S1⟩, Q1⟩, ⟨%W, HW⟩⟩
    ihave HB := (fromB_trip c (7 * k.val) f4) $$ HB
    icases HB with ⟨B0, B1, B2, B3, B4, B5, B6, HB⟩
    ihave HT := (before3_intro c f9 f10 f4 k) $$ [H9 H10 B0 B1 B2 B3 B4 B5 B6]
    · iframe
    ihave HR := (trip3_first c arg1 harg1 arg3 harg3 f9 f10 f4 s0 s1 k W hc1 hc2 hc3 hc4 hc5 hc6 hc7) $$ [HT S0 Q0 S1 Q1 HW]
    · iframe
    iapply (wp_wand_r frame (wpE (defs₀ (F := F)) Variants.none c none) Set.univ)
    isplitl [HR]; · iexact HR
    iintro %_ ⟨H9, H10, B0, B1, B2, B3, B4, F1, F0, HW⟩
    isplitl [H9]; · iexact H9
    isplitl [H10]; · iexact H10
    isplitl [HB]; · iexact HB
    isplitr [HW]; swap; · iexact HW
    isplitr [F0 F1]; swap; · iframe
    iapply (belowE_trip c (7 * k.val))
    iframe
    rw [h0]
    iapply (belowE_zero c f4)
    iempintro
  · obtain ⟨hc1, hc2⟩ := hpos h1
    obtain ⟨k', hk'⟩ : ∃ k', k.val = k' + 1 := ⟨k.val - 1, by omega⟩
    have e : mid3 (F := F) c k.val = mid3 c (k' + 1) := by rw [hk']
    rw [e]; unfold mid3
    iintro ⟨H9, H10, HB, ⟨HD, ⟨%g1, %s1, F1⟩, ⟨%g0, %s0, F0⟩⟩, ⟨%W, HW⟩⟩
    ihave HB := (fromB_trip c (7 * k.val) f4) $$ HB
    icases HB with ⟨B0, B1, B2, B3, B4, B5, B6, HB⟩
    ihave HT := (before3_intro c f9 f10 f4 k) $$ [H9 H10 B0 B1 B2 B3 B4 B5 B6]
    · iframe
    ihave HR := (trip3 c arg1 harg1 arg3 harg3 f9 f10 f4 g0 g1 s0 s1 (blk (7 * k' + 6)) (blk (7 * k' + 5)) k W hc1 hc2 hc3 hc4 hc5 hc6 hc7) $$ [HT F0 F1 HW]
    · iframe
    iapply (wp_wand_r frame (wpE (defs₀ (F := F)) Variants.none c none) Set.univ)
    isplitl [HR]; · iexact HR
    iintro %_ ⟨D0, D1, H9, H10, B0, B1, B2, B3, B4, F1, F0, HW⟩
    isplitl [H9]; · iexact H9
    isplitl [H10]; · iexact H10
    isplitl [HB]; · iexact HB
    isplitr [HW]; swap; · iexact HW
    isplitr [F0 F1]; swap; · iframe
    iapply (belowE_trip c (7 * k.val))
    iframe
    have e' : belowE (F := F) c (7 * k' + 6 + 1) = belowE c (7 * k.val) := by
      rw [show 7 * k' + 6 + 1 = 7 * k.val by omega]
    iapply (entails_of_eq e')
    iapply (belowE_succ c (7 * k' + 6))
    isplitr [D0]; swap; · iexists g0; iexact D0
    iapply (belowE_succ c (7 * k' + 5))
    isplitl [HD]; · iexact HD
    iexists g1; iexact D1

/-- What the last loop leaves. -/
theorem inv3_end (c : Dev nD) (f9 : Cont F c cc0_scratch4) (f10 : Cont F c cc0_scratch5) (f4 : Cont F c main_v8) :
    (inv3 c f9 f10 f4 k0_t3_loop.trips : sProp 𝕄) ⊢ iprop(((Memref.whole cc0_scratch4).view.loc (c : Thread nD τ) ↦{fullShare} f9)
    ∗ ((Memref.whole cc0_scratch5).view.loc (c : Thread nD τ) ↦{fullShare} f10)
    ∗ belowE c 33 ∗ fly c (SemLoc.dma (15 : DmaSem sig)) (33) (fun s1 => slot1.view.loc (c : Thread nD τ) ↦[slot1.view.set]{fullShare} s1) ∗ fly c (SemLoc.dma (14 : DmaSem sig)) (34) (fun s0 => slot0.view.loc (c : Thread nD τ) ↦[slot0.view.set]{fullShare} s0)
      ∗ ∃ W, owes (c : Thread nD τ) 0 W) := by
  have ht : k0_t3_loop.trips = 5 := by decide +kernel
  rw [ht]
  unfold inv3
  iintro ⟨H9, H10, -, Hm, HW⟩
  isplitl [H9]; · iexact H9
  isplitl [H10]; · iexact H10
  ihave Hm : (mid3 c (4 + 1)) $$ [Hm]
  · iexact Hm
  unfold mid3
  icases Hm with ⟨HB, FL1, FL0⟩
  isplitl [HB]; · iexact HB
  isplitl [FL1]; · iexact FL1
  isplitl [FL0]; · iexact FL0
  iexact HW

end Cert.Kernel.Hand
-- ==== Proof.WordTrip1.lean ====
module

public import proofs.«01_k».proof.Proof.WordBlocks

@[expose] public section

/-! The loop of the kernel that packs `y`: its trips end and stay within the buffers. -/

namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.Sem

variable {F : FTy → Type} [BitOps F]

local notation "𝕄" => MT nD τ sig Unit (Elt F) ℕ (Pipeline.UD sig nD τ) ℕ

/-- What a trip of the loop keeps: the code words, the scale words and the packed array, whatever they hold. -/
noncomputable def inv1 (c : Dev nD) : sProp 𝕄 :=
  iprop((∃ f : Cont F c cc0_scratch1, (Memref.whole cc0_scratch1).view.loc (c : Thread nD τ) ↦{fullShare} f)
    ∗ (∃ f : Cont F c cc0_scratch3, (Memref.whole cc0_scratch3).view.loc (c : Thread nD τ) ↦{fullShare} f)
    ∗ ∃ f : Cont F c cc0_scratch5, (Memref.whole cc0_scratch5).view.loc (c : Thread nD τ) ↦{fullShare} f)

set_option sl_exec.squeezeSlice true in
set_option maxHeartbeats 0 in
/-- One trip of the loop. -/
theorem step1 (c : Dev nD) (arg1 : Memref sig .tc .vmem S3x4x3584 .f32) (harg1 : arg1.IsWhole)
    (arg3 : Memref sig .tc .vmem S3x4x2560 .f32) (harg3 : arg3.IsWhole)
    (k : Fin k0_t1_loop.trips) :
    inv1 c ⊢ (wp frame (wpE (defs₀ (F := F)) Variants.none c none) Set.univ
        (k0_t1_body (Memref.whole main_v2) (Memref.isWhole_whole _) arg1 harg1 (Memref.whole main_v6) (Memref.isWhole_whole _) arg3 harg3 (Memref.whole main_v8) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 k ())
        fun _ => inv1 c : sProp 𝕄) := by
  unfold inv1
  iintro ⟨⟨%f, H6⟩, ⟨%f', H8⟩, %g, H10⟩
  unfold k0_t1_body
  sl_exec
  sl_step
  isplitl [H6]; · iexists _; iexact H6
  isplitl [H8]; · iexists _; iexact H8
  iexists _; iexact H10

end Cert.Kernel.Hand
-- ==== Proof.WordTrip2.lean ====
module

public import proofs.«01_k».proof.Proof.WordBlocks

@[expose] public section

/-! The loop of the kernel that packs `x`: its trips end and stay within the buffers. -/

namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.Sem

variable {F : FTy → Type} [BitOps F]

local notation "𝕄" => MT nD τ sig Unit (Elt F) ℕ (Pipeline.UD sig nD τ) ℕ

/-- What a trip of the loop keeps: the code words, the scale words and the packed array, whatever they hold. -/
noncomputable def inv2 (c : Dev nD) : sProp 𝕄 :=
  iprop((∃ f : Cont F c cc0_scratch0, (Memref.whole cc0_scratch0).view.loc (c : Thread nD τ) ↦{fullShare} f)
    ∗ (∃ f : Cont F c cc0_scratch2, (Memref.whole cc0_scratch2).view.loc (c : Thread nD τ) ↦{fullShare} f)
    ∗ ∃ f : Cont F c cc0_scratch4, (Memref.whole cc0_scratch4).view.loc (c : Thread nD τ) ↦{fullShare} f)

set_option sl_exec.squeezeSlice true in
set_option maxHeartbeats 0 in
/-- One trip of the loop. -/
theorem step2 (c : Dev nD) (arg1 : Memref sig .tc .vmem S3x4x3584 .f32) (harg1 : arg1.IsWhole)
    (arg3 : Memref sig .tc .vmem S3x4x2560 .f32) (harg3 : arg3.IsWhole)
    (k : Fin k0_t2_loop.trips) :
    inv2 c ⊢ (wp frame (wpE (defs₀ (F := F)) Variants.none c none) Set.univ
        (k0_t2_body (Memref.whole main_v2) (Memref.isWhole_whole _) arg1 harg1 (Memref.whole main_v6) (Memref.isWhole_whole _) arg3 harg3 (Memref.whole main_v8) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 k ())
        fun _ => inv2 c : sProp 𝕄) := by
  unfold inv2
  iintro ⟨⟨%f, H6⟩, ⟨%f', H8⟩, %g, H10⟩
  unfold k0_t2_body
  sl_exec
  sl_step
  isplitl [H6]; · iexists _; iexact H6
  isplitl [H8]; · iexists _; iexact H8
  iexists _; iexact H10

end Cert.Kernel.Hand
-- ==== Proof.WordBody.lean ====
module

public import proofs.«01_k».proof.Proof.WordLoop3
public import proofs.«01_k».proof.Proof.WordTrip1
public import proofs.«01_k».proof.Proof.WordTrip2

@[expose] public section

/-! The kernel as the pipeline calls it: it ends, stays within its buffers, and leaves its inputs and its semaphores as it found them. -/

namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.Sem

variable {F : FTy → Type} [BitOps F]

local notation "𝕄" => MT nD τ sig Unit (Elt F) ℕ (Pipeline.UD sig nD τ) ℕ

set_option sl_exec.rejoinFuel 64 in
set_option sl_exec.dmaWindow true in
set_option sl_exec.dmaWindowLent true in
set_option maxHeartbeats 0 in
/-- The kernel as the pipeline calls it, from any scratch: it ends with the scales and the words in place and every semaphore back at zero. -/
theorem bodyRun (c : Dev nD) (arg1 : Memref sig .tc .vmem S3x4x3584 .f32) (harg1 : arg1.IsWhole)
    (arg3 : Memref sig .tc .vmem S3x4x2560 .f32) (harg3 : arg3.IsWhole)
    (X0 : Buf (Elt F) ((c : Thread nD τ).loc main_v2)) (Y0 : Buf (Elt F) ((c : Thread nD τ).loc main_v6))
    (f1 f3 f4 f5 f6 f7 f8 f9 f10 f11) (W) (K : PUnit → sProp 𝕄)  :
    iprop(((Memref.whole main_v2).view.loc (c : Thread nD τ) ↦{fullShare} X0)
      ∗ (arg1.view.loc (c : Thread nD τ) ↦[arg1.view.set]{fullShare} f1)
      ∗ ((Memref.whole main_v6).view.loc (c : Thread nD τ) ↦{fullShare} Y0)
      ∗ (arg3.view.loc (c : Thread nD τ) ↦[arg3.view.set]{fullShare} f3)
      ∗ ((Memref.whole main_v8).view.loc (c : Thread nD τ) ↦{fullShare} f4)
      ∗ ((Memref.whole cc0_scratch0).view.loc (c : Thread nD τ) ↦{fullShare} f5)
      ∗ ((Memref.whole cc0_scratch1).view.loc (c : Thread nD τ) ↦{fullShare} f6)
      ∗ ((Memref.whole cc0_scratch2).view.loc (c : Thread nD τ) ↦{fullShare} f7)
      ∗ ((Memref.whole cc0_scratch3).view.loc (c : Thread nD τ) ↦{fullShare} f8)
      ∗ ((Memref.whole cc0_scratch4).view.loc (c : Thread nD τ) ↦{fullShare} f9)
      ∗ ((Memref.whole cc0_scratch5).view.loc (c : Thread nD τ) ↦{fullShare} f10)
      ∗ ((Memref.whole cc0_scratch6).view.loc (c : Thread nD τ) ↦{fullShare} f11)
      ∗ semVal ((c : Thread nD τ), SemLoc.dma 2) 0
      ∗ semVal ((c : Thread nD τ), SemLoc.dma 3) 0
      ∗ semVal ((c : Thread nD τ), SemLoc.dma 4) 0
      ∗ semVal ((c : Thread nD τ), SemLoc.dma 5) 0
      ∗ semVal ((c : Thread nD τ), SemLoc.dma 6) 0
      ∗ semVal ((c : Thread nD τ), SemLoc.dma 7) 0
      ∗ semVal ((c : Thread nD τ), SemLoc.dma 8) 0
      ∗ semVal ((c : Thread nD τ), SemLoc.dma 9) 0
      ∗ semVal ((c : Thread nD τ), SemLoc.dma 10) 0
      ∗ semVal ((c : Thread nD τ), SemLoc.dma 11) 0
      ∗ semVal ((c : Thread nD τ), SemLoc.dma 12) 0
      ∗ semVal ((c : Thread nD τ), SemLoc.dma 13) 0
      ∗ semVal ((c : Thread nD τ), SemLoc.dma 14) 0
      ∗ semVal ((c : Thread nD τ), SemLoc.dma 15) 0
      ∗ owes (c : Thread nD τ) 0 W
      ∗ (iprop(((Memref.whole main_v2).view.loc (c : Thread nD τ) ↦{fullShare} X0)
          ∗ (arg1.view.loc (c : Thread nD τ) ↦[arg1.view.set]{fullShare} f1)
          ∗ ((Memref.whole main_v6).view.loc (c : Thread nD τ) ↦{fullShare} Y0)
          ∗ (arg3.view.loc (c : Thread nD τ) ↦[arg3.view.set]{fullShare} f3)
          ∗ (∃ h, (Memref.whole main_v8).view.loc (c : Thread nD τ) ↦{fullShare} h)
          ∗ (∃ h, (Memref.whole cc0_scratch0).view.loc (c : Thread nD τ) ↦{fullShare} h)
          ∗ (∃ h, (Memref.whole cc0_scratch1).view.loc (c : Thread nD τ) ↦{fullShare} h)
          ∗ (∃ h, (Memref.whole cc0_scratch2).view.loc (c : Thread nD τ) ↦{fullShare} h)
          ∗ (∃ h, (Memref.whole cc0_scratch3).view.loc (c : Thread nD τ) ↦{fullShare} h)
          ∗ (∃ h, (Memref.whole cc0_scratch4).view.loc (c : Thread nD τ) ↦{fullShare} h)
          ∗ (∃ h, (Memref.whole cc0_scratch5).view.loc (c : Thread nD τ) ↦{fullShare} h)
          ∗ (∃ h, (Memref.whole cc0_scratch6).view.loc (c : Thread nD τ) ↦{fullShare} h)
          ∗ semVal ((c : Thread nD τ), SemLoc.dma 2) 0
          ∗ semVal ((c : Thread nD τ), SemLoc.dma 3) 0
          ∗ semVal ((c : Thread nD τ), SemLoc.dma 4) 0
          ∗ semVal ((c : Thread nD τ), SemLoc.dma 5) 0
          ∗ semVal ((c : Thread nD τ), SemLoc.dma 6) 0
          ∗ semVal ((c : Thread nD τ), SemLoc.dma 7) 0
          ∗ semVal ((c : Thread nD τ), SemLoc.dma 8) 0
          ∗ semVal ((c : Thread nD τ), SemLoc.dma 9) 0
          ∗ semVal ((c : Thread nD τ), SemLoc.dma 10) 0
          ∗ semVal ((c : Thread nD τ), SemLoc.dma 11) 0
          ∗ semVal ((c : Thread nD τ), SemLoc.dma 12) 0
          ∗ semVal ((c : Thread nD τ), SemLoc.dma 13) 0
          ∗ semVal ((c : Thread nD τ), SemLoc.dma 14) 0
          ∗ semVal ((c : Thread nD τ), SemLoc.dma 15) 0
          ∗ ∃ W', owes (c : Thread nD τ) 0 W') -∗ K ⟨⟩))
      ⊢ wp frame (wpE (defs₀ (F := F)) Variants.none c none) Set.univ
        (cc0_wgrad (Memref.whole main_v2) (Memref.isWhole_whole _) arg1 harg1 (Memref.whole main_v6) (Memref.isWhole_whole _) arg3 harg3 (Memref.whole main_v8) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8) K := by
  rw [cc0_wgrad_eq_skeleton]; unfold cc0_wgrad_skel
  iintro ⟨H0, H1, H2, H3, H4, H5, H6, H7, H8, H9, H10, H11, Hq2, Hq3, Hq4, Hq5, Hq6, Hq7, Hq8, Hq9, Hq10, Hq11, Hq12, Hq13, Hq14, Hq15, HW, Hk⟩
  have hB2 : Transfers.BatchOf (c : Thread nD τ) (SemLoc.dma (2 : DmaSem sig)) 3 (windows := true) := trivial
  have hB3 : Transfers.BatchOf (c : Thread nD τ) (SemLoc.dma (3 : DmaSem sig)) 3 (windows := true) := trivial
  have hB4 : Transfers.BatchOf (c : Thread nD τ) (SemLoc.dma (4 : DmaSem sig)) 3 (windows := true) := trivial
  have hB5 : Transfers.BatchOf (c : Thread nD τ) (SemLoc.dma (5 : DmaSem sig)) 3 (windows := true) := trivial
  have hB6 : Transfers.BatchOf (c : Thread nD τ) (SemLoc.dma (6 : DmaSem sig)) 3 (windows := true) := trivial
  have hB7 : Transfers.BatchOf (c : Thread nD τ) (SemLoc.dma (7 : DmaSem sig)) 3 (windows := true) := trivial
  have hB8 : Transfers.BatchOf (c : Thread nD τ) (SemLoc.dma (8 : DmaSem sig)) 3 (windows := true) := trivial
  have hB9 : Transfers.BatchOf (c : Thread nD τ) (SemLoc.dma (9 : DmaSem sig)) 3 (windows := true) := trivial
  have hB10 : Transfers.BatchOf (c : Thread nD τ) (SemLoc.dma (10 : DmaSem sig)) 3 (windows := true) := trivial
  have hB11 : Transfers.BatchOf (c : Thread nD τ) (SemLoc.dma (11 : DmaSem sig)) 3 (windows := true) := trivial
  have hB12 : Transfers.BatchOf (c : Thread nD τ) (SemLoc.dma (12 : DmaSem sig)) 3 (windows := true) := trivial
  have hB13 : Transfers.BatchOf (c : Thread nD τ) (SemLoc.dma (13 : DmaSem sig)) 3 (windows := true) := trivial
  iterate 12 sl_exec
  iapply (Scf.wp_for_bind frame (wpE (defs₀ (F := F)) Variants.none c none) Set.univ _ _ _ k0_t1_ok _ _
      (fun k _ => inv1 c) (fun k acc => step1 c arg1 harg1 arg3 harg3 k)) $$ [H6 H8 H10]
  · unfold inv1
    isplitl [H6]; · iexists _; iexact H6
    isplitl [H8]; · iexists _; iexact H8
    iexists _; iexact H10
  iintro %u1 Hinv
  unfold inv1
  icases Hinv with ⟨⟨%e1a, H6⟩, ⟨%e1b, H8⟩, ⟨%e1c, H10⟩⟩
  iapply (Scf.wp_for_bind frame (wpE (defs₀ (F := F)) Variants.none c none) Set.univ _ _ _ k0_t2_ok _ _
      (fun k _ => inv2 c) (fun k acc => step2 c arg1 harg1 arg3 harg3 k)) $$ [H5 H7 H9]
  · unfold inv2
    isplitl [H5]; · iexists _; iexact H5
    isplitl [H7]; · iexists _; iexact H7
    iexists _; iexact H9
  iintro %u2 Hinv
  unfold inv2
  icases Hinv with ⟨⟨%e2a, H5⟩, ⟨%e2b, H7⟩, ⟨%e2c, H9⟩⟩
  ihave HS := (slots_split c f11) $$ H11
  icases HS with ⟨S0, S1⟩
  iapply (Scf.wp_for_bind frame (wpE (defs₀ (F := F)) Variants.none c none) Set.univ _ _ _ k0_t3_ok _ _
      (fun k _ => inv3 c e2c e1c f4 k)
      (fun k acc => step3 c arg1 harg1 arg3 harg3 _ _ f4 k)) $$ [H9 H10 H4 S0 S1 Hq14 Hq15 HW]
  · unfold inv3 mid3
    isplitl [H9]; · iexact H9
    isplitl [H10]; · iexact H10
    isplitl [H4]; · iapply (fromB_zero c f4) $$ H4
    isplitr [HW]
    · isplitl [S0]; · iexists f11; iexact S0
      isplitl [Hq14]; · iexact Hq14
      isplitl [S1]; · iexists f11; iexact S1
      iexact Hq15
    iexists _; iexact HW
  iintro %u3 Hinv
  ihave Hinv := (inv3_end c e2c e1c f4) $$ Hinv
  icases Hinv with ⟨H9, H10, HB, ⟨%g1, %s1, FL1⟩, ⟨%g0, %s0, FL0⟩, ⟨%W3, HW⟩⟩
  sl_exec
  sl_step
  ihave HOut := (out_whole c) $$ [HB FL1_dst FL0_dst]
  · isplitl [HB]; · iexact HB
    isplitl [FL1_dst]; · iexists g1; iexact FL1_dst
    iexists g0; iexact FL0_dst
  ihave H11 := (slots_join c s0 s1) $$ [FL0_src FL1_src]
  · isplitl [FL0_src]; · iexact FL0_src
    iexact FL1_src
  iapply Hk
  isplitl [H0]; · iexact H0
  isplitl [H1]; · iexact H1
  isplitl [H2]; · iexact H2
  isplitl [H3]; · iexact H3
  isplitl [HOut]; · iexact HOut
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexact H11
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hq13]; · iexact Hq13
  isplitl [FL0]; · iexact FL0
  isplitl [FL1]; · iexact FL1
  iexists _; iexact HW

end Cert.Kernel.Hand
-- ==== Proof.WordLaunch.lean ====
module

public import proofs.«01_k».proof.Proof.WordBody
public import Idealize.ShloMosaic.Lib.Pipeline.KitQuiescent

@[expose] public section

/-! The run of the kernel's program: it terminates without a fault and leaves its arguments and its semaphores as it found them. -/

namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (Pipeline.UD sig nD τ) ℕ

/-- The pipeline's algebra within the whole one. -/
noncomputable abbrev EP : Emb (UR sig nD τ) (MT nD τ sig Unit (Elt F) ℕ (Pipeline.UD sig nD τ) ℕ) := embL

/-- The kernel's own semaphores. -/
abbrev osem0 : Fin 14 → SemLoc sig := fun j => (![SemLoc.dma 2, SemLoc.dma 3, SemLoc.dma 4, SemLoc.dma 5, SemLoc.dma 6, SemLoc.dma 7, SemLoc.dma 8, SemLoc.dma 9, SemLoc.dma 10, SemLoc.dma 11, SemLoc.dma 12, SemLoc.dma 13, SemLoc.dma 14, SemLoc.dma 15] : Fin 14 → SemLoc sig) j
theorem ownSemFacts0 : Pipeline.OwnSemFacts spec0 osem0 := by decide
omit [BitOps F] in
theorem ownSems0_eq (c : Dev nD) :
    (Pipeline.ownSems0 (Ix := Unit) (Name := ℕ) (U := Pipeline.UD sig nD τ) (Lvl := ℕ) (Val := Elt F) (τ := τ) osem0 c : sProp 𝕄)
      = iprop((semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0)) := by
  rw [Pipeline.ownSems0_eq_of_list c osem0 [0, 1, 2, 3, 4, 5, 6, 7, 8, 9, 10, 11, 12, 13] (by decide) (by decide)]; rfl

variable (m : (ℓ : Loc nD τ sig) → Buf (Elt F) ℓ) (ρ : Dev nD → PrngReg)

/-- What the kernel works on besides its scales: the words, the output, its scratch and its semaphores. -/
noncomputable def region (c : Dev nD) : sProp 𝕄 :=
  iprop(((Memref.whole main_v2).view.loc (c : Thread nD τ) ↦{fullShare} V m c main_v2)
    ∗ ((Memref.whole main_v6).view.loc (c : Thread nD τ) ↦{fullShare} V m c main_v6)
    ∗ (∃ o : Cont F c main_v8, (Memref.whole main_v8).view.loc (c : Thread nD τ) ↦{fullShare} o)
    ∗ (∃ h : Cont F c cc0_scratch0, (Memref.whole cc0_scratch0).view.loc (c : Thread nD τ) ↦{fullShare} h)
    ∗ (∃ h : Cont F c cc0_scratch1, (Memref.whole cc0_scratch1).view.loc (c : Thread nD τ) ↦{fullShare} h)
    ∗ (∃ h : Cont F c cc0_scratch2, (Memref.whole cc0_scratch2).view.loc (c : Thread nD τ) ↦{fullShare} h)
    ∗ (∃ h : Cont F c cc0_scratch3, (Memref.whole cc0_scratch3).view.loc (c : Thread nD τ) ↦{fullShare} h)
    ∗ (∃ h : Cont F c cc0_scratch4, (Memref.whole cc0_scratch4).view.loc (c : Thread nD τ) ↦{fullShare} h)
    ∗ (∃ h : Cont F c cc0_scratch5, (Memref.whole cc0_scratch5).view.loc (c : Thread nD τ) ↦{fullShare} h)
    ∗ (∃ h : Cont F c cc0_scratch6, (Memref.whole cc0_scratch6).view.loc (c : Thread nD τ) ↦{fullShare} h)
    ∗ (semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0)
    ∗ ((((c : Thread nD τ).loc main_arg0) ↦{fullShare} V m c main_arg0) ∗ (((c : Thread nD τ).loc main_arg1) ↦{fullShare} V m c main_arg1) ∗ (((c : Thread nD τ).loc main_arg2) ↦{fullShare} V m c main_arg2) ∗ (((c : Thread nD τ).loc main_arg3) ↦{fullShare} V m c main_arg3)))

/-- The proof data of the one pipeline. -/
noncomputable def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
  Φ _ := region m c
  q _ := fullShare
  owed _ := 0

theorem before_w0 (c : Dev nD) (t : Fin cfg0.N) (d) : (dats m 0 c).before 0 t d = iblk m c 0 t := by
  unfold Dat.before; rw [if_pos (fetch0_0 t)]; unfold Dat.fetched Dat.blockOf iblk; dsimp only [dats]; rfl
theorem before_w1 (c : Dev nD) (t : Fin cfg0.N) (d) : (dats m 0 c).before 1 t d = iblk m c 1 t := by
  unfold Dat.before; rw [if_pos (fetch0_1 t)]; unfold Dat.fetched Dat.blockOf iblk; dsimp only [dats]; rfl
theorem after_w0 (c : Dev nD) (t : Fin cfg0.N) : (dats m 0 c).after 0 t = iblk m c 0 t := by dsimp only [dats]
theorem after_w1 (c : Dev nD) (t : Fin cfg0.N) : (dats m 0 c).after 1 t = iblk m c 1 t := by dsimp only [dats]

/-- The body table's entry is the kernel on the point's staging buffers. -/
theorem defs_tc : (defs₀ (F := F)) .tc cfg0.body
    = fun a => (cc0_wgrad (Memref.whole main_v2) (Memref.isWhole_whole _) (win0_0.stage (a.2 0)) (hstage0_0 0) (Memref.whole main_v6) (Memref.isWhole_whole _) (win0_1.stage (a.2 1)) (hstage0_1 0) (Memref.whole main_v8) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8) := rfl
theorem prog_eq (t : Fin cfg0.N) : (defs₀ (F := F)) .tc cfg0.body (cfg0.bodyArgs t (cfg0.slots t)) = (cc0_wgrad (Memref.whole main_v2) (Memref.isWhole_whole _) (win0_0.stage (cfg0.slots t 0)) (hstage0_0 0) (Memref.whole main_v6) (Memref.isWhole_whole _) (win0_1.stage (cfg0.slots t 1)) (hstage0_1 0) (Memref.whole main_v8) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8) :=
  (congrFun defs_tc _).trans rfl

set_option backward.isDefEq.respectTransparency.types false in
theorem body_obligation (c : Dev nD) : BodyObligation (dats (F := F) m 0 c) (defs₀ (F := F)) Variants.none () Set.univ := fun t => by
  obtain rfl := fin_N0 t
  rw [bigSep_W0, bigSep_W0]
  dsimp only
  simp only [before_w0, before_w1, after_w0, after_w1]
  rw [show (dats m 0 c).Φ (t0_0 : Fin cfg0.N).castSucc = region m c from rfl, show (dats m 0 c).Φ (t0_0 : Fin cfg0.N).succ = region m c from rfl]
  unfold Dat.owesAt Pipeline.owesWithin
  rw [show (dats m 0 c).owed (t0_0 : Fin cfg0.N).castSucc = 0 from rfl, show (dats m 0 c).owed (t0_0 : Fin cfg0.N).succ = 0 from rfl]
  unfold owns region
  iintro ⟨⟨H0, H2, ⟨%f4, H4⟩, ⟨%f5, H5⟩, ⟨%f6, H6⟩, ⟨%f7, H7⟩, ⟨%f8, H8⟩, ⟨%f9, H9⟩, ⟨%f10, H10⟩, ⟨%f11, H11⟩, HQS, HA⟩, ⟨%W, -, HW⟩, ⟨%d0, %g0, %hg0, H1⟩, ⟨%d1, %g1, %hg1, H3⟩⟩
  icases HQS with ⟨Q2, Q3, Q4, Q5, Q6, Q7, Q8, Q9, Q10, Q11, Q12, Q13, Q14, Q15⟩
  ihave H1 := (pointsTo_rep_entails (c : Thread nD τ) (win0_0.stage (cfg0.slots t0_0 0)) g0 fullShare) $$ H1
  ihave H3 := (pointsTo_rep_entails (c : Thread nD τ) (win0_1.stage (cfg0.slots t0_0 1)) g1 fullShare) $$ H3
  rw [hg0, hg1]
  sl_rw [prog_eq t0_0]
  iapply (bodyRun c (win0_0.stage (cfg0.slots t0_0 0)) (hstage0_0 0) (win0_1.stage (cfg0.slots t0_0 1)) (hstage0_1 0) _ _ _ _ _ _ _ _ _ _ _ _ W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [Q2]; · iexact Q2
  isplitl [Q3]; · iexact Q3
  isplitl [Q4]; · iexact Q4
  isplitl [Q5]; · iexact Q5
  isplitl [Q6]; · iexact Q6
  isplitl [Q7]; · iexact Q7
  isplitl [Q8]; · iexact Q8
  isplitl [Q9]; · iexact Q9
  isplitl [Q10]; · iexact Q10
  isplitl [Q11]; · iexact Q11
  isplitl [Q12]; · iexact Q12
  isplitl [Q13]; · iexact Q13
  isplitl [Q14]; · iexact Q14
  isplitl [Q15]; · iexact Q15
  isplitl [HW]; · iexact HW
  iintro ⟨H0, H1, H2, H3, H4, H5, H6, H7, H8, H9, H10, H11, Q2, Q3, Q4, Q5, Q6, Q7, Q8, Q9, Q10, Q11, Q12, Q13, Q14, Q15, ⟨%W', HW⟩⟩
  isplitl [H0 H2 H4 H5 H6 H7 H8 H9 H10 H11 Q2 Q3 Q4 Q5 Q6 Q7 Q8 Q9 Q10 Q11 Q12 Q13 Q14 Q15 HA]
  · isplitl [H0]; · iexact H0
    isplitl [H2]; · iexact H2
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [Q2 Q3 Q4 Q5 Q6 Q7 Q8 Q9 Q10 Q11 Q12 Q13 Q14 Q15]
    · isplitl [Q2]; · iexact Q2
      isplitl [Q3]; · iexact Q3
      isplitl [Q4]; · iexact Q4
      isplitl [Q5]; · iexact Q5
      isplitl [Q6]; · iexact Q6
      isplitl [Q7]; · iexact Q7
      isplitl [Q8]; · iexact Q8
      isplitl [Q9]; · iexact Q9
      isplitl [Q10]; · iexact Q10
      isplitl [Q11]; · iexact Q11
      isplitl [Q12]; · iexact Q12
      isplitl [Q13]; · iexact Q13
      isplitl [Q14]; · iexact Q14
      iexact Q15
    iexact HA
  isplitl [HW]
  · iexists W'; isplitr; · ipureintro; exact fun _ _ => Or.inl trivial
    iexact HW
  isplitl [H1]
  · iexists _; isplitr; · ipureintro; exact View.read_rep _ _
    iexact H1
  iexists _; isplitr; · ipureintro; exact View.read_rep _ _
  iexact H3

/-! ### The run -/

/-- What the pipeline needs beside its arrays and scratch. -/
noncomputable def intoR (c : Dev nD) : sProp 𝕄 :=
  iprop(((Memref.whole main_v2).view.loc (c : Thread nD τ) ↦{fullShare} V m c main_v2)
    ∗ ((Memref.whole main_v6).view.loc (c : Thread nD τ) ↦{fullShare} V m c main_v6)
    ∗ ((Memref.whole main_v8).view.loc (c : Thread nD τ) ↦{fullShare} V m c main_v8) ∗ (semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0) ∗ ((((c : Thread nD τ).loc main_arg0) ↦{fullShare} V m c main_arg0) ∗ (((c : Thread nD τ).loc main_arg1) ↦{fullShare} V m c main_arg1) ∗ (((c : Thread nD τ).loc main_arg2) ↦{fullShare} V m c main_arg2) ∗ (((c : Thread nD τ).loc main_arg3) ↦{fullShare} V m c main_arg3)))
/-- What it gives back of them. -/
noncomputable def outOfR (c : Dev nD) : sProp 𝕄 :=
  iprop(((((c : Thread nD τ).loc main_arg0) ↦{fullShare} V m c main_arg0) ∗ (((c : Thread nD τ).loc main_arg1) ↦{fullShare} V m c main_arg1) ∗ (((c : Thread nD τ).loc main_arg2) ↦{fullShare} V m c main_arg2) ∗ (((c : Thread nD τ).loc main_arg3) ↦{fullShare} V m c main_arg3)))
/-- The facts of the final memory. -/
def QY (c : Dev nD) (s : MemSt nD τ sig (Elt F)) : Prop :=
  s.mem ((c : Thread nD τ).loc main_arg0) = V m c main_arg0 ∧ s.mem ((c : Thread nD τ).loc main_arg1) = V m c main_arg1
    ∧ s.mem ((c : Thread nD τ).loc main_arg2) = V m c main_arg2 ∧ s.mem ((c : Thread nD τ).loc main_arg3) = V m c main_arg3

noncomputable def u₀ : Pipeline.UD sig nD τ := (initOf (Pipeline.cells cfgs cellOf_inj) (Pipeline.launchToks cfgs cellOf_inj), 1)

set_option backward.isDefEq.respectTransparency.types false in
/-- Every run of the program terminates; at its end the arguments are untouched and every semaphore is at zero. -/
theorem run_main : θ_run defs (onTc (τ := τ) (main (F := F))) ⟨m, fun _ => 0, ρ⟩ (fun r => (∀ c, QY m c r.2) ∧ r.2.sem = fun _ => 0) :=
  Pipeline.θ_run_region_kit_quiescent cfgs (dats m) () (0 : Fin 1) launch0 ownSemFacts0 EP defs₀ Variants.none m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := Pipeline.hmain_prefix cfgs 0 defs₀ Variants.none m main hostOps0 hostOps0_sub hostOps0_fresh main_chain)
    (hA := fun _ _ => rfl)
    (X := intoR m) (Y := outOfR m) (Z := fun _ => iprop(emp))
    (hX := fun c => by
      rw [unscopedRest0_eq, ownSems0_eq]
      unfold intoR
      iintro ⟨⟨A0, A1, A2, A3, -, -, H2, -, -, H6, H8⟩, HS, -, -, -⟩; imodintro
      isplitr []
      · isplitl [H2]; · iexact H2
        isplitl [H6]; · iexact H6
        isplitl [H8]; · iexact H8
        isplitl [HS]; · iexact HS
        isplitl [A0]; · iexact A0
        isplitl [A1]; · iexact A1
        isplitl [A2]; · iexact A2
        iexact A3
      iempintro)
    (hin := fun c => by
      rw [scopedRest0_eq, show (dats m 0 c).Φ 0 = region m c from rfl]
      unfold intoR region
      iintro ⟨⟨H2, H6, H8, HS, HA⟩, S0, S1, S2, S3, S4, S5, S6⟩
      isplitl [H2]; · iexact H2
      isplitl [H6]; · iexact H6
      isplitl [H8]; · iexists _; iexact H8
      isplitl [S0]; · iexact S0
      isplitl [S1]; · iexact S1
      isplitl [S2]; · iexact S2
      isplitl [S3]; · iexact S3
      isplitl [S4]; · iexact S4
      isplitl [S5]; · iexact S5
      isplitl [S6]; · iexact S6
      isplitl [HS]; · iexact HS
      iexact HA)
    (hout := fun c => by
      rw [scopedRest0_eq, show (dats m 0 c).Φ (Fin.last cfg0.N) = region m c from rfl, ownSems0_eq]
      unfold outOfR region
      iintro ⟨-, -, -, S0, S1, S2, S3, S4, S5, S6, HS, HA⟩
      isplitl [HA]; · iexact HA
      isplitl [HS]; · iexact HS
      isplitl [S0]; · iexact S0
      isplitl [S1]; · iexact S1
      isplitl [S2]; · iexact S2
      isplitl [S3]; · iexact S3
      isplitl [S4]; · iexact S4
      isplitl [S5]; · iexact S5
      iexact S6)
    (QY := QY m)
    (hY := fun c s' => by
      unfold outOfR QY
      iintro ⟨⟨A0, A1, A2, A3⟩, -, HSI⟩
      icombine HSI A0 gives %h0
      icombine HSI A1 gives %h1
      icombine HSI A2 gives %h2
      icombine HSI A3 gives %h3
      imodintro
      isplitr
      · ipureintro
        exact ⟨Buf.eq_of_forall_mem_univ h0, Buf.eq_of_forall_mem_univ h1, Buf.eq_of_forall_mem_univ h2, Buf.eq_of_forall_mem_univ h3⟩
      iexact HSI)
    (hQ := fun _ hh hz => ⟨fun c => (hh c).2, hz⟩)

/-- The run, its final arguments compared with the launch's. -/
theorem run_frame : θ_run defs (onTc (τ := τ) (main (F := F))) ⟨m, fun _ => 0, ρ⟩ (fun r => (∀ c : Dev nD,
      r.2.mem ((c : Thread nD τ).loc main_arg0) = m ((c : Thread nD τ).loc main_arg0) ∧ r.2.mem ((c : Thread nD τ).loc main_arg1) = m ((c : Thread nD τ).loc main_arg1)
      ∧ r.2.mem ((c : Thread nD τ).loc main_arg2) = m ((c : Thread nD τ).loc main_arg2) ∧ r.2.mem ((c : Thread nD τ).loc main_arg3) = m ((c : Thread nD τ).loc main_arg3))
      ∧ r.2.sem = fun _ => 0) :=
  (θ_run defs _ _).mono (fun _ h => ⟨fun c => ⟨(h.1 c).1.trans (V_main_arg0 m c), (h.1 c).2.1.trans (V_main_arg1 m c),
    (h.1 c).2.2.1.trans (V_main_arg2 m c), (h.1 c).2.2.2.trans (V_main_arg3 m c)⟩, h.2⟩) (run_main m ρ)

end Cert.Kernel.Hand
-- ==== Proof.IdealBlocks.lean ====
module

public import proofs.«01_k».proof.Proof.Gen.KernelIdeal.Frame
public import proofs.«01_k».proof.Proof.Gen.KernelIdeal.Loops
public import Idealize.ShloMosaic.Lib.Pipeline.ValueKit.Geometry
public import Idealize.ShloMosaic.Lib.Pipeline.Value
public import Idealize.ShloMosaic.Lib.Ring

@[expose] public section

/-! The output of the idealized kernel, block by block: the 512 × 512 products that its last loop computes and sends out. -/

namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.Sem

variable {F : FTy → Type} [FloatOps F]

local notation "𝕄" => MT nD τ sig Unit (Elt F) ℕ (Pipeline.UD sig nD τ) ℕ

/-- The contents of a buffer of the kernel on core `c`. -/
abbrev Cont (F : FTy → Type) (c : Dev nD) (b : Ref sig .tc) : Type := Buf (Elt F) ((c : Thread nD τ).loc b)

/-- One output block's window. -/
abbrev ow (o : Fin 2 → ℕ) (h : ∀ a, o a + S512x512.size a ≤ S2560x3584.size a) : Memref sig .tc .hbm S512x512 .f32 :=
  (Memref.whole main_v8).slice (Rect.unit (s := S2560x3584) o S512x512.size h) (fun _ => rfl)
/-- The first slot of the output buffer. -/
abbrev slot0 : Memref sig .tc .vmem S512x512 .f32 :=
  ((Memref.whole cc0_scratch6).slice (Rect.unit (s := S2x512x512) ![0, 0, 0] S1x512x512.size inb_S2x512x512_S1x512x512_0_0_0) (fun _ => rfl)).squeeze S512x512 squeezes_S1x512x512_S512x512
/-- The second slot of the output buffer. -/
abbrev slot1 : Memref sig .tc .vmem S512x512 .f32 :=
  ((Memref.whole cc0_scratch6).slice (Rect.unit (s := S2x512x512) ![1, 0, 0] S1x512x512.size inb_S2x512x512_S1x512x512_1_0_0) (fun _ => rfl)).squeeze S512x512 squeezes_S1x512x512_S512x512

/-! ### What a block holds -/

/-- 256 pairs of packed rows as 512 rows. -/
noncomputable def rows512 (v : Vec F S1x256x2x128 .bf16) : FVec F S512x128 .bf16 :=
  interleaveRows S512x128
    (shapeCast S256x128 (shapeCast S1x256x128 (rowsOfParity 0 S1x256x1x128 v bitcasts_S1x256x2x128_w16_S1x256x1x128_w32) shapeCasts_S1x256x1x128_S1x256x128) shapeCasts_S1x256x128_S256x128)
    (shapeCast S256x128 (shapeCast S1x256x128 (rowsOfParity 1 S1x256x1x128 v bitcasts_S1x256x2x128_w16_S1x256x1x128_w32) shapeCasts_S1x256x1x128_S1x256x128) shapeCasts_S1x256x128_S256x128)
    bitcasts_S512x128_w16_S256x128_w32

/-- Twelve planes side by side. -/
noncomputable def side12 (p : Fin 12 → FVec F S512x128 .bf16) : FVec F S512x1536 .bf16 :=
  concatenate S512x1536 1 [⟨S512x128, p 0⟩, ⟨S512x128, p 1⟩, ⟨S512x128, p 2⟩, ⟨S512x128, p 3⟩, ⟨S512x128, p 4⟩, ⟨S512x128, p 5⟩, ⟨S512x128, p 6⟩, ⟨S512x128, p 7⟩, ⟨S512x128, p 8⟩, ⟨S512x128, p 9⟩, ⟨S512x128, p 10⟩, ⟨S512x128, p 11⟩]
    concatenates_S512x128_S512x128_S512x128_S512x128_S512x128_S512x128_S512x128_S512x128_S512x128_S512x128_S512x128_S512x128_S512x1536_d1

theorem yInb (g : Fin 12) (k : Fin 5) : ∀ a, (![g.val, 256 * k.val, 0, 0] : Fin 4 → ℕ) a + S1x256x2x128.size a ≤ S12x1280x2x128.size a := by
  intro a; have := g.isLt; have := k.isLt
  fin_cases a
  · show g.val + 1 ≤ 12; omega
  · show 256 * k.val + 256 ≤ 1280; omega
  · show 0 + 2 ≤ 2; omega
  · show 0 + 128 ≤ 128; omega
theorem xInb (g : Fin 12) (n : Fin 7) : ∀ a, (![g.val, 256 * n.val, 0, 0] : Fin 4 → ℕ) a + S1x256x2x128.size a ≤ S12x1792x2x128.size a := by
  intro a; have := g.isLt; have := n.isLt
  fin_cases a
  · show g.val + 1 ≤ 12; omega
  · show 256 * n.val + 256 ≤ 1792; omega
  · show 0 + 2 ≤ 2; omega
  · show 0 + 128 ≤ 128; omega

/-- The left factor of output row block `k`: rows `512 k …` of the twelve packed planes, side by side. -/
noncomputable def lhsM (c : Dev nD) (f10 : Cont F c cc0_scratch5) (k : Fin 5) : FVec F S512x1536 .bf16 :=
  side12 fun g => rows512 (View.readAt (Elt F) (Memref.whole cc0_scratch5).view (Rect.unit (s := S12x1280x2x128) ![g.val, 256 * k.val, 0, 0] S1x256x2x128.size (yInb g k)).toLoadRect f10)
/-- The right factor of output column block `n`. -/
noncomputable def rhsM (c : Dev nD) (f9 : Cont F c cc0_scratch4) (n : Fin 7) : FVec F S512x1536 .bf16 :=
  side12 fun g => rows512 (View.readAt (Elt F) (Memref.whole cc0_scratch4).view (Rect.unit (s := S12x1792x2x128) ![g.val, 256 * n.val, 0, 0] S1x256x2x128.size (xInb g n)).toLoadRect f9)
/-- Output block `(k, n)`. -/
noncomputable def blockM (c : Dev nD) (f9 : Cont F c cc0_scratch4) (f10 : Cont F c cc0_scratch5) (k : Fin 5) (n : Fin 7) : FVec F S512x512 .f32 :=
  matmul dot_S512x1536_S512x1536_S512x512_1_1_0_0_n_n none (lhsM c f10 k) (rhsM c f9 n) (constant S512x512 .f32 0x00000000#32)

/-- The whole output, block by block. -/
noncomputable def outM (c : Dev nD) (f9 : Cont F c cc0_scratch4) (f10 : Cont F c cc0_scratch5) : Cont F c main_v8 := fun (i : S2560x3584.Idx) =>
  blockM c f9 f10 ⟨(i 0).val / 512, Nat.div_lt_of_lt_mul (i 0).isLt⟩ ⟨(i 1).val / 512, Nat.div_lt_of_lt_mul (i 1).isLt⟩
    (fun a => ⟨(i a).val % 512, by fin_cases a <;> exact Nat.mod_lt _ (by decide)⟩)

/-- The elements of the output's block number `n`, the blocks counted row block by row block. -/
def blk (n : ℕ) : Finset S2560x3584.Idx := Finset.univ.filter fun i => 7 * ((i 0).val / 512) + (i 1).val / 512 = n

/-- A window's elements are its block's. -/
theorem ow_set (o : Fin 2 → ℕ) (h) (a b : ℕ) (ha : o 0 = 512 * a) (hb : o 1 = 512 * b) (hb7 : b < 7) : (ow o h).view.set = blk (7 * a + b) := by
  ext i
  refine (ValueKit.mem_set_slice_whole_iff main_v8 (Rect.unit (s := S2560x3584) o S512x512.size h) i Rect.mem_set_unit).trans ?_
  have h1 : (i 1).val < 3584 := (i 1).isLt
  simp only [blk, Finset.mem_filter, Finset.mem_univ, true_and]
  constructor
  · intro H
    have e0 : o 0 ≤ (i 0).val ∧ (i 0).val < o 0 + 512 := H 0
    have e1 : o 1 ≤ (i 1).val ∧ (i 1).val < o 1 + 512 := H 1
    rw [ha] at e0; rw [hb] at e1; omega
  · intro H a'
    fin_cases a'
    · show o 0 ≤ (i 0).val ∧ (i 0).val < o 0 + 512
      rw [ha]; omega
    · show o 1 ≤ (i 1).val ∧ (i 1).val < o 1 + 512
      rw [hb]; omega

/-- The output at an element of block `(k, n)` is the block there. -/
theorem outM_eq (c : Dev nD) (f9 : Cont F c cc0_scratch4) (f10 : Cont F c cc0_scratch5) (k : Fin 5) (n : Fin 7) (i : S2560x3584.Idx) (x : S512x512.Idx)
    (h0 : (i 0).val = 512 * k.val + (x 0).val) (h1 : (i 1).val = 512 * n.val + (x 1).val) : outM c f9 f10 i = blockM c f9 f10 k n x := by
  have x0 : (x 0).val < 512 := (x 0).isLt
  have x1 : (x 1).val < 512 := (x 1).isLt
  have ek : (⟨(i 0).val / 512, Nat.div_lt_of_lt_mul (i 0).isLt⟩ : Fin 5) = k := Fin.ext (by show (i 0).val / 512 = k.val; omega)
  have en : (⟨(i 1).val / 512, Nat.div_lt_of_lt_mul (i 1).isLt⟩ : Fin 7) = n := Fin.ext (by show (i 1).val / 512 = n.val; omega)
  have ex : (fun a => ⟨(i a).val % 512, by fin_cases a <;> exact Nat.mod_lt _ (by decide)⟩ : S512x512.Idx) = x := by
    funext a; apply Fin.ext
    fin_cases a
    · show (i 0).val % 512 = (x 0).val; omega
    · show (i 1).val % 512 = (x 1).val; omega
  unfold outM
  rw [ek, en, ex]

/-- A block written with its product holds the output there. -/
theorem block_eq (c : Dev nD) (f9 : Cont F c cc0_scratch4) (f10 : Cont F c cc0_scratch5) (f4 : Cont F c main_v8) (k : Fin 5) (n : Fin 7)
    (o : Fin 2 → ℕ) (h) (ha : o 0 = 512 * k.val) (hb : o 1 = 512 * n.val) (P : S512x512.Idx → Elt F .f32) (hP : P = blockM c f9 f10 k n) :
    ∀ i ∈ (ow o h).view.set, (ow o h).view.writes (Elt F) f4 [⟨Rect.whole S512x512, P⟩] i = outM c f9 f10 i := by
  intro i hi
  subst hP
  obtain ⟨x, -, rfl⟩ := Finset.mem_map.mp hi
  have e : (ow o h).view.read (Elt F) ((ow o h).view.writes (Elt F) f4 [⟨Rect.whole S512x512, blockM c f9 f10 k n⟩]) x = blockM c f9 f10 k n x :=
    View.read_writes_cons_hit _ _ (Rect.whole S512x512) _ [] x x (Rect.emb_whole_apply S512x512 x)
  rw [View.read_apply] at e
  refine Eq.trans ?_ (e.trans (outM_eq c f9 f10 k n _ x ?_ ?_).symm)
  · rfl
  · rw [← ha]; exact ValueKit.view_emb_slice_whole_unit_val main_v8 o S512x512.size h x 0
  · rw [← hb]; exact ValueKit.view_emb_slice_whole_unit_val main_v8 o S512x512.size h x 1

/-- A slot stored with a block and read back as a matrix is the block. -/
theorem slot_read (o : Fin 3 → ℕ) (h : ∀ a, o a + S1x512x512.size a ≤ S2x512x512.size a) (s : (Memref.whole cc0_scratch6).view.ty.Contents (Elt F)) (p : FVec F S512x512 .f32) :
    (((Memref.whole cc0_scratch6).slice (Rect.unit (s := S2x512x512) o S1x512x512.size h) (fun _ => rfl)).squeeze S512x512 squeezes_S1x512x512_S512x512).view.read (Elt F)
      (View.write (Elt F) ((Memref.whole cc0_scratch6).access (Rect.unit (s := S2x512x512) o S1x512x512.size h)) s (shapeCast S1x512x512 p shapeCasts_S512x512_S1x512x512) Finset.univ) = p := by
  rw [Memref.read_squeeze_slice _ _ _ _ shapeCasts_S1x512x512_S512x512]
  refine (congrArg (fun v => shapeCast S512x512 v shapeCasts_S1x512x512_S512x512) ?_).trans (shapeCast_shapeCast p shapeCasts_S512x512_S1x512x512 shapeCasts_S1x512x512_S512x512)
  exact View.read_write_univ _ _

/-! ### The blocks of the output, held one by one -/

/-- Block number `m` of the output holding `f`. -/
noncomputable abbrev atB (c : Dev nD) (m : ℕ) (f : Cont F c main_v8) : sProp 𝕄 := ((Memref.whole main_v8).view.loc (c : Thread nD τ) ↦[blk m]{fullShare} f)

theorem atB_eq (c : Dev nD) (o : Fin 2 → ℕ) (h) (a b : ℕ) (ha : o 0 = 512 * a) (hb : o 1 = 512 * b) (hb7 : b < 7) (f : Cont F c main_v8) :
    atB c (7 * a + b) f = ((ow o h).view.loc (c : Thread nD τ) ↦[(ow o h).view.set]{fullShare} f) := by
  rw [ow_set o h a b ha hb hb7]

theorem entails_of_eq {P Q : sProp 𝕄} (e : P = Q) : P ⊢ Q := e ▸ .rfl

/-- A block written with its product is the block of the output. -/
theorem block_out (c : Dev nD) (f9 : Cont F c cc0_scratch4) (f10 : Cont F c cc0_scratch5) (f4 : Cont F c main_v8) (k : Fin 5) (n : Fin 7)
    (o : Fin 2 → ℕ) (h) (ha : o 0 = 512 * k.val) (hb : o 1 = 512 * n.val) (P : S512x512.Idx → Elt F .f32) (hP : P = blockM c f9 f10 k n) :
    ((ow o h).view.loc (c : Thread nD τ) ↦[(ow o h).view.set]{fullShare} (ow o h).view.writes (Elt F) f4 [⟨Rect.whole S512x512, P⟩] : sProp 𝕄)
      = atB c (7 * k.val + n.val) (outM c f9 f10) := by
  rw [atB_eq c o h k.val n.val ha hb n.isLt]
  exact pointsTo_congr (block_eq c f9 f10 f4 k n o h ha hb P hP)

/-- The same inside a transfer under way. -/
theorem flight_out (c : Dev nD) (f9 : Cont F c cc0_scratch4) (f10 : Cont F c cc0_scratch5) (f4 : Cont F c main_v8) (k : Fin 5) (n : Fin 7)
    (o : Fin 2 → ℕ) (h) (ha : o 0 = 512 * k.val) (hb : o 1 = 512 * n.val) (P : S512x512.Idx → Elt F .f32) (hP : P = blockM c f9 f10 k n) (l : SemLoc sig) (R : sProp 𝕄) :
    Transfers.Flight countersEmb (c : Thread nD τ) l () 32768 iprop(((ow o h).view.loc (c : Thread nD τ) ↦[(ow o h).view.set]{fullShare} (ow o h).view.writes (Elt F) f4 [⟨Rect.whole S512x512, P⟩]) ∗ R)
      ⊢ Transfers.Flight countersEmb (c : Thread nD τ) l () 32768 iprop(atB c (7 * k.val + n.val) (outM c f9 f10) ∗ R) := by
  rw [block_out c f9 f10 f4 k n o h ha hb P hP]

/-! ### The left factor as the trip loads it -/

/-- The offsets of the twelve loads of trip `k`. -/
def yOffs (k : Fin k0_t3_loop.trips) : Fin 12 → Fin 4 → ℕ :=
  ![k0_off29 k, k0_off30 k, k0_off31 k, k0_off32 k, k0_off33 k, k0_off34 k, k0_off35 k, k0_off36 k, k0_off37 k, k0_off38 k, k0_off39 k, k0_off40 k]
theorem yOffs_eq (k : Fin k0_t3_loop.trips) : yOffs k = fun g => ![g.val, 256 * k.val, 0, 0] := by
  revert k; decide
theorem yOffs_inb (k : Fin k0_t3_loop.trips) (g : Fin 12) : ∀ a, yOffs k g a + S1x256x2x128.size a ≤ S12x1280x2x128.size a := by
  rw [yOffs_eq]; exact yInb g k

/-- Output block `(k, n)`, the left factor loaded at given offsets. -/
noncomputable def blockAt (c : Dev nD) (f9 : Cont F c cc0_scratch4) (f10 : Cont F c cc0_scratch5) (o : Fin 12 → Fin 4 → ℕ)
    (h : ∀ g, ∀ a, o g a + S1x256x2x128.size a ≤ S12x1280x2x128.size a) (n : Fin 7) : FVec F S512x512 .f32 :=
  matmul dot_S512x1536_S512x1536_S512x512_1_1_0_0_n_n none
    (side12 fun g => rows512 (View.readAt (Elt F) (Memref.whole cc0_scratch5).view (Rect.unit (s := S12x1280x2x128) (o g) S1x256x2x128.size (h g)).toLoadRect f10))
    (rhsM c f9 n) (constant S512x512 .f32 0x00000000#32)
theorem blockAt_eq (c : Dev nD) (f9 : Cont F c cc0_scratch4) (f10 : Cont F c cc0_scratch5) (k : Fin k0_t3_loop.trips) (n : Fin 7) :
    blockAt c f9 f10 (yOffs k) (yOffs_inb k) n = blockM c f9 f10 k n := by
  have : ∀ (o : Fin 12 → Fin 4 → ℕ) (h : ∀ g, ∀ a, o g a + S1x256x2x128.size a ≤ S12x1280x2x128.size a), o = (fun g => ![g.val, 256 * k.val, 0, 0]) →
      blockAt c f9 f10 o h n = blockM c f9 f10 k n := by
    intro o h e; subst e; rfl
  exact this _ _ (yOffs_eq k)

/-- Offsets of the seven output windows of trip `k`. -/
theorem oOff_eq (k : Fin k0_t3_loop.trips) : k0_off42 k = ![512 * k.val, 0] ∧ k0_off44 k = ![512 * k.val, 512] ∧ k0_off46 k = ![512 * k.val, 1024]
    ∧ k0_off48 k = ![512 * k.val, 1536] ∧ k0_off50 k = ![512 * k.val, 2048] ∧ k0_off52 k = ![512 * k.val, 2560] ∧ k0_off54 k = ![512 * k.val, 3072] := by
  revert k; decide

end Cert.KernelIdeal.Hand
-- ==== Proof.IdealTrip3.lean ====
module

public import proofs.«01_k».proof.Proof.Gen.KernelIdeal.Frame
public import proofs.«01_k».proof.Proof.Gen.KernelIdeal.Loops
public import proofs.«01_k».proof.Proof.IdealBlocks

@[expose] public section

/-! One trip of the output loop of the idealized kernel: seven blocks of 512 × 512 products, each stored into one of two slots and
sent to the output from there, the slot's previous transfer awaited first. -/

namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.Sem

variable {F : FTy → Type} [FloatOps F]

local notation "𝕄" => MT nD τ sig Unit (Elt F) ℕ (Pipeline.UD sig nD τ) ℕ

/-- Trip `k` of the output loop on the kernel's buffers. -/
noncomputable abbrev body3 (arg1 : Memref sig .tc .vmem S3x4x3584 .f32) (harg1 : arg1.IsWhole) (arg3 : Memref sig .tc .vmem S3x4x2560 .f32) (harg3 : arg3.IsWhole)
    (x y : BitVec 32) (k : Fin k0_t3_loop.trips) : Prog (TpuEff nD τ sig (Elt F) Λ₀ .tc) Unit :=
  k0_t3_body (Memref.whole main_v2) (Memref.isWhole_whole _) arg1 harg1 (Memref.whole main_v6) (Memref.isWhole_whole _) arg3 harg3 (Memref.whole main_v8) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 x y k ()

/-- What trip `k` leaves: the packed factors as they were, its first five blocks at the output, the last two on their way from the two
slots. -/
noncomputable abbrev after3 (c : Dev nD) (f9 : Cont F c cc0_scratch4) (f10 : Cont F c cc0_scratch5) (k : ℕ) : sProp 𝕄 :=
  iprop(((Memref.whole cc0_scratch4).view.loc (c : Thread nD τ) ↦{fullShare} f9)
    ∗ ((Memref.whole cc0_scratch5).view.loc (c : Thread nD τ) ↦{fullShare} f10)
    ∗ atB c (7 * k + 0) (outM c f9 f10) ∗ atB c (7 * k + 1) (outM c f9 f10) ∗ atB c (7 * k + 2) (outM c f9 f10) ∗ atB c (7 * k + 3) (outM c f9 f10)
    ∗ atB c (7 * k + 4) (outM c f9 f10)
    ∗ (∃ s1 : Cont F c cc0_scratch6, Transfers.Flight countersEmb (c : Thread nD τ) (SemLoc.dma (15 : DmaSem sig)) () 32768
        iprop(atB c (7 * k + 5) (outM c f9 f10) ∗ (slot1.view.loc (c : Thread nD τ) ↦[slot1.view.set]{fullShare} s1)))
    ∗ (∃ s0 : Cont F c cc0_scratch6, Transfers.Flight countersEmb (c : Thread nD τ) (SemLoc.dma (14 : DmaSem sig)) () 32768
        iprop(atB c (7 * k + 6) (outM c f9 f10) ∗ (slot0.view.loc (c : Thread nD τ) ↦[slot0.view.set]{fullShare} s0)))
    ∗ ∃ W, owes (c : Thread nD τ) 0 W)

/-- What trip `k` finds of its own: the packed factors and its seven blocks. -/
noncomputable abbrev before3 (c : Dev nD) (f9 : Cont F c cc0_scratch4) (f10 : Cont F c cc0_scratch5) (f4 : Cont F c main_v8) (k : Fin k0_t3_loop.trips) : sProp 𝕄 :=
  iprop(((Memref.whole cc0_scratch4).view.loc (c : Thread nD τ) ↦{fullShare} f9)
    ∗ ((Memref.whole cc0_scratch5).view.loc (c : Thread nD τ) ↦{fullShare} f10)
    ∗ ((ow (k0_off42 k) (k0_off42_inb k)).view.loc (c : Thread nD τ) ↦[(ow (k0_off42 k) (k0_off42_inb k)).view.set]{fullShare} f4)
    ∗ ((ow (k0_off44 k) (k0_off44_inb k)).view.loc (c : Thread nD τ) ↦[(ow (k0_off44 k) (k0_off44_inb k)).view.set]{fullShare} f4)
    ∗ ((ow (k0_off46 k) (k0_off46_inb k)).view.loc (c : Thread nD τ) ↦[(ow (k0_off46 k) (k0_off46_inb k)).view.set]{fullShare} f4)
    ∗ ((ow (k0_off48 k) (k0_off48_inb k)).view.loc (c : Thread nD τ) ↦[(ow (k0_off48 k) (k0_off48_inb k)).view.set]{fullShare} f4)
    ∗ ((ow (k0_off50 k) (k0_off50_inb k)).view.loc (c : Thread nD τ) ↦[(ow (k0_off50 k) (k0_off50_inb k)).view.set]{fullShare} f4)
    ∗ ((ow (k0_off52 k) (k0_off52_inb k)).view.loc (c : Thread nD τ) ↦[(ow (k0_off52 k) (k0_off52_inb k)).view.set]{fullShare} f4)
    ∗ ((ow (k0_off54 k) (k0_off54_inb k)).view.loc (c : Thread nD τ) ↦[(ow (k0_off54 k) (k0_off54_inb k)).view.set]{fullShare} f4))

/-- The trip's windows are its blocks. -/
theorem before3_intro (c : Dev nD) (f9 : Cont F c cc0_scratch4) (f10 : Cont F c cc0_scratch5) (f4 : Cont F c main_v8) (k : Fin k0_t3_loop.trips) :
    (iprop(((Memref.whole cc0_scratch4).view.loc (c : Thread nD τ) ↦{fullShare} f9)
    ∗ ((Memref.whole cc0_scratch5).view.loc (c : Thread nD τ) ↦{fullShare} f10)
    ∗ atB c (7 * k.val + 0) f4
    ∗ atB c (7 * k.val + 1) f4
    ∗ atB c (7 * k.val + 2) f4
    ∗ atB c (7 * k.val + 3) f4
    ∗ atB c (7 * k.val + 4) f4
    ∗ atB c (7 * k.val + 5) f4
    ∗ atB c (7 * k.val + 6) f4) : sProp 𝕄) ⊢ before3 c f9 f10 f4 k := by
  obtain ⟨e0, e1, e2, e3, e4, e5, e6⟩ := oOff_eq k
  rw [atB_eq c _ (k0_off42_inb k) k.val 0 (by rw [e0]; rfl) (by rw [e0]; rfl) (by decide), atB_eq c _ (k0_off44_inb k) k.val 1 (by rw [e1]; rfl) (by rw [e1]; rfl) (by decide),
    atB_eq c _ (k0_off46_inb k) k.val 2 (by rw [e2]; rfl) (by rw [e2]; rfl) (by decide), atB_eq c _ (k0_off48_inb k) k.val 3 (by rw [e3]; rfl) (by rw [e3]; rfl) (by decide),
    atB_eq c _ (k0_off50_inb k) k.val 4 (by rw [e4]; rfl) (by rw [e4]; rfl) (by decide), atB_eq c _ (k0_off52_inb k) k.val 5 (by rw [e5]; rfl) (by rw [e5]; rfl) (by decide),
    atB_eq c _ (k0_off54_inb k) k.val 6 (by rw [e6]; rfl) (by rw [e6]; rfl) (by decide)]

set_option sl_exec.squeezeSlice true in
set_option maxHeartbeats 0 in
/-- A trip after the first: the two transfers that the trip before left under way are awaited in it. -/
theorem trip3 (c : Dev nD) (arg1 : Memref sig .tc .vmem S3x4x3584 .f32) (harg1 : arg1.IsWhole)
    (arg3 : Memref sig .tc .vmem S3x4x2560 .f32) (harg3 : arg3.IsWhole)
    (f9 : Cont F c cc0_scratch4) (f10 : Cont F c cc0_scratch5) (f4 g0 g1 : Cont F c main_v8) (s0 s1 : Cont F c cc0_scratch6) (D0 D1 : Finset S2560x3584.Idx)
    (k : Fin k0_t3_loop.trips) (x y : BitVec 32) (W : Waits sig Unit)
    (hc1 : k0_cond1 k = 1#1) (hc2 : k0_cond2 k = 1#1) (hc3 : k0_cond3 k = 1#1) (hc4 : k0_cond4 k = 1#1) (hc5 : k0_cond5 k = 1#1) (hc6 : k0_cond6 k = 1#1) (hc7 : k0_cond7 k = 1#1) :
    iprop(before3 c f9 f10 f4 k
      ∗ Transfers.Flight countersEmb (c : Thread nD τ) (SemLoc.dma (14 : DmaSem sig)) () 32768 iprop(((Memref.whole main_v8).view.loc (c : Thread nD τ) ↦[D0]{fullShare} g0) ∗ (slot0.view.loc (c : Thread nD τ) ↦[slot0.view.set]{fullShare} s0))
      ∗ Transfers.Flight countersEmb (c : Thread nD τ) (SemLoc.dma (15 : DmaSem sig)) () 32768 iprop(((Memref.whole main_v8).view.loc (c : Thread nD τ) ↦[D1]{fullShare} g1) ∗ (slot1.view.loc (c : Thread nD τ) ↦[slot1.view.set]{fullShare} s1))
      ∗ owes (c : Thread nD τ) 0 W)
      ⊢ (wp frame (wpE (defs₀ (F := F)) Variants.none c none) Set.univ (body3 arg1 harg1 arg3 harg3 x y k)
          fun _ => iprop(((Memref.whole main_v8).view.loc (c : Thread nD τ) ↦[D0]{fullShare} g0) ∗ ((Memref.whole main_v8).view.loc (c : Thread nD τ) ↦[D1]{fullShare} g1) ∗ after3 c f9 f10 k.val) : sProp 𝕄) := by
  obtain ⟨e0, e1, e2, e3, e4, e5, e6⟩ := oOff_eq k
  iintro ⟨⟨H9, H10, B0, B1, B2, B3, B4, B5, B6⟩, FL0, FL1, HW⟩
  unfold body3 k0_t3_body
  sl_exec
  sl_step
  have a0 : k0_off42 k 0 = 512 * k.val := by rw [e0]; rfl
  have b0 : k0_off42 k 1 = 512 * ((0 : Fin 7) : ℕ) := by rw [e0]; rfl
  have a1 : k0_off44 k 0 = 512 * k.val := by rw [e1]; rfl
  have b1 : k0_off44 k 1 = 512 * ((1 : Fin 7) : ℕ) := by rw [e1]; rfl
  have a2 : k0_off46 k 0 = 512 * k.val := by rw [e2]; rfl
  have b2 : k0_off46 k 1 = 512 * ((2 : Fin 7) : ℕ) := by rw [e2]; rfl
  have a3 : k0_off48 k 0 = 512 * k.val := by rw [e3]; rfl
  have b3 : k0_off48 k 1 = 512 * ((3 : Fin 7) : ℕ) := by rw [e3]; rfl
  have a4 : k0_off50 k 0 = 512 * k.val := by rw [e4]; rfl
  have b4 : k0_off50 k 1 = 512 * ((4 : Fin 7) : ℕ) := by rw [e4]; rfl
  have a5 : k0_off52 k 0 = 512 * k.val := by rw [e5]; rfl
  have b5 : k0_off52 k 1 = 512 * ((5 : Fin 7) : ℕ) := by rw [e5]; rfl
  have a6 : k0_off54 k 0 = 512 * k.val := by rw [e6]; rfl
  have b6 : k0_off54 k 1 = 512 * ((6 : Fin 7) : ℕ) := by rw [e6]; rfl
  have p0 : trip3.sl.dma26 c f9 f10 s0 k = blockM c f9 f10 k 0 := (slot_read _ _ _ (blockAt c f9 f10 (yOffs k) (yOffs_inb k) 0)).trans (blockAt_eq c f9 f10 k 0)
  have p1 : trip3.sl.dma40 c f9 f10 s1 k = blockM c f9 f10 k 1 := (slot_read _ _ _ (blockAt c f9 f10 (yOffs k) (yOffs_inb k) 1)).trans (blockAt_eq c f9 f10 k 1)
  have p2 : trip3.sl.dma54 c f9 f10 s0 k = blockM c f9 f10 k 2 := (slot_read _ _ _ (blockAt c f9 f10 (yOffs k) (yOffs_inb k) 2)).trans (blockAt_eq c f9 f10 k 2)
  have p3 : trip3.sl.dma68 c f9 f10 s1 k = blockM c f9 f10 k 3 := (slot_read _ _ _ (blockAt c f9 f10 (yOffs k) (yOffs_inb k) 3)).trans (blockAt_eq c f9 f10 k 3)
  have p4 : trip3.sl.dma82 c f9 f10 s0 k = blockM c f9 f10 k 4 := (slot_read _ _ _ (blockAt c f9 f10 (yOffs k) (yOffs_inb k) 4)).trans (blockAt_eq c f9 f10 k 4)
  have p5 : trip3.sl.dma96 c f9 f10 s1 k = blockM c f9 f10 k 5 := (slot_read _ _ _ (blockAt c f9 f10 (yOffs k) (yOffs_inb k) 5)).trans (blockAt_eq c f9 f10 k 5)
  have p6 : trip3.sl.dma110 c f9 f10 s0 k = blockM c f9 f10 k 6 := (slot_read _ _ _ (blockAt c f9 f10 (yOffs k) (yOffs_inb k) 6)).trans (blockAt_eq c f9 f10 k 6)
  isplitl [FL0_dst]; · iexact FL0_dst
  isplitl [FL1_dst]; · iexact FL1_dst
  isplitl [H9]; · iexact H9
  isplitl [H10]; · iexact H10
  isplitl [B0]
  · iapply (entails_of_eq (block_out c f9 f10 f4 k 0 (k0_off42 k) (k0_off42_inb k) a0 b0 _ p0)) $$ B0
  isplitl [B1]
  · iapply (entails_of_eq (block_out c f9 f10 f4 k 1 (k0_off44 k) (k0_off44_inb k) a1 b1 _ p1)) $$ B1
  isplitl [B2]
  · iapply (entails_of_eq (block_out c f9 f10 f4 k 2 (k0_off46 k) (k0_off46_inb k) a2 b2 _ p2)) $$ B2
  isplitl [B3]
  · iapply (entails_of_eq (block_out c f9 f10 f4 k 3 (k0_off48 k) (k0_off48_inb k) a3 b3 _ p3)) $$ B3
  isplitl [B4]
  · iapply (entails_of_eq (block_out c f9 f10 f4 k 4 (k0_off50 k) (k0_off50_inb k) a4 b4 _ p4)) $$ B4
  isplitl [FL1]
  · iexists _
    iapply (flight_out c f9 f10 f4 k 5 (k0_off52 k) (k0_off52_inb k) a5 b5 _ p5 _ _) $$ FL1
  isplitl [FL0]
  · iexists _
    iapply (flight_out c f9 f10 f4 k 6 (k0_off54 k) (k0_off54_inb k) a6 b6 _ p6 _ _) $$ FL0
  iexists _; iexact HW

set_option sl_exec.squeezeSlice true in
set_option maxHeartbeats 0 in
/-- The first trip: both slots free, their semaphores at zero. -/
theorem trip3_first (c : Dev nD) (arg1 : Memref sig .tc .vmem S3x4x3584 .f32) (harg1 : arg1.IsWhole)
    (arg3 : Memref sig .tc .vmem S3x4x2560 .f32) (harg3 : arg3.IsWhole)
    (f9 : Cont F c cc0_scratch4) (f10 : Cont F c cc0_scratch5) (f4 : Cont F c main_v8) (s0 s1 : Cont F c cc0_scratch6)
    (k : Fin k0_t3_loop.trips) (x y : BitVec 32) (W : Waits sig Unit)
    (hc1 : ¬ k0_cond1 k = 1#1) (hc2 : ¬ k0_cond2 k = 1#1) (hc3 : k0_cond3 k = 1#1) (hc4 : k0_cond4 k = 1#1) (hc5 : k0_cond5 k = 1#1) (hc6 : k0_cond6 k = 1#1) (hc7 : k0_cond7 k = 1#1) :
    iprop(before3 c f9 f10 f4 k
      ∗ (slot0.view.loc (c : Thread nD τ) ↦[slot0.view.set]{fullShare} s0) ∗ semVal ((c : Thread nD τ), SemLoc.dma (14 : DmaSem sig)) 0
      ∗ (slot1.view.loc (c : Thread nD τ) ↦[slot1.view.set]{fullShare} s1) ∗ semVal ((c : Thread nD τ), SemLoc.dma (15 : DmaSem sig)) 0
      ∗ owes (c : Thread nD τ) 0 W)
      ⊢ (wp frame (wpE (defs₀ (F := F)) Variants.none c none) Set.univ (body3 arg1 harg1 arg3 harg3 x y k)
          fun _ => after3 c f9 f10 k.val : sProp 𝕄) := by
  obtain ⟨e0, e1, e2, e3, e4, e5, e6⟩ := oOff_eq k
  iintro ⟨⟨H9, H10, B0, B1, B2, B3, B4, B5, B6⟩, S0, Q0, S1, Q1, HW⟩
  unfold body3 k0_t3_body
  sl_exec
  sl_step
  have a0 : k0_off42 k 0 = 512 * k.val := by rw [e0]; rfl
  have b0 : k0_off42 k 1 = 512 * ((0 : Fin 7) : ℕ) := by rw [e0]; rfl
  have a1 : k0_off44 k 0 = 512 * k.val := by rw [e1]; rfl
  have b1 : k0_off44 k 1 = 512 * ((1 : Fin 7) : ℕ) := by rw [e1]; rfl
  have a2 : k0_off46 k 0 = 512 * k.val := by rw [e2]; rfl
  have b2 : k0_off46 k 1 = 512 * ((2 : Fin 7) : ℕ) := by rw [e2]; rfl
  have a3 : k0_off48 k 0 = 512 * k.val := by rw [e3]; rfl
  have b3 : k0_off48 k 1 = 512 * ((3 : Fin 7) : ℕ) := by rw [e3]; rfl
  have a4 : k0_off50 k 0 = 512 * k.val := by rw [e4]; rfl
  have b4 : k0_off50 k 1 = 512 * ((4 : Fin 7) : ℕ) := by rw [e4]; rfl
  have a5 : k0_off52 k 0 = 512 * k.val := by rw [e5]; rfl
  have b5 : k0_off52 k 1 = 512 * ((5 : Fin 7) : ℕ) := by rw [e5]; rfl
  have a6 : k0_off54 k 0 = 512 * k.val := by rw [e6]; rfl
  have b6 : k0_off54 k 1 = 512 * ((6 : Fin 7) : ℕ) := by rw [e6]; rfl
  have p0 : trip3_first.sl.dma26 c f9 f10 s0 k = blockM c f9 f10 k 0 := (slot_read _ _ _ (blockAt c f9 f10 (yOffs k) (yOffs_inb k) 0)).trans (blockAt_eq c f9 f10 k 0)
  have p1 : trip3_first.sl.dma40 c f9 f10 s1 k = blockM c f9 f10 k 1 := (slot_read _ _ _ (blockAt c f9 f10 (yOffs k) (yOffs_inb k) 1)).trans (blockAt_eq c f9 f10 k 1)
  have p2 : trip3_first.sl.dma54 c f9 f10 s0 k = blockM c f9 f10 k 2 := (slot_read _ _ _ (blockAt c f9 f10 (yOffs k) (yOffs_inb k) 2)).trans (blockAt_eq c f9 f10 k 2)
  have p3 : trip3_first.sl.dma68 c f9 f10 s1 k = blockM c f9 f10 k 3 := (slot_read _ _ _ (blockAt c f9 f10 (yOffs k) (yOffs_inb k) 3)).trans (blockAt_eq c f9 f10 k 3)
  have p4 : trip3_first.sl.dma82 c f9 f10 s0 k = blockM c f9 f10 k 4 := (slot_read _ _ _ (blockAt c f9 f10 (yOffs k) (yOffs_inb k) 4)).trans (blockAt_eq c f9 f10 k 4)
  have p5 : trip3_first.sl.dma96 c f9 f10 s1 k = blockM c f9 f10 k 5 := (slot_read _ _ _ (blockAt c f9 f10 (yOffs k) (yOffs_inb k) 5)).trans (blockAt_eq c f9 f10 k 5)
  have p6 : trip3_first.sl.dma110 c f9 f10 s0 k = blockM c f9 f10 k 6 := (slot_read _ _ _ (blockAt c f9 f10 (yOffs k) (yOffs_inb k) 6)).trans (blockAt_eq c f9 f10 k 6)
  isplitl [H9]; · iexact H9
  isplitl [H10]; · iexact H10
  isplitl [B0]
  · iapply (entails_of_eq (block_out c f9 f10 f4 k 0 (k0_off42 k) (k0_off42_inb k) a0 b0 _ p0)) $$ B0
  isplitl [B1]
  · iapply (entails_of_eq (block_out c f9 f10 f4 k 1 (k0_off44 k) (k0_off44_inb k) a1 b1 _ p1)) $$ B1
  isplitl [B2]
  · iapply (entails_of_eq (block_out c f9 f10 f4 k 2 (k0_off46 k) (k0_off46_inb k) a2 b2 _ p2)) $$ B2
  isplitl [B3]
  · iapply (entails_of_eq (block_out c f9 f10 f4 k 3 (k0_off48 k) (k0_off48_inb k) a3 b3 _ p3)) $$ B3
  isplitl [B4]
  · iapply (entails_of_eq (block_out c f9 f10 f4 k 4 (k0_off50 k) (k0_off50_inb k) a4 b4 _ p4)) $$ B4
  isplitl [Q1]
  · iexists _
    iapply (flight_out c f9 f10 f4 k 5 (k0_off52 k) (k0_off52_inb k) a5 b5 _ p5 _ _) $$ Q1
  isplitl [Q0]
  · iexists _
    iapply (flight_out c f9 f10 f4 k 6 (k0_off54 k) (k0_off54_inb k) a6 b6 _ p6 _ _) $$ Q0
  iexists _; iexact HW

end Cert.KernelIdeal.Hand
-- ==== Proof.IdealLoop3.lean ====
module

public import proofs.«01_k».proof.Proof.IdealTrip3
public import proofs.«01_k».proof.Proof.Gen.KernelIdeal.Loops

@[expose] public section

/-! The output loop of the idealized kernel as a whole: from the packed factors and an output of any content to the output whole, block by
block the factors' products. -/

namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.Sem

variable {F : FTy → Type} [FloatOps F]

local notation "𝕄" => MT nD τ sig Unit (Elt F) ℕ (Pipeline.UD sig nD τ) ℕ

/-- The elements of the output's blocks before number `n`. -/
def below (n : ℕ) : Finset S2560x3584.Idx := Finset.univ.filter fun i => 7 * ((i 0).val / 512) + (i 1).val / 512 < n
/-- The elements of the output's blocks from number `n` on. -/
def from' (n : ℕ) : Finset S2560x3584.Idx := Finset.univ.filter fun i => n ≤ 7 * ((i 0).val / 512) + (i 1).val / 512

theorem below_succ (n : ℕ) : below (n + 1) = below n ∪ blk n := by
  ext i; simp only [below, blk, Finset.mem_union, Finset.mem_filter, Finset.mem_univ, true_and]; omega
theorem below_disj (n : ℕ) : Disjoint (below n) (blk n) := by
  rw [Finset.disjoint_left]; intro i; simp only [below, blk, Finset.mem_filter, Finset.mem_univ, true_and]; omega
theorem from_eq (n : ℕ) : from' n = blk n ∪ from' (n + 1) := by
  ext i; simp only [from', blk, Finset.mem_union, Finset.mem_filter, Finset.mem_univ, true_and]; omega
theorem from_disj (n : ℕ) : Disjoint (blk n) (from' (n + 1)) := by
  rw [Finset.disjoint_left]; intro i; simp only [from', blk, Finset.mem_filter, Finset.mem_univ, true_and]; omega
theorem from_zero : from' 0 = Finset.univ := by
  ext i; simp [from']
theorem below_zero : below 0 = ∅ := by
  ext i; simp [below]
theorem below_all : below 35 = Finset.univ := by
  ext i
  have h0 : (i 0).val < 2560 := (i 0).isLt
  have h1 : (i 1).val < 3584 := (i 1).isLt
  simp only [below, Finset.mem_filter, Finset.mem_univ, true_and, iff_true]; omega

/-- The blocks before number `n` holding `f`. -/
noncomputable abbrev belowB (c : Dev nD) (n : ℕ) (f : Cont F c main_v8) : sProp 𝕄 := ((Memref.whole main_v8).view.loc (c : Thread nD τ) ↦[below n]{fullShare} f)
/-- The blocks from number `n` on holding `f`. -/
noncomputable abbrev fromB (c : Dev nD) (n : ℕ) (f : Cont F c main_v8) : sProp 𝕄 := ((Memref.whole main_v8).view.loc (c : Thread nD τ) ↦[from' n]{fullShare} f)

theorem belowB_succ (c : Dev nD) (n : ℕ) (f : Cont F c main_v8) : (iprop(belowB c n f ∗ atB c n f) : sProp 𝕄) ⊢ belowB c (n + 1) f := by
  refine (pointsTo_union (below_disj n)).2.trans (entails_of_eq ?_)
  rw [← below_succ]
theorem fromB_split (c : Dev nD) (n : ℕ) (f : Cont F c main_v8) : (fromB c n f : sProp 𝕄) ⊢ iprop(atB c n f ∗ fromB c (n + 1) f) := by
  refine (entails_of_eq ?_).trans (pointsTo_union (from_disj n)).1
  rw [← from_eq]

/-- What the loop holds of the output and its two slots before trip `k`: at first nothing done and both slots free; later the last two
blocks of the trip before on their way, all earlier ones done. -/
noncomputable def mid3 (c : Dev nD) (f9 : Cont F c cc0_scratch4) (f10 : Cont F c cc0_scratch5) : ℕ → sProp 𝕄
  | 0 => iprop((∃ s0 : Cont F c cc0_scratch6, slot0.view.loc (c : Thread nD τ) ↦[slot0.view.set]{fullShare} s0) ∗ semVal ((c : Thread nD τ), SemLoc.dma (14 : DmaSem sig)) 0
      ∗ (∃ s1 : Cont F c cc0_scratch6, slot1.view.loc (c : Thread nD τ) ↦[slot1.view.set]{fullShare} s1) ∗ semVal ((c : Thread nD τ), SemLoc.dma (15 : DmaSem sig)) 0)
  | k + 1 => iprop(belowB c (7 * k + 5) (outM c f9 f10)
      ∗ (∃ s1 : Cont F c cc0_scratch6, Transfers.Flight countersEmb (c : Thread nD τ) (SemLoc.dma (15 : DmaSem sig)) () 32768
        iprop(atB c (7 * k + 5) (outM c f9 f10) ∗ (slot1.view.loc (c : Thread nD τ) ↦[slot1.view.set]{fullShare} s1)))
      ∗ (∃ s0 : Cont F c cc0_scratch6, Transfers.Flight countersEmb (c : Thread nD τ) (SemLoc.dma (14 : DmaSem sig)) () 32768
        iprop(atB c (7 * k + 6) (outM c f9 f10) ∗ (slot0.view.loc (c : Thread nD τ) ↦[slot0.view.set]{fullShare} s0))))

/-- The loop's invariant before trip `k`. -/
noncomputable def inv3 (c : Dev nD) (f9 : Cont F c cc0_scratch4) (f10 : Cont F c cc0_scratch5) (f4 : Cont F c main_v8) (k : ℕ) : sProp 𝕄 :=
  iprop(((Memref.whole cc0_scratch4).view.loc (c : Thread nD τ) ↦{fullShare} f9)
    ∗ ((Memref.whole cc0_scratch5).view.loc (c : Thread nD τ) ↦{fullShare} f10)
    ∗ fromB c (7 * k) f4 ∗ mid3 c f9 f10 k ∗ ∃ W, owes (c : Thread nD τ) 0 W)

/-- The blocks of a trip, taken from those to come. -/
theorem fromB_trip (c : Dev nD) (e : ℕ) (f : Cont F c main_v8) : (fromB c e f : sProp 𝕄)
    ⊢ iprop(atB c (e + 0) f ∗ atB c (e + 1) f ∗ atB c (e + 2) f ∗ atB c (e + 3) f ∗ atB c (e + 4) f ∗ atB c (e + 5) f ∗ atB c (e + 6) f ∗ fromB c (e + 7) f) := by
  iintro H
  ihave H := (fromB_split c e f) $$ H; icases H with ⟨B0, H⟩
  ihave H := (fromB_split c (e + 1) f) $$ H; icases H with ⟨B1, H⟩
  ihave H := (fromB_split c (e + 2) f) $$ H; icases H with ⟨B2, H⟩
  ihave H := (fromB_split c (e + 3) f) $$ H; icases H with ⟨B3, H⟩
  ihave H := (fromB_split c (e + 4) f) $$ H; icases H with ⟨B4, H⟩
  ihave H := (fromB_split c (e + 5) f) $$ H; icases H with ⟨B5, H⟩
  ihave H := (fromB_split c (e + 6) f) $$ H; icases H with ⟨B6, H⟩
  isplitl [B0]; · iexact B0
  isplitl [B1]; · iexact B1
  isplitl [B2]; · iexact B2
  isplitl [B3]; · iexact B3
  isplitl [B4]; · iexact B4
  isplitl [B5]; · iexact B5
  isplitl [B6]; · iexact B6
  iexact H

/-- Five blocks more done. -/
theorem belowB_trip (c : Dev nD) (e : ℕ) (f : Cont F c main_v8) :
    (iprop(belowB c e f ∗ atB c (e + 0) f ∗ atB c (e + 1) f ∗ atB c (e + 2) f ∗ atB c (e + 3) f ∗ atB c (e + 4) f) : sProp 𝕄) ⊢ belowB c (e + 5) f := by
  iintro ⟨H, B0, B1, B2, B3, B4⟩
  iapply (belowB_succ c (e + 4) f); isplitr [B4]; swap; · iexact B4
  iapply (belowB_succ c (e + 3) f); isplitr [B3]; swap; · iexact B3
  iapply (belowB_succ c (e + 2) f); isplitr [B2]; swap; · iexact B2
  iapply (belowB_succ c (e + 1) f); isplitr [B1]; swap; · iexact B1
  iapply (belowB_succ c e f); isplitl [H]; · iexact H
  iexact B0

/-- A trip keeps the invariant. -/
theorem step3 (c : Dev nD) (arg1 : Memref sig .tc .vmem S3x4x3584 .f32) (harg1 : arg1.IsWhole)
    (arg3 : Memref sig .tc .vmem S3x4x2560 .f32) (harg3 : arg3.IsWhole)
    (f9 : Cont F c cc0_scratch4) (f10 : Cont F c cc0_scratch5) (f4 : Cont F c main_v8) (x y : BitVec 32) (k : Fin k0_t3_loop.trips) :
    (inv3 c f9 f10 f4 k.val : sProp 𝕄)
      ⊢ wp frame (wpE (defs₀ (F := F)) Variants.none c none) Set.univ (body3 arg1 harg1 arg3 harg3 x y k) fun _ => inv3 c f9 f10 f4 (k.val + 1) := by
  have hc : (1 ≤ k.val → k0_cond1 k = 1#1 ∧ k0_cond2 k = 1#1) ∧ (k.val = 0 → ¬ k0_cond1 k = 1#1 ∧ ¬ k0_cond2 k = 1#1)
      ∧ k0_cond3 k = 1#1 ∧ k0_cond4 k = 1#1 ∧ k0_cond5 k = 1#1 ∧ k0_cond6 k = 1#1 ∧ k0_cond7 k = 1#1 := by revert k; decide
  obtain ⟨hpos, hzero, hc3, hc4, hc5, hc6, hc7⟩ := hc
  unfold inv3
  rcases Nat.eq_zero_or_pos k.val with h0 | h1
  · obtain ⟨hc1, hc2⟩ := hzero h0
    have e : mid3 (F := F) c f9 f10 k.val = mid3 c f9 f10 0 := by rw [h0]
    rw [e]; unfold mid3
    iintro ⟨H9, H10, HB, ⟨⟨%s0, S0⟩, Q0, ⟨%s1, S1⟩, Q1⟩, ⟨%W, HW⟩⟩
    ihave HB := (fromB_trip c (7 * k.val) f4) $$ HB
    icases HB with ⟨B0, B1, B2, B3, B4, B5, B6, HB⟩
    ihave HT := (before3_intro c f9 f10 f4 k) $$ [H9 H10 B0 B1 B2 B3 B4 B5 B6]
    · iframe
    ihave HR := (trip3_first c arg1 harg1 arg3 harg3 f9 f10 f4 s0 s1 k x y W hc1 hc2 hc3 hc4 hc5 hc6 hc7) $$ [HT S0 Q0 S1 Q1 HW]
    · iframe
    iapply (wp_wand_r frame (wpE (defs₀ (F := F)) Variants.none c none) Set.univ)
    isplitl [HR]; · iexact HR
    iintro %_ ⟨H9, H10, B0, B1, B2, B3, B4, F1, F0, HW⟩
    isplitl [H9]; · iexact H9
    isplitl [H10]; · iexact H10
    isplitl [HB]; · iexact HB
    isplitr [HW]; swap; · iexact HW
    isplitr [F0 F1]; swap; · iframe
    iapply (belowB_trip c (7 * k.val) (outM c f9 f10))
    iframe
    have e' : (iprop(emp) : sProp 𝕄) = belowB c (7 * k.val) (outM c f9 f10) := by rw [belowB, h0, Nat.mul_zero, below_zero, pointsTo_empty]
    iapply (entails_of_eq e')
    iempintro
  · obtain ⟨hc1, hc2⟩ := hpos h1
    obtain ⟨k', hk'⟩ : ∃ k', k.val = k' + 1 := ⟨k.val - 1, by omega⟩
    have e : mid3 (F := F) c f9 f10 k.val = mid3 c f9 f10 (k' + 1) := by rw [hk']
    rw [e]; unfold mid3
    iintro ⟨H9, H10, HB, ⟨HD, ⟨%s1, F1⟩, ⟨%s0, F0⟩⟩, ⟨%W, HW⟩⟩
    ihave HB := (fromB_trip c (7 * k.val) f4) $$ HB
    icases HB with ⟨B0, B1, B2, B3, B4, B5, B6, HB⟩
    ihave HT := (before3_intro c f9 f10 f4 k) $$ [H9 H10 B0 B1 B2 B3 B4 B5 B6]
    · iframe
    ihave HR := (trip3 c arg1 harg1 arg3 harg3 f9 f10 f4 (outM c f9 f10) (outM c f9 f10) s0 s1 (blk (7 * k' + 6)) (blk (7 * k' + 5)) k x y W hc1 hc2 hc3 hc4 hc5 hc6 hc7) $$ [HT F0 F1 HW]
    · iframe
    iapply (wp_wand_r frame (wpE (defs₀ (F := F)) Variants.none c none) Set.univ)
    isplitl [HR]; · iexact HR
    iintro %_ ⟨D0, D1, H9, H10, B0, B1, B2, B3, B4, F1, F0, HW⟩
    isplitl [H9]; · iexact H9
    isplitl [H10]; · iexact H10
    isplitl [HB]; · iexact HB
    isplitr [HW]; swap; · iexact HW
    isplitr [F0 F1]; swap; · iframe
    iapply (belowB_trip c (7 * k.val) (outM c f9 f10))
    iframe
    have e' : belowB (F := F) c (7 * k' + 6 + 1) (outM c f9 f10) = belowB c (7 * k.val) (outM c f9 f10) := by
      rw [show 7 * k' + 6 + 1 = 7 * k.val by omega]
    iapply (entails_of_eq e')
    iapply (belowB_succ c (7 * k' + 6) _)
    isplitr [D0]; swap; · iexact D0
    iapply (belowB_succ c (7 * k' + 5) _)
    iframe

end Cert.KernelIdeal.Hand
-- ==== Proof.IdealPiece.lean ====
module

public import proofs.«01_k».proof.Proof.IdealBlocks
public import Idealize.ShloMosaic.Lib.BitcastFour
public import Idealize.ShloMosaic.Lib.Pointwise

@[expose] public section

/-! One store of the packing loops of the idealized kernel: sixteen channels of one batch and one tile of the sequence, decoded and scaled. -/

namespace Cert.KernelIdeal.Hand
open Cert.KernelIdeal Cert.KernelIdeal.Gen
open Idealize.ShloMosaic Idealize.ShloMosaic.TcCoe Idealize.ShloMosaic.Tactic

variable {F : FTy → Type} [FloatOps F]

/-- The bytes of batch `b` of four rows of words, one byte per row, joined into words. -/
def plane (b : Fin 4) (w : Fin 4 → IVec S8x128 32) : IVec S8x128 32 :=
  match b with
  | 0 => ori (andi (ori (andi (w 0) (broadcast S8x128 65535#32)) (shli (w 2) (broadcast S8x128 16#32))) (broadcast S8x128 16711935#32))
      (shli (andi (ori (andi (w 1) (broadcast S8x128 65535#32)) (shli (w 3) (broadcast S8x128 16#32))) (broadcast S8x128 16711935#32)) (broadcast S8x128 8#32))
  | 1 => ori (andi (shrui (ori (andi (w 0) (broadcast S8x128 65535#32)) (shli (w 2) (broadcast S8x128 16#32))) (broadcast S8x128 8#32)) (broadcast S8x128 16711935#32))
      (andi (ori (andi (w 1) (broadcast S8x128 65535#32)) (shli (w 3) (broadcast S8x128 16#32))) (broadcast S8x128 4278255360#32))
  | 2 => ori (andi (ori (shrui (w 0) (broadcast S8x128 16#32)) (andi (w 2) (broadcast S8x128 4294901760#32))) (broadcast S8x128 16711935#32))
      (shli (andi (ori (shrui (w 1) (broadcast S8x128 16#32)) (andi (w 3) (broadcast S8x128 4294901760#32))) (broadcast S8x128 16711935#32)) (broadcast S8x128 8#32))
  | 3 => ori (andi (shrui (ori (shrui (w 0) (broadcast S8x128 16#32)) (andi (w 2) (broadcast S8x128 4294901760#32))) (broadcast S8x128 8#32)) (broadcast S8x128 16711935#32))
      (andi (ori (shrui (w 1) (broadcast S8x128 16#32)) (andi (w 3) (broadcast S8x128 4294901760#32))) (broadcast S8x128 4278255360#32))

/-- The index that the scales are gathered at, the same at every element. -/
def gatherIx (ix : BitVec 32) : IVec S16x128 32 :=
  let i := addi (muli (iota Kind.tc S16x128 32 [1] iota_S16x128_d1_w32) (broadcast S16x128 0#32)) (broadcast S16x128 ix)
  shapeCast S16x128 (shapeCast S16x128x1 (select (cmpi CmpIPredicate.slt i (broadcast S16x128 0#32)) (addi i (broadcast S16x128 128#32)) i) shapeCasts_S16x128_S16x128x1)
    shapeCasts_S16x128x1_S16x128

/-- Sixteen rows of scales. -/
def scales16 (s : Vec F S1x8x2x128 .bf16) : FVec F S16x128 .bf16 :=
  interleaveRows S16x128
    (shapeCast S8x128 (shapeCast S1x8x128 (rowsOfParity 0 S1x8x1x128 s bitcasts_S1x8x2x128_w16_S1x8x1x128_w32) shapeCasts_S1x8x1x128_S1x8x128) shapeCasts_S1x8x128_S8x128)
    (shapeCast S8x128 (shapeCast S1x8x128 (rowsOfParity 1 S1x8x1x128 s bitcasts_S1x8x2x128_w16_S1x8x1x128_w32) shapeCasts_S1x8x1x128_S1x8x128) shapeCasts_S1x8x128_S8x128)
    bitcasts_S16x128_w16_S8x128_w32

/-- Thirty-two rows of codes, decoded. -/
def codes32 (p : IVec S8x128 32) : FVec F S32x128 .bf16 :=
  extf FTy.bf16 (bitcastToFloat FTy.fp8e4m3 (bitcast S32x128 8 p bitcasts_S8x128_w32_S32x128_w8)) bitsLt_fp8e4m3_bf16

/-- Sixteen rows of codes, scaled. -/
def prod16 (b : Fin 4) (h : Fin 2) (w : Fin 4 → IVec S8x128 32) (s : Vec F S1x8x2x128 .bf16) (ix : BitVec 32) : FVec F S16x128 .bf16 :=
  mulf
    (match h with
      | 0 => extractStridedSlice S16x128 ![0, 0] (codes32 (plane b w)) slices_S32x128_o0_0_S16x128
      | 1 => extractStridedSlice S16x128 ![16, 0] (codes32 (plane b w)) slices_S32x128_o16_0_S16x128)
    (truncf FTy.bf16 (dynamicGather 1 (extf FTy.f32 (scales16 s) bitsLt_bf16_f32) (gatherIx ix)) bitsLt_bf16_f32)

/-- One store: sixteen rows in pairs. -/
def piece (b : Fin 4) (h : Fin 2) (w : Fin 4 → IVec S8x128 32) (s : Vec F S1x8x2x128 .bf16) (ix : BitVec 32) : Vec F S1x8x2x128 .bf16 :=
  interleaveRows S1x8x2x128
    (shapeCast S1x8x1x128 (shapeCast S1x8x128 (rowsOfParity 0 S8x128 (prod16 b h w s ix) bitcasts_S16x128_w16_S8x128_w32) shapeCasts_S8x128_S1x8x128) shapeCasts_S1x8x128_S1x8x1x128)
    (shapeCast S1x8x1x128 (shapeCast S1x8x128 (rowsOfParity 1 S8x128 (prod16 b h w s ix) bitcasts_S16x128_w16_S8x128_w32) shapeCasts_S8x128_S1x8x128) shapeCasts_S1x8x128_S1x8x1x128)
    bitcasts_S1x8x2x128_w16_S1x8x1x128_w32

/-- Byte `i` of a word. -/
def byteOf (w : BitVec 32) (i : ℕ) : BitVec 8 := w.extractLsb' (8 * i) 8

theorem piece_apply (b : Fin 4) (h : Fin 2) (w : Fin 4 → IVec S8x128 32) (s : Vec F S1x8x2x128 .bf16) (ix : BitVec 32) (q : Fin 8) (p : Fin 2) (l : Fin 128) :
    piece b h w s ix (ix4 0 q p l) = prod16 b h w s ix (ix2 ⟨2 * q.val + p.val, by omega⟩ l) := by
  pointwise [piece]
  fin_cases p <;> rfl

theorem scales16_apply (s : Vec F S1x8x2x128 .bf16) (r : Fin 16) (l : Fin 128) :
    scales16 s (ix2 r l) = s (ix4 0 ⟨r.val / 2, by omega⟩ ⟨r.val % 2, by omega⟩ l) := by
  pointwise [scales16]
  rcases Nat.mod_two_eq_zero_or_one r.val with e | e
  · rw [if_pos (by exact e)]; congr 2; exact Fin.ext e.symm
  · rw [if_neg (by show ¬ r.val % 2 = 0; omega)]; congr 2; exact Fin.ext e.symm

theorem gatherIx_apply (ix : BitVec 32) (h : ix.toNat < 128) (j : S16x128.Idx) : gatherIx ix j = ix := by
  pointwise [gatherIx]
  have e : IntOp.addi (IntOp.muli (BitVec.ofNat 32 (j 1).val) 0#32) ix = ix := by simp [IntOp.addi, IntOp.muli]
  rw [e]
  have e2 : IntOp.cmpi CmpIPredicate.slt ix 0#32 = 0#1 := by
    have : ¬ ix.slt 0#32 = true := by
      rw [BitVec.slt_eq_decide, decide_eq_true_eq, BitVec.toInt_eq_toNat_of_lt (by omega)]
      simp
    simp [IntOp.cmpi, this]
  rw [e2]
  rfl

theorem prod16_apply (b : Fin 4) (h : Fin 2) (w : Fin 4 → IVec S8x128 32) (s : Vec F S1x8x2x128 .bf16) (ix : BitVec 32) (hi : ix.toNat < 128) (r : Fin 16) (l : Fin 128) :
    prod16 b h w s ix (ix2 r l) = FloatOps.mulf (codes32 (plane b w) (ix2 ⟨16 * h.val + r.val, by omega⟩ l))
     (FloatOps.truncf FTy.bf16 bitsLt_bf16_f32 (FloatOps.extf FTy.f32 bitsLt_bf16_f32 (s (ix4 0 ⟨r.val / 2, by omega⟩ ⟨r.val % 2, by omega⟩ ⟨ix.toNat, hi⟩)))) := by
  pointwise [prod16]
  have e : (⟨(gatherIx ix (ix2 r l)).toNat % 128, by omega⟩ : Fin 128) = ⟨ix.toNat, hi⟩ := by
    apply Fin.ext; show (gatherIx ix (ix2 r l)).toNat % 128 = _
    rw [gatherIx_apply ix hi]; exact Nat.mod_eq_of_lt hi
  erw [e, scales16_apply]
  congr 1
  match h with
  | 0 => pointwise
  | 1 => pointwise

theorem bitcast_32_8 (x : S8x128.Idx → BitVec 32) (r : Fin 32) (l : Fin 128) :
    bitcast S32x128 8 x bitcasts_S8x128_w32_S32x128_w8 (ix2 r l) = byteOf (x (ix2 ⟨r.val / 4, by omega⟩ l)) (r.val % 4) := by
  apply BitVec.eq_of_getLsbD_eq
  intro q hq
  rw [bitcast_getLsbD x _ _ q hq (by decide)]
  have er : S32x128.row (ix2 r l) = r.val := rfl
  have ep : (S32x128.row (ix2 r l) * 8 + q) / 32 = r.val / 4 := by omega
  have eq : (S32x128.row (ix2 r l) * 8 + q) % 32 = 8 * (r.val % 4) + q := by omega
  rw [eq, byteOf, BitVec.getLsbD_extractLsb', decide_eq_true hq, Bool.true_and]
  congr 2
  funext c
  match c with
  | ⟨0, _⟩ => exact Fin.ext ((bitcasts_S8x128_w32_S32x128_w8.srcIdx_row _ _ _ ⟨0, Nat.zero_lt_two⟩ rfl).trans ep)
  | ⟨1, _⟩ => exact Fin.ext (bitcasts_S8x128_w32_S32x128_w8.srcIdx_other _ _ _ ⟨1, Nat.one_lt_two⟩ (by show ¬ 1 + 2 = 2; omega))

theorem plane_byte (b : Fin 4) (w : Fin 4 → IVec S8x128 32) (j : S8x128.Idx) (t : Fin 4) :
    byteOf (plane b w j) t.val = byteOf (w t j) b.val := by
  apply BitVec.eq_of_getLsbD_eq
  intro q hq
  simp only [byteOf, BitVec.getLsbD_extractLsb']
  fin_cases b <;> pointwise [plane]
  all_goals simp [IntOp.andi, IntOp.ori, IntOp.shli, IntOp.shrui]
  all_goals fin_cases t <;> interval_cases q <;> simp

/-- A row of codes, decoded: row `r` is byte `b` of the words of the strided row that `r` is in. -/
theorem codes32_apply (b : Fin 4) (w : Fin 4 → IVec S8x128 32) (r : Fin 32) (l : Fin 128) :
    codes32 (F := F) (plane b w) (ix2 r l) = FloatOps.extf FTy.bf16 bitsLt_fp8e4m3_bf16
      (FloatOps.ofBits FTy.fp8e4m3 (byteOf (w ⟨r.val % 4, by omega⟩ (ix2 ⟨r.val / 4, by omega⟩ l)) b.val)) := by
  pointwise [codes32]
  rw [← plane_byte b w (ix2 ⟨r.val / 4, by omega⟩ l) ⟨r.val % 4, by omega⟩, ← bitcast_32_8]

/-- What one store holds, element by element. -/
theorem piece_at (b : Fin 4) (h : Fin 2) (w : Fin 4 → IVec S8x128 32) (s : Vec F S1x8x2x128 .bf16) (ix : BitVec 32) (hi : ix.toNat < 128) (q : Fin 8) (p : Fin 2) (l : Fin 128) :
    piece b h w s ix (ix4 0 q p l) = FloatOps.mulf
      (FloatOps.extf FTy.bf16 bitsLt_fp8e4m3_bf16 (FloatOps.ofBits FTy.fp8e4m3
        (byteOf (w ⟨(2 * q.val + p.val) % 4, by omega⟩ (ix2 ⟨4 * h.val + (2 * q.val + p.val) / 4, by omega⟩ l)) b.val)))
      (FloatOps.truncf FTy.bf16 bitsLt_bf16_f32 (FloatOps.extf FTy.f32 bitsLt_bf16_f32 (s (ix4 0 q p ⟨ix.toNat, hi⟩)))) := by
  rw [piece_apply, prod16_apply b h w s ix hi, codes32_apply]
  have e1 : (⟨(16 * h.val + (2 * q.val + p.val)) % 4, by omega⟩ : Fin 4) = ⟨(2 * q.val + p.val) % 4, by omega⟩ := Fin.ext (by show _ % 4 = _ % 4; omega)
  have e2 : (⟨(16 * h.val + (2 * q.val + p.val)) / 4, by omega⟩ : Fin 8) = ⟨4 * h.val + (2 * q.val + p.val) / 4, by omega⟩ := Fin.ext (by show (16 * h.val + (2 * q.val + p.val)) / 4 = 4 * h.val + (2 * q.val + p.val) / 4; omega)
  have e3 : (⟨(2 * q.val + p.val) / 2, by omega⟩ : Fin 8) = q := Fin.ext (by show (2 * q.val + p.val) / 2 = q.val; omega)
  have e4 : (⟨(2 * q.val + p.val) % 2, by omega⟩ : Fin 2) = p := Fin.ext (by show (2 * q.val + p.val) % 2 = p.val; omega)
  simp only [e1, e2, e3, e4]

end Cert.KernelIdeal.Hand
-- ==== Proof.IdealPack.lean ====
module

public import proofs.«01_k».proof.Proof.IdealPiece
public import Idealize.ShloMosaic.Lib.Exec
public import Idealize.ShloMosaic.Lib.ValueLayout
public import Idealize.ShloMosaic.Lib.Pipeline.ValueKit.Geometry
public import Idealize.ShloMosaic.Lib.Ring

@[expose] public section

/-! What the packing loops of the idealized kernel leave: for every group (a tile of the sequence and a batch) and channel, the decoded
code of each element times the channel's scale. -/

namespace Cert.KernelIdeal.Hand
open Cert.KernelIdeal Cert.KernelIdeal.Gen
open Idealize.ShloMosaic Idealize.ShloMosaic.TcCoe Idealize.ShloMosaic.Tactic

variable {F : FTy → Type} [FloatOps F]

/-- Eight rows of words of tile `j`, every fourth from row `o` on. -/
@[reducible] def rowsW {R : ℕ} (o : Fin 2 → ℕ) (j : ℕ) (f : (⟨3, ![3, R, 128]⟩ : Shape).Idx → BitVec 32)
  (hj : ∀ a, (![j, 0, 0] : Fin 3 → ℕ) a + (![1, R, 128] : Fin 3 → ℕ) a ≤ (⟨3, ![3, R, 128]⟩ : Shape).size a)
  (lr : ∀ a, S8x128.size a = 0 ∨ o a + (![4, 1] : Fin 2 → ℕ) a * (S8x128.size a - 1) < (⟨2, ![R, 128]⟩ : Shape).size a) : IVec S8x128 32 :=
   LoadRect.valAlong (LoadRect.numel_consLift (n := 2) (d := ![R,128]) ⟨o, S8x128.size, ![4, 1], lr⟩ ![1, R, 128] rfl (fun _ => rfl))
     (fun x => f (((Rect.unit (s := ⟨3, ![3, R, 128]⟩) ![j, 0, 0] ![1, R, 128] hj).withinL
      ((⟨o, S8x128.size, ![4, 1], lr⟩ : LoadRect ⟨2, ![R, 128]⟩).consLift
        ![1, R, 128] rfl (fun _ => rfl)) (fun _ => rfl)).idx x))

theorem rowsW_apply {R : ℕ} (o : Fin 2 → ℕ) (j : ℕ) (f : (⟨3, ![3, R, 128]⟩ : Shape).Idx → BitVec 32) (hj) (lr) (q : Fin 8) (l : Fin 128) (hb : j < 3)
    (hr : o 0 + 4 * q.val < R) (h0 : o 1 = 0) : rowsW o j f hj lr (ix2 q l) = f (ix3 ⟨j, hb⟩ ⟨o 0 + 4 * q.val, hr⟩ l) := by
  have e : Shape.reshapeEquiv (LoadRect.numel_consLift (n := 2) (d := ![R,128]) ⟨o, S8x128.size, ![4, 1], lr⟩ ![1, R, 128] rfl (fun _ => rfl)) (ix2 q l) = (ix3 (0 : Fin 1) q l : (⟨3, ![1, 8, 128]⟩ : Shape).Idx) :=
    ValueIdx.reshapeEquiv_ix2_1ab _ q l
  unfold rowsW LoadRect.valAlong
  rw [e]
  refine congrArg f ?_
  funext a; apply Fin.ext
  fin_cases a
  · show j + 0 + 1 * 0 = j; omega
  · show 0 + o 0 + 4 * q.val = o 0 + 4 * q.val; omega
  · show 0 + o 1 + 1 * l.val = l.val; omega

/-- The packed value of channel `ch` in group `g`, at lane `l`. -/
def packAt {R S : ℕ} (hS : ∀ ch, ch < R → ch / 1024 * 8 + 8 ≤ S) (raw : (⟨3, ![3, R, 128]⟩ : Shape).Idx → BitVec 32)
    (sw : (⟨4, ![S, 8, 2, 128]⟩ : Shape).Idx → Elt F .bf16) (g : Fin 12) (ch : ℕ) (hch : ch < R) (l : Fin 128) : Elt F .bf16 :=
  FloatOps.mulf
    (FloatOps.extf FTy.bf16 bitsLt_fp8e4m3_bf16 (FloatOps.ofBits FTy.fp8e4m3 (byteOf (raw (ix3 ⟨g.val / 4, by omega⟩ ⟨ch, hch⟩ l)) (g.val % 4))))
    (FloatOps.truncf FTy.bf16 bitsLt_bf16_f32 (FloatOps.extf FTy.f32 bitsLt_bf16_f32
      (sw (ix4 ⟨ch / 1024 * 8 + ch % 128 / 16, by have := hS ch hch; omega⟩ ⟨ch % 16 / 2, by omega⟩ ⟨ch % 2, by omega⟩ ⟨ch / 128 % 8 * 16 + g.val, by omega⟩))))

theorem packAt_congr {R S : ℕ} (hS : ∀ ch, ch < R → ch / 1024 * 8 + 8 ≤ S) (raw : (⟨3, ![3, R, 128]⟩ : Shape).Idx → BitVec 32)
    (sw : (⟨4, ![S, 8, 2, 128]⟩ : Shape).Idx → Elt F .bf16) (g g' : Fin 12) (ch ch' : ℕ) (hch : ch < R) (hch' : ch' < R) (l l' : Fin 128) (eg : g.val = g'.val) (e : ch = ch') (el : l.val = l'.val) :
    packAt hS raw sw g ch hch l = packAt hS raw sw g' ch' hch' l' := by
  obtain rfl := Fin.ext eg; subst e; obtain rfl := Fin.ext el; rfl

/-- The packed array. -/
def packed {R S N : ℕ} (hS : ∀ ch, ch < R → ch / 1024 * 8 + 8 ≤ S) (hN : R = 2 * N) (raw : (⟨3, ![3, R, 128]⟩ : Shape).Idx → BitVec 32)
    (sw : (⟨4, ![S, 8, 2, 128]⟩ : Shape).Idx → Elt F .bf16) : (⟨4, ![12, N, 2, 128]⟩ : Shape).Idx → Elt F .bf16 := fun i =>
  packAt hS raw sw ⟨(i 0).val, (i 0).isLt⟩ (2 * (i 1).val + (i 2).val)
    (by have h1 : (i 1).val < N := (i 1).isLt; have h2 : (i 2).val < 2 := (i 2).isLt; omega) ⟨(i 3).val, (i 3).isLt⟩

/-- One store holds its rows of the packed array. -/
theorem piece_packAt {R S : ℕ} (hS : ∀ ch, ch < R → ch / 1024 * 8 + 8 ≤ S) (raw : (⟨3, ![3, R, 128]⟩ : Shape).Idx → BitVec 32)
    (sw : (⟨4, ![S, 8, 2, 128]⟩ : Shape).Idx → Elt F .bf16) (k : ℕ) (hk : 32 * k + 32 ≤ R) (j : Fin 3) (b : Fin 4) (h : Fin 2)
    (w : Fin 4 → IVec S8x128 32) (s : Vec F S1x8x2x128 .bf16) (ix : BitVec 32)
    (hw : ∀ (r : Fin 4) (q : Fin 8) (l : Fin 128), w r (ix2 q l) = raw (ix3 j ⟨32 * k + r.val + 4 * q.val, by omega⟩ l))
    (hs : ∀ (q : Fin 8) (p : Fin 2) (l : Fin 128), s (ix4 0 q p l) = sw (ix4 ⟨32 * k / 1024 * 8 + 32 * k % 128 / 16 + h.val, by have := hS (32 * k) (by omega); omega⟩ q p l))
    (hix : ix.toNat = 32 * k / 128 % 8 * 16 + (4 * j.val + b.val)) (q : Fin 8) (p : Fin 2) (l : Fin 128) :
    piece b h w s ix (ix4 0 q p l) = packAt hS raw sw ⟨4 * j.val + b.val, by omega⟩ (2 * (16 * k + 8 * h.val + q.val) + p.val) (by omega) l := by
  rw [piece_at b h w s ix (by omega), hw, hs]
  unfold packAt
  congr 1
  · congr 2
    congr 1
    · congr 1
      funext a
      match a with
      | ⟨0, _⟩ => apply Fin.ext; show j.val = (4 * j.val + b.val) / 4; omega
      | ⟨1, _⟩ => apply Fin.ext; show 32 * k + (2 * q.val + p.val) % 4 + 4 * (4 * h.val + (2 * q.val + p.val) / 4) = 2 * (16 * k + 8 * h.val + q.val) + p.val; omega
      | ⟨2, _⟩ => rfl
    · show b.val = (4 * j.val + b.val) % 4; omega
  · congr 2
    refine congrArg sw ?_
    funext a
    match a with
    | ⟨0, _⟩ => apply Fin.ext; show 32 * k / 1024 * 8 + 32 * k % 128 / 16 + h.val = (2 * (16 * k + 8 * h.val + q.val) + p.val) / 1024 * 8 + (2 * (16 * k + 8 * h.val + q.val) + p.val) % 128 / 16; omega
    | ⟨1, _⟩ => apply Fin.ext; show q.val = (2 * (16 * k + 8 * h.val + q.val) + p.val) % 16 / 2; omega
    | ⟨2, _⟩ => apply Fin.ext; show p.val = (2 * (16 * k + 8 * h.val + q.val) + p.val) % 2; omega
    | ⟨3, _⟩ => apply Fin.ext; show ix.toNat = (2 * (16 * k + 8 * h.val + q.val) + p.val) / 128 % 8 * 16 + (4 * j.val + b.val); omega

/-! ### The stores of a trip together -/

/-- A piece that covers rows `16 k + 8 h …` of group `4 j + b` and holds `G` there. -/
def At {N : ℕ} {Val : EltTy → Type} {e : EltTy} (G : (⟨4, ![12, N, 2, 128]⟩ : Shape).Idx → Val e) (k : ℕ) (t : Fin 3 × Fin 4 × Fin 2) (p : View.Piece Val (⟨4, ![12, N, 2, 128]⟩ : Shape) e) : Prop :=
  (∀ y, y ∈ p.1.set ↔ (y 0).val = 4 * t.1.val + t.2.1.val ∧ 16 * k + 8 * t.2.2.val ≤ (y 1).val ∧ (y 1).val < 16 * k + 8 * t.2.2.val + 8)
    ∧ ∀ x : p.1.shape.Idx, p.2 x = G (p.1.emb x)

theorem at_piece {N : ℕ} {Val : EltTy → Type} {e : EltTy} (G : (⟨4, ![12, N, 2, 128]⟩ : Shape).Idx → Val e) (k : ℕ) (j : Fin 3) (b : Fin 4) (h : Fin 2) (o : Fin 4 → ℕ)
    (ho : o = ![4 * j.val + b.val, 16 * k + 8 * h.val, 0, 0]) (inb : ∀ a, o a + S1x8x2x128.size a ≤ (⟨4, ![12, N, 2, 128]⟩ : Shape).size a) (hk : 16 * k + 16 ≤ N) (P : S1x8x2x128.Idx → Val e)
    (hP : ∀ (q : Fin 8) (p : Fin 2) (l : Fin 128), P (ix4 0 q p l) = G (ix4 ⟨4 * j.val + b.val, by omega⟩ ⟨16 * k + 8 * h.val + q.val, by omega⟩ p l)) :
    At G k (j, b, h) ⟨Rect.unit o S1x8x2x128.size inb, P⟩ := by
  subst ho
  constructor
  · intro y
    refine (Rect.mem_set_unit (inb := inb)).trans ?_
    have h2 : (y 2).val < 2 := (y 2).isLt
    have h3 : (y 3).val < 128 := (y 3).isLt
    constructor
    · intro H
      have e0 : 4 * j.val + b.val ≤ (y 0).val ∧ (y 0).val < 4 * j.val + b.val + 1 := H 0
      have e1 : 16 * k + 8 * h.val ≤ (y 1).val ∧ (y 1).val < 16 * k + 8 * h.val + 8 := H 1
      exact ⟨by show _ = 4 * j.val + b.val; omega, e1⟩
    · intro ⟨e0, e1⟩ a
      have e0 : (y 0).val = 4 * j.val + b.val := e0
      fin_cases a
      · show 4 * j.val + b.val ≤ (y 0).val ∧ (y 0).val < 4 * j.val + b.val + 1; omega
      · exact e1
      · show 0 ≤ (y 2).val ∧ (y 2).val < 0 + 2; omega
      · show 0 ≤ (y 3).val ∧ (y 3).val < 0 + 128; omega
  · intro x
    have ex : x = ix4 (0 : Fin 1) ⟨(x 1).val, (x 1).isLt⟩ ⟨(x 2).val, (x 2).isLt⟩ ⟨(x 3).val, (x 3).isLt⟩ := by
      funext a
      match a with
      | ⟨0, _⟩ => exact Subsingleton.elim (α := Fin 1) _ _
      | ⟨1, _⟩ => rfl
      | ⟨2, _⟩ => rfl
      | ⟨3, _⟩ => rfl
    refine (congrArg P ex).trans ((hP _ _ _).trans (congrArg G ?_))
    funext a
    have h0 : (x 0).val < 1 := (x 0).isLt
    match a with
    | ⟨0, _⟩ => apply Fin.ext; show 4 * j.val + b.val = 4 * j.val + b.val + 1 * (x 0).val; omega
    | ⟨1, _⟩ => apply Fin.ext; show 16 * k + 8 * h.val + (x 1).val = 16 * k + 8 * h.val + 1 * (x 1).val; omega
    | ⟨2, _⟩ => apply Fin.ext; show (x 2).val = 0 + 1 * (x 2).val; omega
    | ⟨3, _⟩ => apply Fin.ext; show (x 3).val = 0 + 1 * (x 3).val; omega

/-- The order of a trip's stores, the last first. -/
def order : List (Fin 3 × Fin 4 × Fin 2) :=
  [(2, 3, 1), (2, 3, 0), (2, 2, 1), (2, 2, 0), (2, 1, 1), (2, 1, 0), (2, 0, 1), (2, 0, 0), (1, 3, 1), (1, 3, 0), (1, 2, 1), (1, 2, 0), (1, 1, 1), (1, 1, 0), (1, 0, 1), (1, 0, 0),
    (0, 3, 1), (0, 3, 0), (0, 2, 1), (0, 2, 0), (0, 1, 1), (0, 1, 0), (0, 0, 1), (0, 0, 0)]
theorem order_all : ∀ t, t ∈ order := by decide

/-- After a trip's stores its rows hold `G`, the others what they held. -/
theorem fill {N : ℕ} {Val : EltTy → Type} {e : EltTy} {sig : RefSig} {κ : Kind} {sp : Space} (v : View sig κ sp (⟨4, ![12, N, 2, 128]⟩ : Shape) e) (f : v.ty.Contents Val)
    (G : (⟨4, ![12, N, 2, 128]⟩ : Shape).Idx → Val e) (k : ℕ) (L : List (View.Piece Val (⟨4, ![12, N, 2, 128]⟩ : Shape) e)) (hL : List.Forall₂ (At G k) order L)
    (y : (⟨4, ![12, N, 2, 128]⟩ : Shape).Idx) :
    v.read Val (v.writes Val f L) y = if 16 * k ≤ (y 1).val ∧ (y 1).val < 16 * k + 16 then G y else v.read Val f y := by
  have hmem : ∀ p ∈ L, ∃ t, At G k t p := by
    intro p hp
    obtain ⟨n, hn, rfl⟩ := List.mem_iff_getElem.mp hp
    exact ⟨_, (List.forall₂_iff_get.mp hL).2 n (by rw [hL.length_eq]; exact hn) hn⟩
  have hcov : ∀ t, ∃ p ∈ L, At G k t p := by
    intro t
    obtain ⟨n, hn, rfl⟩ := List.mem_iff_getElem.mp (order_all t)
    have hn' : n < L.length := by rw [← hL.length_eq]; exact hn
    exact ⟨_, List.getElem_mem hn', (List.forall₂_iff_get.mp hL).2 n hn hn'⟩
  have h0 : (y 0).val < 12 := (y 0).isLt
  split
  · rename_i h
    apply View.read_writes_apply_of_pieces
    · intro p hp; obtain ⟨t, ht⟩ := hmem p hp; exact ht.2
    · obtain ⟨p, hp, ht⟩ := hcov (⟨(y 0).val / 4, by omega⟩, ⟨(y 0).val % 4, by omega⟩, ⟨((y 1).val - 16 * k) / 8, by omega⟩)
      refine ⟨p, hp, (ht.1 y).mpr ⟨?_, ?_⟩⟩
      · show (y 0).val = 4 * ((y 0).val / 4) + (y 0).val % 4; omega
      · show 16 * k + 8 * (((y 1).val - 16 * k) / 8) ≤ _ ∧ _ < 16 * k + 8 * (((y 1).val - 16 * k) / 8) + 8; omega
  · rename_i h
    apply View.read_writes_apply_of_forall_not_mem
    intro p hp hy
    obtain ⟨t, ht⟩ := hmem p hp
    have := (ht.1 y).mp hy
    have := t.2.2.isLt
    omega

end Cert.KernelIdeal.Hand
-- ==== Proof.IdealTrip1.lean ====
module

public import proofs.«01_k».proof.Proof.IdealPack
public import proofs.«01_k».proof.Proof.IdealBlocks
public import proofs.«01_k».proof.Proof.Gen.KernelIdeal.Loops

@[expose] public section

/-! The loop of the idealized kernel that packs `y`: one trip writes sixteen rows of pairs of every group. -/

namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.Sem

variable {F : FTy → Type} [FloatOps F]

local notation "𝕄" => MT nD τ sig Unit (Elt F) ℕ (Pipeline.UD sig nD τ) ℕ

/-- The packed array of `y` from its code words and scale words. -/
def yPacked (c : Dev nD) (f : Cont F c cc0_scratch1) (f' : Cont F c cc0_scratch3) : Cont F c cc0_scratch5 :=
  packed (R := 2560) (S := 24) (N := 1280) (by intro ch h; omega) (by decide) f f'

theorem yIn (j : Fin 3) : ∀ a, (![j.val, 0, 0] : Fin 3 → ℕ) a + (![1, 2560, 128] : Fin 3 → ℕ) a ≤ (⟨3, ![3, 2560, 128]⟩ : Shape).size a := by
  revert j; decide

/-- The four loads of a trip's code words of tile `j`. -/
@[reducible] def yW (c : Dev nD) (f : Cont F c cc0_scratch1) (k : Fin k0_t1_loop.trips) (j : Fin 3) (r : Fin 4) : IVec S8x128 32 :=
  rowsW (R := 2560) (k0_off2 k (BitVec.ofNat 32 r.val)) j.val f (yIn j) (k0_off2_inb k r)

/-- The load of half `h` of a trip's scale words. -/
@[reducible] def yS (c : Dev nD) (f' : Cont F c cc0_scratch3) (k : Fin k0_t1_loop.trips) (h : Fin 2) : Vec F S1x8x2x128 .bf16 :=
  View.readAt (Elt F) (Memref.whole cc0_scratch3).view (Rect.unit (s := S24x8x2x128) (k0_off1 k (BitVec.ofNat 32 h.val)) S1x8x2x128.size (k0_off1_inb k h)).toLoadRect f'

/-- The lane of a trip's scale of group `4 j + b`. -/
@[reducible] def yIx (k : Fin k0_t1_loop.trips) (j b : BitVec 32) : BitVec 32 :=
  let E := Scalar.divsi (Scalar.muli (Scf.iv 0#32 1#32 k.val) 32#32) 128#32
  let D := Scalar.select (0#1) (Scalar.subi E 1#32) E
  let M := Scalar.remsi D 8#32
  Scalar.addi (Scalar.addi (Scalar.muli (Scalar.select (0#1) (Scalar.addi M 8#32) M) 16#32) j) b

theorem yIx_eq (k : Fin k0_t1_loop.trips) (j : Fin 3) (b : Fin 4) :
    (yIx k (BitVec.ofNat 32 (4 * j.val)) (BitVec.ofNat 32 b.val)).toNat = 32 * k.val / 128 % 8 * 16 + (4 * j.val + b.val) := by
  revert k j b; decide +kernel

theorem yOff (k : Fin k0_t1_loop.trips) (r : Fin 4) : k0_off2 k (BitVec.ofNat 32 r.val) = ![32 * k.val + r.val, 0] := by
  revert k r; decide +kernel

theorem yOffS (k : Fin k0_t1_loop.trips) (h : Fin 2) :
    k0_off1 k (BitVec.ofNat 32 h.val) = ![32 * k.val / 1024 * 8 + 32 * k.val % 128 / 16 + h.val, 0, 0, 0] := by
  revert k h; decide +kernel

/-- One store of a trip. -/
theorem yPiece (c : Dev nD) (f : Cont F c cc0_scratch1) (f' : Cont F c cc0_scratch3) (k : Fin k0_t1_loop.trips) (j : Fin 3) (b : Fin 4) (h : Fin 2)
    (hk : 32 * k.val + 32 ≤ 2560) (q : Fin 8) (p : Fin 2) (l : Fin 128) :
    piece b h (yW c f k j) (yS c f' k h) (yIx k (BitVec.ofNat 32 (4 * j.val)) (BitVec.ofNat 32 b.val)) (ix4 0 q p l)
      = yPacked c f f' (ix4 ⟨4 * j.val + b.val, by omega⟩ ⟨16 * k.val + 8 * h.val + q.val, by omega⟩ p l) := by
  refine piece_packAt (R := 2560) (S := 24) (by intro ch h; omega) f f' k.val hk j b h _ _ _ (fun r q l => ?_) (fun q p l => ?_) (yIx_eq k j b) q p l
  · have e := yOff k r
    have e0 : k0_off2 k (BitVec.ofNat 32 r.val) 0 = 32 * k.val + r.val := by rw [e]; rfl
    have e1 : k0_off2 k (BitVec.ofNat 32 r.val) 1 = 0 := by rw [e]; rfl
    refine (rowsW_apply _ _ f _ _ q l j.isLt (by rw [e0]; omega) e1).trans ?_
    refine congrArg f ?_
    funext a
    match a with
    | ⟨0, _⟩ => rfl
    | ⟨1, _⟩ => exact Fin.ext (congrArg (· + 4 * q.val) e0)
    | ⟨2, _⟩ => rfl
  · have e := yOffS k h
    refine congrArg f' ?_
    funext a
    match a with
    | ⟨0, _⟩ => apply Fin.ext; show k0_off1 k (BitVec.ofNat 32 h.val) 0 + 1 * 0 = _; rw [e]; rfl
    | ⟨1, _⟩ => apply Fin.ext; show k0_off1 k (BitVec.ofNat 32 h.val) 1 + 1 * q.val = q.val; rw [e]; show 0 + 1 * q.val = q.val; omega
    | ⟨2, _⟩ => apply Fin.ext; show k0_off1 k (BitVec.ofNat 32 h.val) 2 + 1 * p.val = p.val; rw [e]; show 0 + 1 * p.val = p.val; omega
    | ⟨3, _⟩ => apply Fin.ext; show k0_off1 k (BitVec.ofNat 32 h.val) 3 + 1 * l.val = l.val; rw [e]; show 0 + 1 * l.val = l.val; omega

/-- What a trip of the loop keeps: the rows below `16 k` are packed. -/
noncomputable def inv1 (c : Dev nD) (f : Cont F c cc0_scratch1) (f' : Cont F c cc0_scratch3) (k : ℕ) : sProp 𝕄 :=
  iprop(((Memref.whole cc0_scratch1).view.loc (c : Thread nD τ) ↦{fullShare} f)
    ∗ ((Memref.whole cc0_scratch3).view.loc (c : Thread nD τ) ↦{fullShare} f')
    ∗ ∃ g : Cont F c cc0_scratch5, ((Memref.whole cc0_scratch5).view.loc (c : Thread nD τ) ↦{fullShare} g) ∗ ⌜∀ y, (y 1).val < 16 * k → g y = yPacked c f f' y⌝)

set_option sl_exec.squeezeSlice true in
set_option maxHeartbeats 0 in
/-- One trip of the loop. -/
theorem step1 (c : Dev nD) (arg1 : Memref sig .tc .vmem S3x4x3584 .f32) (harg1 : arg1.IsWhole)
    (arg3 : Memref sig .tc .vmem S3x4x2560 .f32) (harg3 : arg3.IsWhole)
    (f : Cont F c cc0_scratch1) (f' : Cont F c cc0_scratch3) (k : Fin k0_t1_loop.trips) :
    inv1 c f f' k.val ⊢ (wp frame (wpE (defs₀ (F := F)) Variants.none c none) Set.univ
        (k0_t1_body (Memref.whole main_v2) (Memref.isWhole_whole _) arg1 harg1 (Memref.whole main_v6) (Memref.isWhole_whole _) arg3 harg3 (Memref.whole main_v8) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 k ())
        fun _ => inv1 c f f' (k.val + 1) : sProp 𝕄) := by
  have hk : k.val < 80 := Nat.lt_of_lt_of_le k.isLt k0_t1_abs.2.1
  have hk1 : 32 * k.val + 32 ≤ 2560 := by omega
  have hk2 : 16 * k.val + 16 ≤ 1280 := by omega
  unfold inv1
  iintro ⟨H6, H8, %g, H10, %hg⟩
  unfold k0_t1_body
  sl_exec
  sl_step
  isplitl [H6]; · iexact H6
  isplitl [H8]; · iexact H8
  iexists _
  isplitl [H10]; · iexact H10
  ipureintro
  intro y hy
  have hL : List.Forall₂ (At (yPacked c f f') k.val) order _ :=
    (.cons (at_piece _ k.val 2 3 1 (k0_off14 k 8#32) (by clear hk hk1 hk2 hg hy; revert k; decide +kernel) (k0_off14_inb k 1) hk2 _ (yPiece c f f' k 2 3 1 hk1))
      <| .cons (at_piece _ k.val 2 3 0 (k0_off14 k 0#32) (by clear hk hk1 hk2 hg hy; revert k; decide +kernel) (k0_off14_inb k 0) hk2 _ (yPiece c f f' k 2 3 0 hk1))
      <| .cons (at_piece _ k.val 2 2 1 (k0_off13 k 8#32) (by clear hk hk1 hk2 hg hy; revert k; decide +kernel) (k0_off13_inb k 1) hk2 _ (yPiece c f f' k 2 2 1 hk1))
      <| .cons (at_piece _ k.val 2 2 0 (k0_off13 k 0#32) (by clear hk hk1 hk2 hg hy; revert k; decide +kernel) (k0_off13_inb k 0) hk2 _ (yPiece c f f' k 2 2 0 hk1))
      <| .cons (at_piece _ k.val 2 1 1 (k0_off12 k 8#32) (by clear hk hk1 hk2 hg hy; revert k; decide +kernel) (k0_off12_inb k 1) hk2 _ (yPiece c f f' k 2 1 1 hk1))
      <| .cons (at_piece _ k.val 2 1 0 (k0_off12 k 0#32) (by clear hk hk1 hk2 hg hy; revert k; decide +kernel) (k0_off12_inb k 0) hk2 _ (yPiece c f f' k 2 1 0 hk1))
      <| .cons (at_piece _ k.val 2 0 1 (k0_off11 k 8#32) (by clear hk hk1 hk2 hg hy; revert k; decide +kernel) (k0_off11_inb k 1) hk2 _ (yPiece c f f' k 2 0 1 hk1))
      <| .cons (at_piece _ k.val 2 0 0 (k0_off11 k 0#32) (by clear hk hk1 hk2 hg hy; revert k; decide +kernel) (k0_off11_inb k 0) hk2 _ (yPiece c f f' k 2 0 0 hk1))
      <| .cons (at_piece _ k.val 1 3 1 (k0_off10 k 8#32) (by clear hk hk1 hk2 hg hy; revert k; decide +kernel) (k0_off10_inb k 1) hk2 _ (yPiece c f f' k 1 3 1 hk1))
      <| .cons (at_piece _ k.val 1 3 0 (k0_off10 k 0#32) (by clear hk hk1 hk2 hg hy; revert k; decide +kernel) (k0_off10_inb k 0) hk2 _ (yPiece c f f' k 1 3 0 hk1))
      <| .cons (at_piece _ k.val 1 2 1 (k0_off9 k 8#32) (by clear hk hk1 hk2 hg hy; revert k; decide +kernel) (k0_off9_inb k 1) hk2 _ (yPiece c f f' k 1 2 1 hk1))
      <| .cons (at_piece _ k.val 1 2 0 (k0_off9 k 0#32) (by clear hk hk1 hk2 hg hy; revert k; decide +kernel) (k0_off9_inb k 0) hk2 _ (yPiece c f f' k 1 2 0 hk1))
      <| .cons (at_piece _ k.val 1 1 1 (k0_off8 k 8#32) (by clear hk hk1 hk2 hg hy; revert k; decide +kernel) (k0_off8_inb k 1) hk2 _ (yPiece c f f' k 1 1 1 hk1))
      <| .cons (at_piece _ k.val 1 1 0 (k0_off8 k 0#32) (by clear hk hk1 hk2 hg hy; revert k; decide +kernel) (k0_off8_inb k 0) hk2 _ (yPiece c f f' k 1 1 0 hk1))
      <| .cons (at_piece _ k.val 1 0 1 (k0_off7 k 8#32) (by clear hk hk1 hk2 hg hy; revert k; decide +kernel) (k0_off7_inb k 1) hk2 _ (yPiece c f f' k 1 0 1 hk1))
      <| .cons (at_piece _ k.val 1 0 0 (k0_off7 k 0#32) (by clear hk hk1 hk2 hg hy; revert k; decide +kernel) (k0_off7_inb k 0) hk2 _ (yPiece c f f' k 1 0 0 hk1))
      <| .cons (at_piece _ k.val 0 3 1 (k0_off6 k 8#32) (by clear hk hk1 hk2 hg hy; revert k; decide +kernel) (k0_off6_inb k 1) hk2 _ (yPiece c f f' k 0 3 1 hk1))
      <| .cons (at_piece _ k.val 0 3 0 (k0_off6 k 0#32) (by clear hk hk1 hk2 hg hy; revert k; decide +kernel) (k0_off6_inb k 0) hk2 _ (yPiece c f f' k 0 3 0 hk1))
      <| .cons (at_piece _ k.val 0 2 1 (k0_off5 k 8#32) (by clear hk hk1 hk2 hg hy; revert k; decide +kernel) (k0_off5_inb k 1) hk2 _ (yPiece c f f' k 0 2 1 hk1))
      <| .cons (at_piece _ k.val 0 2 0 (k0_off5 k 0#32) (by clear hk hk1 hk2 hg hy; revert k; decide +kernel) (k0_off5_inb k 0) hk2 _ (yPiece c f f' k 0 2 0 hk1))
      <| .cons (at_piece _ k.val 0 1 1 (k0_off4 k 8#32) (by clear hk hk1 hk2 hg hy; revert k; decide +kernel) (k0_off4_inb k 1) hk2 _ (yPiece c f f' k 0 1 1 hk1))
      <| .cons (at_piece _ k.val 0 1 0 (k0_off4 k 0#32) (by clear hk hk1 hk2 hg hy; revert k; decide +kernel) (k0_off4_inb k 0) hk2 _ (yPiece c f f' k 0 1 0 hk1))
      <| .cons (at_piece _ k.val 0 0 1 (k0_off3 k 8#32) (by clear hk hk1 hk2 hg hy; revert k; decide +kernel) (k0_off3_inb k 1) hk2 _ (yPiece c f f' k 0 0 1 hk1))
      <| .cons (at_piece _ k.val 0 0 0 (k0_off3 k 0#32) (by clear hk hk1 hk2 hg hy; revert k; decide +kernel) (k0_off3_inb k 0) hk2 _ (yPiece c f f' k 0 0 0 hk1))
      <| .nil)
  refine (fill (Memref.whole cc0_scratch5).view g (yPacked c f f') k.val _ hL y).trans ?_
  split
  · rfl
  · exact hg y (by omega)

end Cert.KernelIdeal.Hand
-- ==== Proof.IdealTrip2.lean ====
module

public import proofs.«01_k».proof.Proof.IdealPack
public import proofs.«01_k».proof.Proof.IdealBlocks
public import proofs.«01_k».proof.Proof.Gen.KernelIdeal.Loops

@[expose] public section

/-! The loop of the idealized kernel that packs `x`: one trip writes sixteen rows of pairs of every group. -/

namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.Sem

variable {F : FTy → Type} [FloatOps F]

local notation "𝕄" => MT nD τ sig Unit (Elt F) ℕ (Pipeline.UD sig nD τ) ℕ

/-- The packed array of `x` from its code words and scale words. -/
def xPacked (c : Dev nD) (f : Cont F c cc0_scratch0) (f' : Cont F c cc0_scratch2) : Cont F c cc0_scratch4 :=
  packed (R := 3584) (S := 32) (N := 1792) (by intro ch h; omega) (by decide) f f'

theorem xIn (j : Fin 3) : ∀ a, (![j.val, 0, 0] : Fin 3 → ℕ) a + (![1, 3584, 128] : Fin 3 → ℕ) a ≤ (⟨3, ![3, 3584, 128]⟩ : Shape).size a := by
  revert j; decide

/-- The four loads of a trip's code words of tile `j`. -/
@[reducible] def xW (c : Dev nD) (f : Cont F c cc0_scratch0) (k : Fin k0_t2_loop.trips) (j : Fin 3) (r : Fin 4) : IVec S8x128 32 :=
  rowsW (R := 3584) (k0_off16 k (BitVec.ofNat 32 r.val)) j.val f (xIn j) (k0_off16_inb k r)

/-- The load of half `h` of a trip's scale words. -/
@[reducible] def xS (c : Dev nD) (f' : Cont F c cc0_scratch2) (k : Fin k0_t2_loop.trips) (h : Fin 2) : Vec F S1x8x2x128 .bf16 :=
  View.readAt (Elt F) (Memref.whole cc0_scratch2).view (Rect.unit (s := S32x8x2x128) (k0_off15 k (BitVec.ofNat 32 h.val)) S1x8x2x128.size (k0_off15_inb k h)).toLoadRect f'

/-- The lane of a trip's scale of group `4 j + b`. -/
@[reducible] def xIx (k : Fin k0_t2_loop.trips) (j b : BitVec 32) : BitVec 32 :=
  let E := Scalar.divsi (Scalar.muli (Scf.iv 0#32 1#32 k.val) 32#32) 128#32
  let D := Scalar.select (0#1) (Scalar.subi E 1#32) E
  let M := Scalar.remsi D 8#32
  Scalar.addi (Scalar.addi (Scalar.muli (Scalar.select (0#1) (Scalar.addi M 8#32) M) 16#32) j) b

theorem xIx_eq (k : Fin k0_t2_loop.trips) (j : Fin 3) (b : Fin 4) :
    (xIx k (BitVec.ofNat 32 (4 * j.val)) (BitVec.ofNat 32 b.val)).toNat = 32 * k.val / 128 % 8 * 16 + (4 * j.val + b.val) := by
  revert k j b; decide +kernel

theorem xOff (k : Fin k0_t2_loop.trips) (r : Fin 4) : k0_off16 k (BitVec.ofNat 32 r.val) = ![32 * k.val + r.val, 0] := by
  revert k r; decide +kernel

theorem xOffS (k : Fin k0_t2_loop.trips) (h : Fin 2) :
    k0_off15 k (BitVec.ofNat 32 h.val) = ![32 * k.val / 1024 * 8 + 32 * k.val % 128 / 16 + h.val, 0, 0, 0] := by
  revert k h; decide +kernel

/-- One store of a trip. -/
theorem xPiece (c : Dev nD) (f : Cont F c cc0_scratch0) (f' : Cont F c cc0_scratch2) (k : Fin k0_t2_loop.trips) (j : Fin 3) (b : Fin 4) (h : Fin 2)
    (hk : 32 * k.val + 32 ≤ 3584) (q : Fin 8) (p : Fin 2) (l : Fin 128) :
    piece b h (xW c f k j) (xS c f' k h) (xIx k (BitVec.ofNat 32 (4 * j.val)) (BitVec.ofNat 32 b.val)) (ix4 0 q p l)
      = xPacked c f f' (ix4 ⟨4 * j.val + b.val, by omega⟩ ⟨16 * k.val + 8 * h.val + q.val, by omega⟩ p l) := by
  refine piece_packAt (R := 3584) (S := 32) (by intro ch h; omega) f f' k.val hk j b h _ _ _ (fun r q l => ?_) (fun q p l => ?_) (xIx_eq k j b) q p l
  · have e := xOff k r
    have e0 : k0_off16 k (BitVec.ofNat 32 r.val) 0 = 32 * k.val + r.val := by rw [e]; rfl
    have e1 : k0_off16 k (BitVec.ofNat 32 r.val) 1 = 0 := by rw [e]; rfl
    refine (rowsW_apply _ _ f _ _ q l j.isLt (by rw [e0]; omega) e1).trans ?_
    refine congrArg f ?_
    funext a
    match a with
    | ⟨0, _⟩ => rfl
    | ⟨1, _⟩ => exact Fin.ext (congrArg (· + 4 * q.val) e0)
    | ⟨2, _⟩ => rfl
  · have e := xOffS k h
    refine congrArg f' ?_
    funext a
    match a with
    | ⟨0, _⟩ => apply Fin.ext; show k0_off15 k (BitVec.ofNat 32 h.val) 0 + 1 * 0 = _; rw [e]; rfl
    | ⟨1, _⟩ => apply Fin.ext; show k0_off15 k (BitVec.ofNat 32 h.val) 1 + 1 * q.val = q.val; rw [e]; show 0 + 1 * q.val = q.val; omega
    | ⟨2, _⟩ => apply Fin.ext; show k0_off15 k (BitVec.ofNat 32 h.val) 2 + 1 * p.val = p.val; rw [e]; show 0 + 1 * p.val = p.val; omega
    | ⟨3, _⟩ => apply Fin.ext; show k0_off15 k (BitVec.ofNat 32 h.val) 3 + 1 * l.val = l.val; rw [e]; show 0 + 1 * l.val = l.val; omega

/-- What a trip of the loop keeps: the rows below `16 k` are packed. -/
noncomputable def inv2 (c : Dev nD) (f : Cont F c cc0_scratch0) (f' : Cont F c cc0_scratch2) (k : ℕ) : sProp 𝕄 :=
  iprop(((Memref.whole cc0_scratch0).view.loc (c : Thread nD τ) ↦{fullShare} f)
    ∗ ((Memref.whole cc0_scratch2).view.loc (c : Thread nD τ) ↦{fullShare} f')
    ∗ ∃ g : Cont F c cc0_scratch4, ((Memref.whole cc0_scratch4).view.loc (c : Thread nD τ) ↦{fullShare} g) ∗ ⌜∀ y, (y 1).val < 16 * k → g y = xPacked c f f' y⌝)

set_option sl_exec.squeezeSlice true in
set_option maxHeartbeats 0 in
/-- One trip of the loop. -/
theorem step2 (c : Dev nD) (arg1 : Memref sig .tc .vmem S3x4x3584 .f32) (harg1 : arg1.IsWhole)
    (arg3 : Memref sig .tc .vmem S3x4x2560 .f32) (harg3 : arg3.IsWhole)
    (f : Cont F c cc0_scratch0) (f' : Cont F c cc0_scratch2) (k : Fin k0_t2_loop.trips) :
    inv2 c f f' k.val ⊢ (wp frame (wpE (defs₀ (F := F)) Variants.none c none) Set.univ
        (k0_t2_body (Memref.whole main_v2) (Memref.isWhole_whole _) arg1 harg1 (Memref.whole main_v6) (Memref.isWhole_whole _) arg3 harg3 (Memref.whole main_v8) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 k ())
        fun _ => inv2 c f f' (k.val + 1) : sProp 𝕄) := by
  have hk : k.val < 112 := Nat.lt_of_lt_of_le k.isLt k0_t2_abs.2.1
  have hk1 : 32 * k.val + 32 ≤ 3584 := by omega
  have hk2 : 16 * k.val + 16 ≤ 1792 := by omega
  unfold inv2
  iintro ⟨H6, H8, %g, H10, %hg⟩
  unfold k0_t2_body
  sl_exec
  sl_step
  isplitl [H6]; · iexact H6
  isplitl [H8]; · iexact H8
  iexists _
  isplitl [H10]; · iexact H10
  ipureintro
  intro y hy
  have hL : List.Forall₂ (At (xPacked c f f') k.val) order _ :=
    (.cons (at_piece _ k.val 2 3 1 (k0_off28 k 8#32) (by clear hk hk1 hk2 hg hy; revert k; decide +kernel) (k0_off28_inb k 1) hk2 _ (xPiece c f f' k 2 3 1 hk1))
      <| .cons (at_piece _ k.val 2 3 0 (k0_off28 k 0#32) (by clear hk hk1 hk2 hg hy; revert k; decide +kernel) (k0_off28_inb k 0) hk2 _ (xPiece c f f' k 2 3 0 hk1))
      <| .cons (at_piece _ k.val 2 2 1 (k0_off27 k 8#32) (by clear hk hk1 hk2 hg hy; revert k; decide +kernel) (k0_off27_inb k 1) hk2 _ (xPiece c f f' k 2 2 1 hk1))
      <| .cons (at_piece _ k.val 2 2 0 (k0_off27 k 0#32) (by clear hk hk1 hk2 hg hy; revert k; decide +kernel) (k0_off27_inb k 0) hk2 _ (xPiece c f f' k 2 2 0 hk1))
      <| .cons (at_piece _ k.val 2 1 1 (k0_off26 k 8#32) (by clear hk hk1 hk2 hg hy; revert k; decide +kernel) (k0_off26_inb k 1) hk2 _ (xPiece c f f' k 2 1 1 hk1))
      <| .cons (at_piece _ k.val 2 1 0 (k0_off26 k 0#32) (by clear hk hk1 hk2 hg hy; revert k; decide +kernel) (k0_off26_inb k 0) hk2 _ (xPiece c f f' k 2 1 0 hk1))
      <| .cons (at_piece _ k.val 2 0 1 (k0_off25 k 8#32) (by clear hk hk1 hk2 hg hy; revert k; decide +kernel) (k0_off25_inb k 1) hk2 _ (xPiece c f f' k 2 0 1 hk1))
      <| .cons (at_piece _ k.val 2 0 0 (k0_off25 k 0#32) (by clear hk hk1 hk2 hg hy; revert k; decide +kernel) (k0_off25_inb k 0) hk2 _ (xPiece c f f' k 2 0 0 hk1))
      <| .cons (at_piece _ k.val 1 3 1 (k0_off24 k 8#32) (by clear hk hk1 hk2 hg hy; revert k; decide +kernel) (k0_off24_inb k 1) hk2 _ (xPiece c f f' k 1 3 1 hk1))
      <| .cons (at_piece _ k.val 1 3 0 (k0_off24 k 0#32) (by clear hk hk1 hk2 hg hy; revert k; decide +kernel) (k0_off24_inb k 0) hk2 _ (xPiece c f f' k 1 3 0 hk1))
      <| .cons (at_piece _ k.val 1 2 1 (k0_off23 k 8#32) (by clear hk hk1 hk2 hg hy; revert k; decide +kernel) (k0_off23_inb k 1) hk2 _ (xPiece c f f' k 1 2 1 hk1))
      <| .cons (at_piece _ k.val 1 2 0 (k0_off23 k 0#32) (by clear hk hk1 hk2 hg hy; revert k; decide +kernel) (k0_off23_inb k 0) hk2 _ (xPiece c f f' k 1 2 0 hk1))
      <| .cons (at_piece _ k.val 1 1 1 (k0_off22 k 8#32) (by clear hk hk1 hk2 hg hy; revert k; decide +kernel) (k0_off22_inb k 1) hk2 _ (xPiece c f f' k 1 1 1 hk1))
      <| .cons (at_piece _ k.val 1 1 0 (k0_off22 k 0#32) (by clear hk hk1 hk2 hg hy; revert k; decide +kernel) (k0_off22_inb k 0) hk2 _ (xPiece c f f' k 1 1 0 hk1))
      <| .cons (at_piece _ k.val 1 0 1 (k0_off21 k 8#32) (by clear hk hk1 hk2 hg hy; revert k; decide +kernel) (k0_off21_inb k 1) hk2 _ (xPiece c f f' k 1 0 1 hk1))
      <| .cons (at_piece _ k.val 1 0 0 (k0_off21 k 0#32) (by clear hk hk1 hk2 hg hy; revert k; decide +kernel) (k0_off21_inb k 0) hk2 _ (xPiece c f f' k 1 0 0 hk1))
      <| .cons (at_piece _ k.val 0 3 1 (k0_off20 k 8#32) (by clear hk hk1 hk2 hg hy; revert k; decide +kernel) (k0_off20_inb k 1) hk2 _ (xPiece c f f' k 0 3 1 hk1))
      <| .cons (at_piece _ k.val 0 3 0 (k0_off20 k 0#32) (by clear hk hk1 hk2 hg hy; revert k; decide +kernel) (k0_off20_inb k 0) hk2 _ (xPiece c f f' k 0 3 0 hk1))
      <| .cons (at_piece _ k.val 0 2 1 (k0_off19 k 8#32) (by clear hk hk1 hk2 hg hy; revert k; decide +kernel) (k0_off19_inb k 1) hk2 _ (xPiece c f f' k 0 2 1 hk1))
      <| .cons (at_piece _ k.val 0 2 0 (k0_off19 k 0#32) (by clear hk hk1 hk2 hg hy; revert k; decide +kernel) (k0_off19_inb k 0) hk2 _ (xPiece c f f' k 0 2 0 hk1))
      <| .cons (at_piece _ k.val 0 1 1 (k0_off18 k 8#32) (by clear hk hk1 hk2 hg hy; revert k; decide +kernel) (k0_off18_inb k 1) hk2 _ (xPiece c f f' k 0 1 1 hk1))
      <| .cons (at_piece _ k.val 0 1 0 (k0_off18 k 0#32) (by clear hk hk1 hk2 hg hy; revert k; decide +kernel) (k0_off18_inb k 0) hk2 _ (xPiece c f f' k 0 1 0 hk1))
      <| .cons (at_piece _ k.val 0 0 1 (k0_off17 k 8#32) (by clear hk hk1 hk2 hg hy; revert k; decide +kernel) (k0_off17_inb k 1) hk2 _ (xPiece c f f' k 0 0 1 hk1))
      <| .cons (at_piece _ k.val 0 0 0 (k0_off17 k 0#32) (by clear hk hk1 hk2 hg hy; revert k; decide +kernel) (k0_off17_inb k 0) hk2 _ (xPiece c f f' k 0 0 0 hk1))
      <| .nil)
  refine (fill (Memref.whole cc0_scratch4).view g (xPacked c f f') k.val _ hL y).trans ?_
  split
  · rfl
  · exact hg y (by omega)

end Cert.KernelIdeal.Hand
-- ==== Proof.IdealScales.lean ====
module

public import proofs.«01_k».proof.Proof.IdealPack
public import Idealize.ShloMosaic.Lib.Pipeline.Value

@[expose] public section

/-! The scale words of the idealized kernel: the scales of 1024 channels in one square of 128 by 128, transposed and stored sixteen channels a row. -/

namespace Cert.KernelIdeal.Hand
open Cert.KernelIdeal Cert.KernelIdeal.Gen
open Idealize.ShloMosaic Idealize.ShloMosaic.TcCoe Idealize.ShloMosaic.Tactic

variable {F : FTy → Type} [FloatOps F]

@[reducible] def fullL (P : ℕ → FVec F S4x128 .f32) : List ((s : Shape) × (s.Idx → F .f32)) :=
  [⟨S4x128, P 0⟩, ⟨S4x128, P 1⟩, ⟨S4x128, P 2⟩, ⟨S4x128, P 3⟩, ⟨S4x128, P 4⟩, ⟨S4x128, P 5⟩, ⟨S4x128, P 6⟩, ⟨S4x128, P 7⟩, ⟨S4x128, P 8⟩, ⟨S4x128, P 9⟩, ⟨S4x128, P 10⟩, ⟨S4x128, P 11⟩, ⟨S4x128, P 12⟩, ⟨S4x128, P 13⟩, ⟨S4x128, P 14⟩, ⟨S4x128, P 15⟩, ⟨S4x128, P 16⟩, ⟨S4x128, P 17⟩, ⟨S4x128, P 18⟩, ⟨S4x128, P 19⟩, ⟨S4x128, P 20⟩, ⟨S4x128, P 21⟩, ⟨S4x128, P 22⟩, ⟨S4x128, P 23⟩, ⟨S4x128, P 24⟩, ⟨S4x128, P 25⟩, ⟨S4x128, P 26⟩, ⟨S4x128, P 27⟩, ⟨S4x128, P 28⟩, ⟨S4x128, P 29⟩, ⟨S4x128, P 30⟩, ⟨S4x128, P 31⟩]

@[reducible] def halfL (P : ℕ → FVec F S4x128 .f32) (Z : FVec F S16x128 .f32) : List ((s : Shape) × (s.Idx → F .f32)) :=
  [⟨S4x128, P 0⟩, ⟨S4x128, P 1⟩, ⟨S4x128, P 2⟩, ⟨S4x128, P 3⟩, ⟨S4x128, P 4⟩, ⟨S4x128, P 5⟩, ⟨S4x128, P 6⟩, ⟨S4x128, P 7⟩, ⟨S4x128, P 8⟩, ⟨S4x128, P 9⟩, ⟨S4x128, P 10⟩, ⟨S4x128, P 11⟩, ⟨S4x128, P 12⟩, ⟨S4x128, P 13⟩, ⟨S4x128, P 14⟩, ⟨S4x128, P 15⟩, ⟨S16x128, Z⟩, ⟨S16x128, Z⟩, ⟨S16x128, Z⟩, ⟨S16x128, Z⟩]

/-- Thirty-two slabs of four rows, one below the other. -/
@[reducible] def full (P : ℕ → FVec F S4x128 .f32) : FVec F S128x128 .f32 :=
  concatenate S128x128 0 (fullL P) concatenates_S4x128_S4x128_S4x128_S4x128_S4x128_S4x128_S4x128_S4x128_S4x128_S4x128_S4x128_S4x128_S4x128_S4x128_S4x128_S4x128_S4x128_S4x128_S4x128_S4x128_S4x128_S4x128_S4x128_S4x128_S4x128_S4x128_S4x128_S4x128_S4x128_S4x128_S4x128_S4x128_S128x128_d0

/-- Sixteen slabs of four rows and four of sixteen, one below the other. -/
@[reducible] def half (P : ℕ → FVec F S4x128 .f32) (Z : FVec F S16x128 .f32) : FVec F S128x128 .f32 :=
  concatenate S128x128 0 (halfL P Z) concatenates_S4x128_S4x128_S4x128_S4x128_S4x128_S4x128_S4x128_S4x128_S4x128_S4x128_S4x128_S4x128_S4x128_S4x128_S4x128_S4x128_S16x128_S16x128_S16x128_S16x128_S128x128_d0

theorem four_sum (k : ℕ) : ((List.replicate k S4x128).map fun s : Shape => if h : s.rank = S128x128.rank then s.size ((0 : Fin S128x128.rank).cast h.symm) else 0).sum = 4 * k := by
  rw [List.map_replicate, List.sum_replicate]
  show k * 4 = 4 * k
  omega

theorem full_apply (P : ℕ → FVec F S4x128 .f32) (k : ℕ) (hk : k < 32) (r : Fin 4) (l : Fin 128) : full P (ix2 ⟨4 * k + r.val, by omega⟩ l) = P k (ix2 r l) := by
  have hx : ∀ k (hk : k < (fullL P).length), (fullL P)[k] = ⟨S4x128, P k⟩ := by
    intro k hk
    have hk : k < 32 := hk
    interval_cases k <;> rfl
  have e : (fullL P).map (·.1) = List.replicate 32 S4x128 := rfl
  have ht : ((fullL P).take k).map (·.1) = List.replicate k S4x128 := by
    rw [List.map_take, e, List.take_replicate, Nat.min_eq_left (by omega)]
  refine concatenate_apply_piece (0 : Fin S128x128.rank) (fullL P) concatenates_S4x128_S4x128_S4x128_S4x128_S4x128_S4x128_S4x128_S4x128_S4x128_S4x128_S4x128_S4x128_S4x128_S4x128_S4x128_S4x128_S4x128_S4x128_S4x128_S4x128_S4x128_S4x128_S4x128_S4x128_S4x128_S4x128_S4x128_S4x128_S4x128_S4x128_S4x128_S4x128_S128x128_d0 (ix2 ⟨4 * k + r.val, by omega⟩ l) k hk S4x128 (P k) (hx k hk) rfl (4 * k) (by rw [ht]; exact four_sum k) (ix2 r l) ?_ rfl
  intro b hb
  match b with
  | ⟨0, _⟩ => exact absurd rfl hb
  | ⟨1, _⟩ => rfl

theorem half_apply (P : ℕ → FVec F S4x128 .f32) (Z : FVec F S16x128 .f32) (k : ℕ) (hk : k < 16) (r : Fin 4) (l : Fin 128) :
    half P Z (ix2 ⟨4 * k + r.val, by omega⟩ l) = P k (ix2 r l) := by
  have hk' : k < (halfL P Z).length := by show k < 20; omega
  have hx : (halfL P Z)[k] = ⟨S4x128, P k⟩ := by
    interval_cases k <;> rfl
  have e : (halfL P Z).map (·.1) = List.replicate 16 S4x128 ++ List.replicate 4 S16x128 := rfl
  have ht : ((halfL P Z).take k).map (·.1) = List.replicate k S4x128 := by
    rw [List.map_take, e, List.take_append_of_le_length (by rw [List.length_replicate]; omega), List.take_replicate, Nat.min_eq_left (by omega)]
  refine concatenate_apply_piece (0 : Fin S128x128.rank) (halfL P Z) concatenates_S4x128_S4x128_S4x128_S4x128_S4x128_S4x128_S4x128_S4x128_S4x128_S4x128_S4x128_S4x128_S4x128_S4x128_S4x128_S4x128_S16x128_S16x128_S16x128_S16x128_S128x128_d0 (ix2 ⟨4 * k + r.val, by omega⟩ l) k hk' S4x128 (P k) hx rfl (4 * k) (by rw [ht]; exact four_sum k) (ix2 r l) ?_ rfl
  intro b hb
  match b with
  | ⟨0, _⟩ => exact absurd rfl hb
  | ⟨1, _⟩ => rfl

/-- Row `r` of a square's scale words. -/
def wordsRow (M : FVec F S128x128 .f32) (o : Fin 2 → ℕ) (ho : S128x128.Slices o S16x128) : Vec F S1x8x2x128 .bf16 :=
  interleaveRows S1x8x2x128
    (shapeCast S1x8x1x128 (shapeCast S1x8x128 (rowsOfParity 0 S8x128 (truncf FTy.bf16 (extractStridedSlice S16x128 o (transpose S128x128 [1, 0] M transposes_S128x128_p1_0_S128x128) ho) bitsLt_bf16_f32) bitcasts_S16x128_w16_S8x128_w32) shapeCasts_S8x128_S1x8x128) shapeCasts_S1x8x128_S1x8x1x128)
    (shapeCast S1x8x1x128 (shapeCast S1x8x128 (rowsOfParity 1 S8x128 (truncf FTy.bf16 (extractStridedSlice S16x128 o (transpose S128x128 [1, 0] M transposes_S128x128_p1_0_S128x128) ho) bitsLt_bf16_f32) bitcasts_S16x128_w16_S8x128_w32) shapeCasts_S8x128_S1x8x128) shapeCasts_S1x8x128_S1x8x1x128)
    bitcasts_S1x8x2x128_w16_S1x8x1x128_w32

theorem wordsRow_apply (M : FVec F S128x128 .f32) (o : Fin 2 → ℕ) (ho : S128x128.Slices o S16x128) (r : Fin 8) (e0 : o 0 = 16 * r.val) (e1 : o 1 = 0) (q : Fin 8) (p : Fin 2) (l : Fin 128) :
    wordsRow M o ho (ix4 0 q p l) = FloatOps.truncf FTy.bf16 bitsLt_bf16_f32 (M (ix2 l ⟨16 * r.val + (2 * q.val + p.val), by omega⟩)) := by
  pointwise [wordsRow]
  rcases (by omega : p.val = 0 ∨ p.val = 1) with e | e
  · rw [if_pos (by omega)]
    refine congrArg (FloatOps.truncf FTy.bf16 bitsLt_bf16_f32) (congrArg M ?_)
    funext a
    match a with
    | ⟨0, _⟩ => apply Fin.ext; show o 1 + l.val = l.val; omega
    | ⟨1, _⟩ => apply Fin.ext; show o 0 + 2 * q.val = 16 * r.val + (2 * q.val + p.val); omega
  · rw [if_neg (by omega)]
    refine congrArg (FloatOps.truncf FTy.bf16 bitsLt_bf16_f32) (congrArg M ?_)
    funext a
    match a with
    | ⟨0, _⟩ => apply Fin.ext; show o 1 + l.val = l.val; omega
    | ⟨1, _⟩ => apply Fin.ext; show o 0 + (2 * q.val + 1) = 16 * r.val + (2 * q.val + p.val); omega

/-- Slab `k` of the square whose first channel is `base`: four rows of scales, or zeros. -/
def slab {C : ℕ} (m : Memref sig .tc .vmem ⟨3, ![3, 4, C]⟩ .f32) (f : m.view.ty.Contents (Elt F)) (base k : ℕ) : FVec F S4x128 .f32 :=
  if h : k % 4 < 3 ∧ base + 128 * (k / 4) + 128 ≤ C then
    shapeCast S4x128
      (View.readAt (Elt F) m.view (Rect.unit (s := ⟨3, ![3, 4, C]⟩) ![k % 4, 0, base + 128 * (k / 4)] S1x4x128.size (by
        intro a
        match a with
        | ⟨0, _⟩ => show k % 4 + 1 ≤ 3; omega
        | ⟨1, _⟩ => show 0 + 4 ≤ 4; omega
        | ⟨2, _⟩ => show base + 128 * (k / 4) + 128 ≤ C; omega)).toLoadRect f)
      shapeCasts_S1x4x128_S4x128
  else broadcast S4x128 (FloatOps.ofBits FTy.f32 0#32)

theorem slab_apply {C : ℕ} (m : Memref sig .tc .vmem ⟨3, ![3, 4, C]⟩ .f32) (f : m.view.ty.Contents (Elt F)) (base k : ℕ) (hk : k % 4 < 3) (hb : base + 128 * (k / 4) + 128 ≤ C)
    (r : Fin 4) (l : Fin 128) : slab m f base k (ix2 r l) = m.view.read (Elt F) f (ix3 ⟨k % 4, hk⟩ r ⟨base + 128 * (k / 4) + l.val, by omega⟩) := by
  unfold slab
  rw [dif_pos ⟨hk, hb⟩]
  have e : Shape.reshapeEquiv shapeCasts_S1x4x128_S4x128 (ix2 r l) = (ix3 (0 : Fin 1) r l : S1x4x128.Idx) := ValueIdx.reshapeEquiv_ix2_1ab _ r l
  unfold shapeCast
  rw [e]
  refine congrArg (m.view.read (Elt F) f) ?_
  funext a
  match a with
  | ⟨0, _⟩ => apply Fin.ext; show k % 4 + 1 * 0 = k % 4; omega
  | ⟨1, _⟩ => apply Fin.ext; show 0 + 1 * r.val = r.val; omega
  | ⟨2, _⟩ => apply Fin.ext; show base + 128 * (k / 4) + 1 * l.val = base + 128 * (k / 4) + l.val; omega

/-- The square of the channels `1024 s …`; the last one is half empty. -/
def square {C : ℕ} (n : ℕ) (m : Memref sig .tc .vmem ⟨3, ![3, 4, C]⟩ .f32) (f : m.view.ty.Contents (Elt F)) (s : ℕ) : FVec F S128x128 .f32 :=
  if s < n then full (slab m f (1024 * s)) else half (slab m f (1024 * s)) (broadcast S16x128 (FloatOps.ofBits FTy.f32 0#32))

theorem square_apply {C : ℕ} (n : ℕ) (hC : C = 1024 * n + 512) (m : Memref sig .tc .vmem ⟨3, ![3, 4, C]⟩ .f32) (f : m.view.ty.Contents (Elt F)) (ch : ℕ) (hch : ch < C) (g : Fin 12) :
    square n m f (ch / 1024) (ix2 ⟨ch / 128 % 8 * 16 + g.val, by omega⟩ ⟨ch % 128, by omega⟩)
      = m.view.read (Elt F) f (ix3 ⟨g.val / 4, by omega⟩ ⟨g.val % 4, by omega⟩ ⟨ch, hch⟩) := by
  have ei : (ix2 ⟨ch / 128 % 8 * 16 + g.val, by omega⟩ ⟨ch % 128, by omega⟩ : S128x128.Idx)
      = ix2 ⟨4 * (4 * (ch / 128 % 8) + g.val / 4) + g.val % 4, by omega⟩ ⟨ch % 128, by omega⟩ := by
    funext a
    match a with
    | ⟨0, _⟩ => apply Fin.ext; show ch / 128 % 8 * 16 + g.val = 4 * (4 * (ch / 128 % 8) + g.val / 4) + g.val % 4; omega
    | ⟨1, _⟩ => rfl
  have key := slab_apply m f (1024 * (ch / 1024)) (4 * (ch / 128 % 8) + g.val / 4) (by omega) (by omega) ⟨g.val % 4, by omega⟩ ⟨ch % 128, by omega⟩
  have fin : m.view.read (Elt F) f (ix3 ⟨(4 * (ch / 128 % 8) + g.val / 4) % 4, by omega⟩ ⟨g.val % 4, by omega⟩ ⟨1024 * (ch / 1024) + 128 * ((4 * (ch / 128 % 8) + g.val / 4) / 4) + ch % 128, by omega⟩)
      = m.view.read (Elt F) f (ix3 ⟨g.val / 4, by omega⟩ ⟨g.val % 4, by omega⟩ ⟨ch, hch⟩) := by
    refine congrArg (m.view.read (Elt F) f) ?_
    funext a
    match a with
    | ⟨0, _⟩ => apply Fin.ext; show (4 * (ch / 128 % 8) + g.val / 4) % 4 = g.val / 4; omega
    | ⟨1, _⟩ => rfl
    | ⟨2, _⟩ => apply Fin.ext; show 1024 * (ch / 1024) + 128 * ((4 * (ch / 128 % 8) + g.val / 4) / 4) + ch % 128 = ch; omega
  unfold square
  rw [ei]
  split
  · exact (full_apply _ (4 * (ch / 128 % 8) + g.val / 4) (by omega) ⟨g.val % 4, by omega⟩ ⟨ch % 128, by omega⟩).trans (key.trans fin)
  · exact (half_apply _ _ (4 * (ch / 128 % 8) + g.val / 4) (by omega) ⟨g.val % 4, by omega⟩ ⟨ch % 128, by omega⟩).trans (key.trans fin)

/-- All scale words, from the squares. -/
def wordsOf {S : ℕ} (M : ℕ → FVec F S128x128 .f32) : (⟨4, ![S, 8, 2, 128]⟩ : Shape).Idx → Elt F .bf16 := fun i =>
  FloatOps.truncf FTy.bf16 bitsLt_bf16_f32 (M ((i 0).val / 8) (ix2 ⟨(i 3).val, (i 3).isLt⟩ ⟨16 * ((i 0).val % 8) + (2 * (i 1).val + (i 2).val), by
    have h1 : (i 1).val < 8 := (i 1).isLt
    have h2 : (i 2).val < 2 := (i 2).isLt
    omega⟩))

/-- The scale word of a channel and a group. -/
theorem words_at {C S : ℕ} (n : ℕ) (hC : C = 1024 * n + 512) (hS : ∀ ch, ch < C → ch / 1024 * 8 + 8 ≤ S) (m : Memref sig .tc .vmem ⟨3, ![3, 4, C]⟩ .f32) (f : m.view.ty.Contents (Elt F))
    (ch : ℕ) (hch : ch < C) (g : Fin 12) :
    wordsOf (S := S) (square n m f) (ix4 ⟨ch / 1024 * 8 + ch % 128 / 16, by have := hS ch hch; omega⟩ ⟨ch % 16 / 2, by omega⟩ ⟨ch % 2, by omega⟩ ⟨ch / 128 % 8 * 16 + g.val, by omega⟩)
      = FloatOps.truncf FTy.bf16 bitsLt_bf16_f32 (m.view.read (Elt F) f (ix3 ⟨g.val / 4, by omega⟩ ⟨g.val % 4, by omega⟩ ⟨ch, hch⟩)) := by
  refine congrArg (FloatOps.truncf FTy.bf16 bitsLt_bf16_f32) (Eq.trans ?_ (square_apply n hC m f ch hch g))
  have e : (ch / 1024 * 8 + ch % 128 / 16) / 8 = ch / 1024 := by omega
  show square n m f ((ch / 1024 * 8 + ch % 128 / 16) / 8) _ = _
  rw [e]
  refine congrArg (square n m f (ch / 1024)) ?_
  funext a
  match a with
  | ⟨0, _⟩ => rfl
  | ⟨1, _⟩ => apply Fin.ext; show 16 * ((ch / 1024 * 8 + ch % 128 / 16) % 8) + (2 * (ch % 16 / 2) + ch % 2) = ch % 128; omega

/-- A piece that covers row `n` and holds `G` there. -/
def AtRow {S : ℕ} {Val : EltTy → Type} {e : EltTy} (G : (⟨4, ![S, 8, 2, 128]⟩ : Shape).Idx → Val e) (n : ℕ) (p : View.Piece Val (⟨4, ![S, 8, 2, 128]⟩ : Shape) e) : Prop :=
  (∀ y : (⟨4, ![S, 8, 2, 128]⟩ : Shape).Idx, (y 0).val = n → y ∈ p.1.set) ∧ ∀ x : p.1.shape.Idx, p.2 x = G (p.1.emb x)

theorem row_words {S : ℕ} (M : ℕ → FVec F S128x128 .f32) (s : ℕ) (r : Fin 8) (o : Fin 4 → ℕ) (ho : o = ![8 * s + r.val, 0, 0, 0])
    (inb : ∀ a, o a + S1x8x2x128.size a ≤ (⟨4, ![S, 8, 2, 128]⟩ : Shape).size a) (o' : Fin 2 → ℕ) (ho' : S128x128.Slices o' S16x128) (e' : o' = ![16 * r.val, 0]) :
    AtRow (wordsOf (F := F) (S := S) M) (8 * s + r.val) ⟨Rect.unit o S1x8x2x128.size inb, wordsRow (M s) o' ho'⟩ := by
  subst ho
  constructor
  · intro y hy
    refine (Rect.mem_set_unit (inb := inb)).mpr fun a => ?_
    have h1 : (y 1).val < 8 := (y 1).isLt
    have h2 : (y 2).val < 2 := (y 2).isLt
    have h3 : (y 3).val < 128 := (y 3).isLt
    fin_cases a
    · show 8 * s + r.val ≤ (y 0).val ∧ (y 0).val < 8 * s + r.val + 1; omega
    · show 0 ≤ (y 1).val ∧ (y 1).val < 0 + 8; omega
    · show 0 ≤ (y 2).val ∧ (y 2).val < 0 + 2; omega
    · show 0 ≤ (y 3).val ∧ (y 3).val < 0 + 128; omega
  · intro x
    have ex : x = ix4 (0 : Fin 1) ⟨(x 1).val, (x 1).isLt⟩ ⟨(x 2).val, (x 2).isLt⟩ ⟨(x 3).val, (x 3).isLt⟩ := by
      funext a
      match a with
      | ⟨0, _⟩ => exact Subsingleton.elim (α := Fin 1) _ _
      | ⟨1, _⟩ => rfl
      | ⟨2, _⟩ => rfl
      | ⟨3, _⟩ => rfl
    refine (congrArg (wordsRow (M s) o' ho') ex).trans ((wordsRow_apply _ _ _ r (by rw [e']; rfl) (by rw [e']; rfl) _ _ _).trans (congrArg (FloatOps.truncf FTy.bf16 bitsLt_bf16_f32) ?_))
    have h0 : (x 0).val < 1 := (x 0).isLt
    have es : (8 * s + r.val + 1 * (x 0).val) / 8 = s := by omega
    show _ = M ((8 * s + r.val + 1 * (x 0).val) / 8) _
    rw [es]
    refine congrArg (M s) ?_
    funext a
    match a with
    | ⟨0, _⟩ => apply Fin.ext; show (x 3).val = 0 + 1 * (x 3).val; omega
    | ⟨1, _⟩ => apply Fin.ext; show 16 * r.val + (2 * (x 1).val + (x 2).val) = 16 * ((8 * s + r.val + 1 * (x 0).val) % 8) + (2 * (0 + 1 * (x 1).val) + (0 + 1 * (x 2).val)); omega

theorem row_words_of {S : ℕ} (M : ℕ → FVec F S128x128 .f32) (s : ℕ) (M' : FVec F S128x128 .f32) (hM : M' = M s) (r : Fin 8) (o : Fin 4 → ℕ) (ho : o = ![8 * s + r.val, 0, 0, 0])
    (inb : ∀ a, o a + S1x8x2x128.size a ≤ (⟨4, ![S, 8, 2, 128]⟩ : Shape).size a) (o' : Fin 2 → ℕ) (ho' : S128x128.Slices o' S16x128) (e' : o' = ![16 * r.val, 0]) :
    AtRow (wordsOf (F := F) (S := S) M) (8 * s + r.val) ⟨Rect.unit o S1x8x2x128.size inb, wordsRow M' o' ho'⟩ := by
  subst hM
  exact row_words M s r o ho inb o' ho' e'

/-- When the stores cover every row, the array holds `G`. -/
theorem words_all {S : ℕ} {Val : EltTy → Type} {e : EltTy} {κ : Kind} {sp : Space} (v : View sig κ sp (⟨4, ![S, 8, 2, 128]⟩ : Shape) e) (f : v.ty.Contents Val)
    (G : (⟨4, ![S, 8, 2, 128]⟩ : Shape).Idx → Val e) (rows : List ℕ) (hr : ∀ n < S, n ∈ rows) (L : List (View.Piece Val (⟨4, ![S, 8, 2, 128]⟩ : Shape) e)) (hL : List.Forall₂ (AtRow G) rows L) :
    v.read Val (v.writes Val f L) = G := by
  funext y
  apply View.read_writes_apply_of_pieces
  · intro p hp
    obtain ⟨n, hn, rfl⟩ := List.mem_iff_getElem.mp hp
    exact ((List.forall₂_iff_get.mp hL).2 n (by rw [hL.length_eq]; exact hn) hn).2
  · obtain ⟨n, hn, e⟩ := List.mem_iff_getElem.mp (hr (y 0).val (y 0).isLt)
    have hn' : n < L.length := by rw [← hL.length_eq]; exact hn
    exact ⟨_, List.getElem_mem hn', ((List.forall₂_iff_get.mp hL).2 n hn hn').1 y e.symm⟩

end Cert.KernelIdeal.Hand
-- ==== Proof.IdealRaw.lean ====
module

public import proofs.«01_k».proof.Proof.IdealPack

@[expose] public section

/-! The raw code words of the idealized kernel: 512 channels of one tile of the sequence arrive with each transfer. -/

namespace Cert.KernelIdeal.Hand
open Cert.KernelIdeal Cert.KernelIdeal.Gen
open Idealize.ShloMosaic Idealize.ShloMosaic.TcCoe Idealize.ShloMosaic.Tactic

variable {F : FTy → Type} [FloatOps F]

/-- The first `n` chunks hold `G`; the chunks are counted tile by tile within 512 channels. -/
def Good {R : ℕ} (m : Memref sig .tc .vmem ⟨3, ![3, R, 128]⟩ .i32) (G : (⟨3, ![3, R, 128]⟩ : Shape).Idx → BitVec 32) (n : ℕ) (f : m.view.ty.Contents (Elt F)) : Prop :=
  ∀ i : (⟨3, ![3, R, 128]⟩ : Shape).Idx, 3 * ((i 1).val / 512) + (i 0).val < n → m.view.read (Elt F) f i = G i

theorem good_zero {R : ℕ} (m : Memref sig .tc .vmem ⟨3, ![3, R, 128]⟩ .i32) (G : (⟨3, ![3, R, 128]⟩ : Shape).Idx → BitVec 32) (f : m.view.ty.Contents (Elt F)) : Good m G 0 f := by
  intro i hi; omega

/-- When all chunks have arrived the array holds `G`. -/
theorem good_all {R : ℕ} (m : Memref sig .tc .vmem ⟨3, ![3, R, 128]⟩ .i32) (G : (⟨3, ![3, R, 128]⟩ : Shape).Idx → BitVec 32) (n : ℕ) (f : m.view.ty.Contents (Elt F)) (hR : R = 512 * n) (h : Good m G (3 * n) f) :
    m.view.read (Elt F) f = G := by
  funext i
  have h0 : (i 0).val < 3 := (i 0).isLt
  have h1 : (i 1).val < R := (i 1).isLt
  exact h i (by omega)

/-- One more chunk. -/
theorem good_step {R : ℕ} (m : Memref sig .tc .vmem ⟨3, ![3, R, 128]⟩ .i32) (G : (⟨3, ![3, R, 128]⟩ : Shape).Idx → BitVec 32) (q j : ℕ) (hj : j < 3)
    (o : Fin 3 → ℕ) (ho : o = ![j, 512 * q, 0]) (inb : ∀ a, o a + S1x512x128.size a ≤ (⟨3, ![3, R, 128]⟩ : Shape).size a) (hR : 512 * q + 512 ≤ R) (h1) (h2 : S1x512x128.Squeezes S512x128)
    (f : m.view.ty.Contents (Elt F)) (P : S512x128.Idx → BitVec 32)
    (hP : ∀ (r : Fin 512) (l : Fin 128), P (ix2 r l) = G (ix3 ⟨j, hj⟩ ⟨512 * q + r.val, by omega⟩ l)) (hf : Good m G (3 * q + j) f) :
    Good m G (3 * q + j + 1) (View.write (Elt F) (((m.slice (Rect.unit o S1x512x128.size inb) h1).squeeze S512x128 h2).view) f P Finset.univ) := by
  subst ho
  have emb : ∀ (r : Fin 512) (l : Fin 128), ((m.slice (Rect.unit (s := ⟨3, ![3, R, 128]⟩) ![j, 512 * q, 0] S1x512x128.size inb) h1).squeeze S512x128 h2).view.emb (ix2 r l)
      = m.view.emb (ix3 ⟨j, hj⟩ ⟨512 * q + r.val, by omega⟩ l) := by
    intro r l
    have e : Shape.reshapeEquiv h2.numel_eq (ix2 r l) = (ix3 (0 : Fin 1) r l : S1x512x128.Idx) := ValueIdx.reshapeEquiv_ix2_1ab _ r l
    show m.view.emb ((Rect.unit (s := ⟨3, ![3, R, 128]⟩) ![j, 512 * q, 0] S1x512x128.size inb).emb (Shape.reshapeEquiv h2.numel_eq (ix2 r l))) = _
    rw [e]
    refine congrArg m.view.emb ?_
    funext a
    match a with
    | ⟨0, _⟩ => apply Fin.ext; show j + 1 * 0 = j; omega
    | ⟨1, _⟩ => apply Fin.ext; show 512 * q + 1 * r.val = 512 * q + r.val; omega
    | ⟨2, _⟩ => apply Fin.ext; show 0 + 1 * l.val = l.val; omega
  intro i hi
  by_cases hm : (i 0).val = j ∧ (i 1).val / 512 = q
  · have h2' : (i 2).val < 128 := (i 2).isLt
    have ei : i = ix3 ⟨j, hj⟩ ⟨512 * q + ((i 1).val - 512 * q), by omega⟩ ⟨(i 2).val, h2'⟩ := by
      funext a
      match a with
      | ⟨0, _⟩ => exact Fin.ext hm.1
      | ⟨1, _⟩ => apply Fin.ext; show (i 1).val = 512 * q + ((i 1).val - 512 * q); omega
      | ⟨2, _⟩ => rfl
    have key := congrFun (View.read_write_univ (v := ((m.slice (Rect.unit (s := ⟨3, ![3, R, 128]⟩) ![j, 512 * q, 0] S1x512x128.size inb) h1).squeeze S512x128 h2).view) (Val := Elt F) f P)
      (ix2 ⟨(i 1).val - 512 * q, by omega⟩ ⟨(i 2).val, h2'⟩)
    rw [hP, View.read_apply, emb] at key
    rw [ei]
    exact key
  · rw [View.read_apply, View.write_of_not_mem, ← View.read_apply]
    · have h0 : (i 0).val < 3 := (i 0).isLt
      exact hf i (by omega)
    · intro hmem
      obtain ⟨x, -, hx⟩ := Finset.mem_map.mp hmem
      have ex : x = ix2 ⟨(x 0).val, (x 0).isLt⟩ ⟨(x 1).val, (x 1).isLt⟩ := by
        funext a
        match a with
        | ⟨0, _⟩ => rfl
        | ⟨1, _⟩ => rfl
      rw [ex] at hx
      have hi' := m.view.emb.injective ((emb _ _).symm.trans hx)
      have x0 : (x 0).val < 512 := (x 0).isLt
      apply hm
      rw [← hi']
      exact ⟨rfl, by show (512 * q + (x 0).val) / 512 = q; omega⟩

/-- What a transfer carries. -/
theorem chunk_read {sp : Space} {R : ℕ} (m : Memref sig .tc sp ⟨3, ![R, 1, 384]⟩ .i32) (f : m.view.ty.Contents (Elt F)) (q j : ℕ) (o : Fin 3 → ℕ) (ho : o = ![512 * q, 0, 128 * j])
    (inb : ∀ a, o a + S512x1x128.size a ≤ (⟨3, ![R, 1, 384]⟩ : Shape).size a) (h1) (h2 : S512x1x128.Squeezes S512x128) (hq : 512 * q + 512 ≤ R) (hj : j < 3) (r : Fin 512) (l : Fin 128) :
    View.read (Elt F) (((m.slice (Rect.unit o S512x1x128.size inb) h1).squeeze S512x128 h2).view) f (ix2 r l)
      = m.view.read (Elt F) f (ix3 ⟨512 * q + r.val, by omega⟩ 0 ⟨128 * j + l.val, by omega⟩) := by
  subst ho
  have e : Shape.reshapeEquiv h2.numel_eq (ix2 r l) = (ix3 r (0 : Fin 1) l : S512x1x128.Idx) := Shape.reshapeEquiv_eq_of_rowMajor _ (by
    rw [Shape.rowMajor_val_three, Shape.rowMajor_val_two]
    show (r.val * 1 + 0) * 128 + l.val = r.val * 128 + l.val
    omega)
  show m.view.read (Elt F) f ((Rect.unit (s := ⟨3, ![R, 1, 384]⟩) ![512 * q, 0, 128 * j] S512x1x128.size inb).emb (Shape.reshapeEquiv h2.numel_eq (ix2 r l))) = _
  rw [e]
  refine congrArg (m.view.read (Elt F) f) ?_
  funext a
  match a with
  | ⟨0, _⟩ => apply Fin.ext; show 512 * q + 1 * r.val = 512 * q + r.val; omega
  | ⟨1, _⟩ => rfl
  | ⟨2, _⟩ => apply Fin.ext; show 128 * j + 1 * l.val = 128 * j + l.val; omega

/-- The raw words, tile by tile. -/
def rawOf {R : ℕ} (X : (⟨3, ![R, 1, 384]⟩ : Shape).Idx → BitVec 32) : (⟨3, ![3, R, 128]⟩ : Shape).Idx → BitVec 32 := fun i =>
  X (ix3 ⟨(i 1).val, (i 1).isLt⟩ 0 ⟨128 * (i 0).val + (i 2).val, by
    have h0 : (i 0).val < 3 := (i 0).isLt
    have h2 : (i 2).val < 128 := (i 2).isLt
    omega⟩)

end Cert.KernelIdeal.Hand
-- ==== Proof.IdealBody.lean ====
module

public import proofs.«01_k».proof.Proof.IdealLoop3
public import proofs.«01_k».proof.Proof.IdealTrip1
public import proofs.«01_k».proof.Proof.IdealTrip2
public import proofs.«01_k».proof.Proof.IdealScales
public import proofs.«01_k».proof.Proof.IdealRaw

@[expose] public section

namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.Sem

variable {F : FTy → Type} [FloatOps F]

local notation "𝕄" => MT nD τ sig Unit (Elt F) ℕ (Pipeline.UD sig nD τ) ℕ

/-- The raw words of `y`. -/
def yRaw (c : Dev nD) (Y0 : Cont F c main_v6) : Cont F c cc0_scratch1 := rawOf (R := 2560) Y0
/-- The raw words of `x`. -/
def xRaw (c : Dev nD) (X0 : Cont F c main_v2) : Cont F c cc0_scratch0 := rawOf (R := 3584) X0
/-- The scale words of `y`. -/
def ySw (c : Dev nD) (arg3 : Memref sig .tc .vmem S3x4x2560 .f32) (f3 : arg3.view.ty.Contents (Elt F)) : Cont F c cc0_scratch3 := wordsOf (F := F) (S := 24) (square 2 arg3 f3)
/-- The scale words of `x`. -/
def xSw (c : Dev nD) (arg1 : Memref sig .tc .vmem S3x4x3584 .f32) (f1 : arg1.view.ty.Contents (Elt F)) : Cont F c cc0_scratch2 := wordsOf (F := F) (S := 32) (square 3 arg1 f1)
/-- What the kernel leaves in its output. -/
noncomputable def result (c : Dev nD) (X0 : Cont F c main_v2) (Y0 : Cont F c main_v6) (arg1 : Memref sig .tc .vmem S3x4x3584 .f32) (f1 : arg1.view.ty.Contents (Elt F))
    (arg3 : Memref sig .tc .vmem S3x4x2560 .f32) (f3 : arg3.view.ty.Contents (Elt F)) : Cont F c main_v8 :=
  outM c (xPacked c (xRaw c X0) (xSw c arg1 f1)) (yPacked c (yRaw c Y0) (ySw c arg3 f3))

theorem mem_slot (o : Fin 3 → ℕ) (h : ∀ a, o a + S1x512x512.size a ≤ S2x512x512.size a) (n : ℕ) (e : o = ![n, 0, 0]) (i : S2x512x512.Idx) :
    i ∈ (((Memref.whole cc0_scratch6).slice (Rect.unit (s := S2x512x512) o S1x512x512.size h) (fun _ => rfl)).squeeze S512x512 squeezes_S1x512x512_S512x512).view.set ↔ (i 0).val = n := by
  subst e
  rw [Memref.set_view_squeeze]
  refine (ValueKit.mem_set_slice_whole_iff cc0_scratch6 (Rect.unit (s := S2x512x512) ![n, 0, 0] S1x512x512.size h) i Rect.mem_set_unit).trans ?_
  have h1 : (i 1).val < 512 := (i 1).isLt
  have h2 : (i 2).val < 512 := (i 2).isLt
  constructor
  · intro H
    have e0 : n ≤ (i 0).val ∧ (i 0).val < n + 1 := H 0
    omega
  · intro H a
    fin_cases a
    · show n ≤ (i 0).val ∧ (i 0).val < n + 1; omega
    · show 0 ≤ (i 1).val ∧ (i 1).val < 0 + 512; omega
    · show 0 ≤ (i 2).val ∧ (i 2).val < 0 + 512; omega

theorem slots_disj : Disjoint slot0.view.set slot1.view.set := by
  rw [Finset.disjoint_left]
  intro i h0 h1
  have e0 := (mem_slot ![0, 0, 0] inb_S2x512x512_S1x512x512_0_0_0 0 rfl i).mp h0
  have e1 := (mem_slot ![1, 0, 0] inb_S2x512x512_S1x512x512_1_0_0 1 rfl i).mp h1
  omega

theorem slots_univ : slot0.view.set ∪ slot1.view.set = Finset.univ := by
  ext i
  have hi : ((i : S2x512x512.Idx) 0).val < 2 := ((i : S2x512x512.Idx) 0).isLt
  simp only [Finset.mem_union, Finset.mem_univ, iff_true]
  rcases (by omega : ((i : S2x512x512.Idx) 0).val = 0 ∨ ((i : S2x512x512.Idx) 0).val = 1) with e | e
  · exact Or.inl ((mem_slot ![0, 0, 0] inb_S2x512x512_S1x512x512_0_0_0 0 rfl i).mpr e)
  · exact Or.inr ((mem_slot ![1, 0, 0] inb_S2x512x512_S1x512x512_1_0_0 1 rfl i).mpr e)

/-- The output buffer is its two slots. -/
theorem slots_split (c : Dev nD) (f : Cont F c cc0_scratch6) : ((Memref.whole cc0_scratch6).view.loc (c : Thread nD τ) ↦{fullShare} f : sProp 𝕄)
    ⊢ iprop((slot0.view.loc (c : Thread nD τ) ↦[slot0.view.set]{fullShare} f) ∗ (slot1.view.loc (c : Thread nD τ) ↦[slot1.view.set]{fullShare} f)) :=
  (entails_of_eq (congrArg (fun I => (((Memref.whole cc0_scratch6).view.loc (c : Thread nD τ) ↦[I]{fullShare} f) : sProp 𝕄)) slots_univ.symm)).trans (pointsTo_union slots_disj).1

theorem slots_join (c : Dev nD) (f g : Cont F c cc0_scratch6) :
    (iprop((slot0.view.loc (c : Thread nD τ) ↦[slot0.view.set]{fullShare} f) ∗ (slot1.view.loc (c : Thread nD τ) ↦[slot1.view.set]{fullShare} g)) : sProp 𝕄)
      ⊢ iprop(∃ h : Cont F c cc0_scratch6, ((Memref.whole cc0_scratch6).view.loc (c : Thread nD τ) ↦{fullShare} h)) := by
  refine (pointsTo_join slots_disj).trans ?_
  refine (entails_of_eq (congrArg (fun I => (((Memref.whole cc0_scratch6).view.loc (c : Thread nD τ) ↦[I]{fullShare} _) : sProp 𝕄)) slots_univ)).trans ?_
  iintro H
  iexists _
  iexact H

theorem fromB_zero (c : Dev nD) (f : Cont F c main_v8) : ((Memref.whole main_v8).view.loc (c : Thread nD τ) ↦{fullShare} f : sProp 𝕄) ⊢ fromB c (7 * 0) f :=
  entails_of_eq (congrArg (fun I => (((Memref.whole main_v8).view.loc (c : Thread nD τ) ↦[I]{fullShare} f) : sProp 𝕄)) from_zero.symm)

/-- The blocks before the last two and the last two are the whole output. -/
theorem out_whole (c : Dev nD) (f : Cont F c main_v8) : (iprop(belowB c 33 f ∗ atB c 33 f ∗ atB c 34 f) : sProp 𝕄) ⊢ ((Memref.whole main_v8).view.loc (c : Thread nD τ) ↦{fullShare} f) := by
  iintro ⟨H, H0, H1⟩
  ihave H := (belowB_succ c 33 f) $$ [H H0]
  · isplitl [H]; · iexact H
    iexact H0
  ihave H := (belowB_succ c 34 f) $$ [H H1]
  · isplitl [H]; · iexact H
    iexact H1
  iapply (entails_of_eq (congrArg (fun I => (((Memref.whole main_v8).view.loc (c : Thread nD τ) ↦[I]{fullShare} f) : sProp 𝕄)) below_all)) $$ H

/-- What the last loop leaves. -/
theorem inv3_end (c : Dev nD) (f9 : Cont F c cc0_scratch4) (f10 : Cont F c cc0_scratch5) (f4 : Cont F c main_v8) :
    (inv3 c f9 f10 f4 k0_t3_loop.trips : sProp 𝕄) ⊢ iprop(((Memref.whole cc0_scratch4).view.loc (c : Thread nD τ) ↦{fullShare} f9)
    ∗ ((Memref.whole cc0_scratch5).view.loc (c : Thread nD τ) ↦{fullShare} f10)
    ∗ belowB c 33 (outM c f9 f10)
      ∗ (∃ s1 : Cont F c cc0_scratch6, Transfers.Flight countersEmb (c : Thread nD τ) (SemLoc.dma (15 : DmaSem sig)) () 32768
        iprop(atB c 33 (outM c f9 f10) ∗ (slot1.view.loc (c : Thread nD τ) ↦[slot1.view.set]{fullShare} s1)))
      ∗ (∃ s0 : Cont F c cc0_scratch6, Transfers.Flight countersEmb (c : Thread nD τ) (SemLoc.dma (14 : DmaSem sig)) () 32768
        iprop(atB c 34 (outM c f9 f10) ∗ (slot0.view.loc (c : Thread nD τ) ↦[slot0.view.set]{fullShare} s0)))
      ∗ ∃ W, owes (c : Thread nD τ) 0 W) := by
  have ht : k0_t3_loop.trips = 5 := by decide +kernel
  rw [ht]
  unfold inv3
  iintro ⟨H9, H10, -, Hm, HW⟩
  isplitl [H9]; · iexact H9
  isplitl [H10]; · iexact H10
  ihave Hm : (mid3 c f9 f10 (4 + 1)) $$ [Hm]
  · iexact Hm
  unfold mid3
  icases Hm with ⟨HB, FL1, FL0⟩
  isplitl [HB]; · iexact HB
  isplitl [FL1]; · iexact FL1
  isplitl [FL0]; · iexact FL0
  iexact HW

/-- All chunks of `y`. -/
theorem y_whole (c : Dev nD) (f G : Cont F c cc0_scratch1) (h : Good (F := F) (R := 2560) (Memref.whole cc0_scratch1) G 15 f) : f = G :=
  good_all (F := F) (R := 2560) (Memref.whole cc0_scratch1) G 5 f rfl h
/-- All chunks of `x`. -/
theorem x_whole (c : Dev nD) (f G : Cont F c cc0_scratch0) (h : Good (F := F) (R := 3584) (Memref.whole cc0_scratch0) G 21 f) : f = G :=
  good_all (F := F) (R := 3584) (Memref.whole cc0_scratch0) G 7 f rfl h

/-- The rows of `y`'s scale words, the last first. -/
@[reducible] def rows24 : List ℕ := [23, 22, 21, 20, 19, 18, 17, 16, 15, 14, 13, 12, 11, 10, 9, 8, 7, 6, 5, 4, 3, 2, 1, 0]
/-- The rows of `x`'s scale words, the last first. -/
@[reducible] def rows32 : List ℕ := [31, 30, 29, 28, 27, 26, 25, 24, 23, 22, 21, 20, 19, 18, 17, 16, 15, 14, 13, 12, 11, 10, 9, 8, 7, 6, 5, 4, 3, 2, 1, 0]

/-- All rows of `y`'s scale words. -/
theorem y_words (c : Dev nD) (f G : Cont F c cc0_scratch3) (L : List (View.Piece (Elt F) S24x8x2x128 .bf16)) (hL : List.Forall₂ (AtRow (S := 24) G) rows24 L) :
    (Memref.whole cc0_scratch3).view.writes (Elt F) f L = G := words_all (S := 24) (Memref.whole cc0_scratch3).view f G rows24 (by decide) L hL
/-- All rows of `x`'s scale words. -/
theorem x_words (c : Dev nD) (f G : Cont F c cc0_scratch2) (L : List (View.Piece (Elt F) S32x8x2x128 .bf16)) (hL : List.Forall₂ (AtRow (S := 32) G) rows32 L) :
    (Memref.whole cc0_scratch2).view.writes (Elt F) f L = G := words_all (S := 32) (Memref.whole cc0_scratch2).view f G rows32 (by decide) L hL

set_option sl_exec.rejoinFuel 64 in
set_option sl_exec.dmaWindow true in
set_option sl_exec.dmaWindowLent true in
set_option maxHeartbeats 0 in
/-- The kernel as the pipeline calls it, from any scratch: it ends with the scales and the words in place, the output at `result`,
and every semaphore back at zero. -/
theorem bodyRun (c : Dev nD) (arg1 : Memref sig .tc .vmem S3x4x3584 .f32) (harg1 : arg1.IsWhole)
    (arg3 : Memref sig .tc .vmem S3x4x2560 .f32) (harg3 : arg3.IsWhole)
    (X0 : Buf (Elt F) ((c : Thread nD τ).loc main_v2)) (Y0 : Buf (Elt F) ((c : Thread nD τ).loc main_v6))
    (f1 f3 f4 f5 f6 f7 f8 f9 f10 f11) (W) (K : PUnit → sProp 𝕄)  :
    iprop(((Memref.whole main_v2).view.loc (c : Thread nD τ) ↦{fullShare} X0)
      ∗ (arg1.view.loc (c : Thread nD τ) ↦[arg1.view.set]{fullShare} f1)
      ∗ ((Memref.whole main_v6).view.loc (c : Thread nD τ) ↦{fullShare} Y0)
      ∗ (arg3.view.loc (c : Thread nD τ) ↦[arg3.view.set]{fullShare} f3)
      ∗ ((Memref.whole main_v8).view.loc (c : Thread nD τ) ↦{fullShare} f4)
      ∗ ((Memref.whole cc0_scratch0).view.loc (c : Thread nD τ) ↦{fullShare} f5)
      ∗ ((Memref.whole cc0_scratch1).view.loc (c : Thread nD τ) ↦{fullShare} f6)
      ∗ ((Memref.whole cc0_scratch2).view.loc (c : Thread nD τ) ↦{fullShare} f7)
      ∗ ((Memref.whole cc0_scratch3).view.loc (c : Thread nD τ) ↦{fullShare} f8)
      ∗ ((Memref.whole cc0_scratch4).view.loc (c : Thread nD τ) ↦{fullShare} f9)
      ∗ ((Memref.whole cc0_scratch5).view.loc (c : Thread nD τ) ↦{fullShare} f10)
      ∗ ((Memref.whole cc0_scratch6).view.loc (c : Thread nD τ) ↦{fullShare} f11)
      ∗ semVal ((c : Thread nD τ), SemLoc.dma 2) 0
      ∗ semVal ((c : Thread nD τ), SemLoc.dma 3) 0
      ∗ semVal ((c : Thread nD τ), SemLoc.dma 4) 0
      ∗ semVal ((c : Thread nD τ), SemLoc.dma 5) 0
      ∗ semVal ((c : Thread nD τ), SemLoc.dma 6) 0
      ∗ semVal ((c : Thread nD τ), SemLoc.dma 7) 0
      ∗ semVal ((c : Thread nD τ), SemLoc.dma 8) 0
      ∗ semVal ((c : Thread nD τ), SemLoc.dma 9) 0
      ∗ semVal ((c : Thread nD τ), SemLoc.dma 10) 0
      ∗ semVal ((c : Thread nD τ), SemLoc.dma 11) 0
      ∗ semVal ((c : Thread nD τ), SemLoc.dma 12) 0
      ∗ semVal ((c : Thread nD τ), SemLoc.dma 13) 0
      ∗ semVal ((c : Thread nD τ), SemLoc.dma 14) 0
      ∗ semVal ((c : Thread nD τ), SemLoc.dma 15) 0
      ∗ owes (c : Thread nD τ) 0 W
      ∗ (iprop(((Memref.whole main_v2).view.loc (c : Thread nD τ) ↦{fullShare} X0)
          ∗ (arg1.view.loc (c : Thread nD τ) ↦[arg1.view.set]{fullShare} f1)
          ∗ ((Memref.whole main_v6).view.loc (c : Thread nD τ) ↦{fullShare} Y0)
          ∗ (arg3.view.loc (c : Thread nD τ) ↦[arg3.view.set]{fullShare} f3)
          ∗ ((Memref.whole main_v8).view.loc (c : Thread nD τ) ↦{fullShare} result c X0 Y0 arg1 f1 arg3 f3)
          ∗ (∃ h, (Memref.whole cc0_scratch0).view.loc (c : Thread nD τ) ↦{fullShare} h)
          ∗ (∃ h, (Memref.whole cc0_scratch1).view.loc (c : Thread nD τ) ↦{fullShare} h)
          ∗ (∃ h, (Memref.whole cc0_scratch2).view.loc (c : Thread nD τ) ↦{fullShare} h)
          ∗ (∃ h, (Memref.whole cc0_scratch3).view.loc (c : Thread nD τ) ↦{fullShare} h)
          ∗ (∃ h, (Memref.whole cc0_scratch4).view.loc (c : Thread nD τ) ↦{fullShare} h)
          ∗ (∃ h, (Memref.whole cc0_scratch5).view.loc (c : Thread nD τ) ↦{fullShare} h)
          ∗ (∃ h, (Memref.whole cc0_scratch6).view.loc (c : Thread nD τ) ↦{fullShare} h)
          ∗ semVal ((c : Thread nD τ), SemLoc.dma 2) 0
          ∗ semVal ((c : Thread nD τ), SemLoc.dma 3) 0
          ∗ semVal ((c : Thread nD τ), SemLoc.dma 4) 0
          ∗ semVal ((c : Thread nD τ), SemLoc.dma 5) 0
          ∗ semVal ((c : Thread nD τ), SemLoc.dma 6) 0
          ∗ semVal ((c : Thread nD τ), SemLoc.dma 7) 0
          ∗ semVal ((c : Thread nD τ), SemLoc.dma 8) 0
          ∗ semVal ((c : Thread nD τ), SemLoc.dma 9) 0
          ∗ semVal ((c : Thread nD τ), SemLoc.dma 10) 0
          ∗ semVal ((c : Thread nD τ), SemLoc.dma 11) 0
          ∗ semVal ((c : Thread nD τ), SemLoc.dma 12) 0
          ∗ semVal ((c : Thread nD τ), SemLoc.dma 13) 0
          ∗ semVal ((c : Thread nD τ), SemLoc.dma 14) 0
          ∗ semVal ((c : Thread nD τ), SemLoc.dma 15) 0
          ∗ ∃ W', owes (c : Thread nD τ) 0 W') -∗ K ⟨⟩))
      ⊢ wp frame (wpE (defs₀ (F := F)) Variants.none c none) Set.univ
        (cc0_wgrad (Memref.whole main_v2) (Memref.isWhole_whole _) arg1 harg1 (Memref.whole main_v6) (Memref.isWhole_whole _) arg3 harg3 (Memref.whole main_v8) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8) K := by
  rw [cc0_wgrad_eq_skeleton]; unfold cc0_wgrad_skel
  iintro ⟨H0, H1, H2, H3, H4, H5, H6, H7, H8, H9, H10, H11, Hq2, Hq3, Hq4, Hq5, Hq6, Hq7, Hq8, Hq9, Hq10, Hq11, Hq12, Hq13, Hq14, Hq15, HW, Hk⟩
  have hB2 : Transfers.BatchOf (c : Thread nD τ) (SemLoc.dma (2 : DmaSem sig)) 3 (windows := true) := trivial
  have hB3 : Transfers.BatchOf (c : Thread nD τ) (SemLoc.dma (3 : DmaSem sig)) 3 (windows := true) := trivial
  have hB4 : Transfers.BatchOf (c : Thread nD τ) (SemLoc.dma (4 : DmaSem sig)) 3 (windows := true) := trivial
  have hB5 : Transfers.BatchOf (c : Thread nD τ) (SemLoc.dma (5 : DmaSem sig)) 3 (windows := true) := trivial
  have hB6 : Transfers.BatchOf (c : Thread nD τ) (SemLoc.dma (6 : DmaSem sig)) 3 (windows := true) := trivial
  have hB7 : Transfers.BatchOf (c : Thread nD τ) (SemLoc.dma (7 : DmaSem sig)) 3 (windows := true) := trivial
  have hB8 : Transfers.BatchOf (c : Thread nD τ) (SemLoc.dma (8 : DmaSem sig)) 3 (windows := true) := trivial
  have hB9 : Transfers.BatchOf (c : Thread nD τ) (SemLoc.dma (9 : DmaSem sig)) 3 (windows := true) := trivial
  have hB10 : Transfers.BatchOf (c : Thread nD τ) (SemLoc.dma (10 : DmaSem sig)) 3 (windows := true) := trivial
  have hB11 : Transfers.BatchOf (c : Thread nD τ) (SemLoc.dma (11 : DmaSem sig)) 3 (windows := true) := trivial
  have hB12 : Transfers.BatchOf (c : Thread nD τ) (SemLoc.dma (12 : DmaSem sig)) 3 (windows := true) := trivial
  have hB13 : Transfers.BatchOf (c : Thread nD τ) (SemLoc.dma (13 : DmaSem sig)) 3 (windows := true) := trivial
  iterate 12 sl_exec
  ihave H6 : ((Memref.whole cc0_scratch1).view.loc (c : Thread nD τ) ↦{fullShare} yRaw c Y0) $$ [H6]
  · istop
    refine entails_of_eq (congrArg (fun f => (Memref.whole cc0_scratch1).view.loc (c : Thread nD τ) ↦{fullShare} f) ?_)
    refine y_whole c _ (yRaw c Y0) ?_
    refine good_step (F := F) (R := 2560) (Memref.whole cc0_scratch1) (yRaw c Y0) 4 2 (by decide) _ rfl _ (by decide) _ _ _ _ (fun r l => (chunk_read (F := F) _ _ 4 2 _ rfl _ _ _ (by decide) (by decide) r l).trans rfl) ?_
    refine good_step (F := F) (R := 2560) (Memref.whole cc0_scratch1) (yRaw c Y0) 4 1 (by decide) _ rfl _ (by decide) _ _ _ _ (fun r l => (chunk_read (F := F) _ _ 4 1 _ rfl _ _ _ (by decide) (by decide) r l).trans rfl) ?_
    refine good_step (F := F) (R := 2560) (Memref.whole cc0_scratch1) (yRaw c Y0) 4 0 (by decide) _ rfl _ (by decide) _ _ _ _ (fun r l => (chunk_read (F := F) _ _ 4 0 _ rfl _ _ _ (by decide) (by decide) r l).trans rfl) ?_
    refine good_step (F := F) (R := 2560) (Memref.whole cc0_scratch1) (yRaw c Y0) 3 2 (by decide) _ rfl _ (by decide) _ _ _ _ (fun r l => (chunk_read (F := F) _ _ 3 2 _ rfl _ _ _ (by decide) (by decide) r l).trans rfl) ?_
    refine good_step (F := F) (R := 2560) (Memref.whole cc0_scratch1) (yRaw c Y0) 3 1 (by decide) _ rfl _ (by decide) _ _ _ _ (fun r l => (chunk_read (F := F) _ _ 3 1 _ rfl _ _ _ (by decide) (by decide) r l).trans rfl) ?_
    refine good_step (F := F) (R := 2560) (Memref.whole cc0_scratch1) (yRaw c Y0) 3 0 (by decide) _ rfl _ (by decide) _ _ _ _ (fun r l => (chunk_read (F := F) _ _ 3 0 _ rfl _ _ _ (by decide) (by decide) r l).trans rfl) ?_
    refine good_step (F := F) (R := 2560) (Memref.whole cc0_scratch1) (yRaw c Y0) 2 2 (by decide) _ rfl _ (by decide) _ _ _ _ (fun r l => (chunk_read (F := F) _ _ 2 2 _ rfl _ _ _ (by decide) (by decide) r l).trans rfl) ?_
    refine good_step (F := F) (R := 2560) (Memref.whole cc0_scratch1) (yRaw c Y0) 2 1 (by decide) _ rfl _ (by decide) _ _ _ _ (fun r l => (chunk_read (F := F) _ _ 2 1 _ rfl _ _ _ (by decide) (by decide) r l).trans rfl) ?_
    refine good_step (F := F) (R := 2560) (Memref.whole cc0_scratch1) (yRaw c Y0) 2 0 (by decide) _ rfl _ (by decide) _ _ _ _ (fun r l => (chunk_read (F := F) _ _ 2 0 _ rfl _ _ _ (by decide) (by decide) r l).trans rfl) ?_
    refine good_step (F := F) (R := 2560) (Memref.whole cc0_scratch1) (yRaw c Y0) 1 2 (by decide) _ rfl _ (by decide) _ _ _ _ (fun r l => (chunk_read (F := F) _ _ 1 2 _ rfl _ _ _ (by decide) (by decide) r l).trans rfl) ?_
    refine good_step (F := F) (R := 2560) (Memref.whole cc0_scratch1) (yRaw c Y0) 1 1 (by decide) _ rfl _ (by decide) _ _ _ _ (fun r l => (chunk_read (F := F) _ _ 1 1 _ rfl _ _ _ (by decide) (by decide) r l).trans rfl) ?_
    refine good_step (F := F) (R := 2560) (Memref.whole cc0_scratch1) (yRaw c Y0) 1 0 (by decide) _ rfl _ (by decide) _ _ _ _ (fun r l => (chunk_read (F := F) _ _ 1 0 _ rfl _ _ _ (by decide) (by decide) r l).trans rfl) ?_
    refine good_step (F := F) (R := 2560) (Memref.whole cc0_scratch1) (yRaw c Y0) 0 2 (by decide) _ rfl _ (by decide) _ _ _ _ (fun r l => (chunk_read (F := F) _ _ 0 2 _ rfl _ _ _ (by decide) (by decide) r l).trans rfl) ?_
    refine good_step (F := F) (R := 2560) (Memref.whole cc0_scratch1) (yRaw c Y0) 0 1 (by decide) _ rfl _ (by decide) _ _ _ _ (fun r l => (chunk_read (F := F) _ _ 0 1 _ rfl _ _ _ (by decide) (by decide) r l).trans rfl) ?_
    refine good_step (F := F) (R := 2560) (Memref.whole cc0_scratch1) (yRaw c Y0) 0 0 (by decide) _ rfl _ (by decide) _ _ _ _ (fun r l => (chunk_read (F := F) _ _ 0 0 _ rfl _ _ _ (by decide) (by decide) r l).trans rfl) ?_
    exact good_zero _ _ _
  ihave H5 : ((Memref.whole cc0_scratch0).view.loc (c : Thread nD τ) ↦{fullShare} xRaw c X0) $$ [H5]
  · istop
    refine entails_of_eq (congrArg (fun f => (Memref.whole cc0_scratch0).view.loc (c : Thread nD τ) ↦{fullShare} f) ?_)
    refine x_whole c _ (xRaw c X0) ?_
    refine good_step (F := F) (R := 3584) (Memref.whole cc0_scratch0) (xRaw c X0) 6 2 (by decide) _ rfl _ (by decide) _ _ _ _ (fun r l => (chunk_read (F := F) _ _ 6 2 _ rfl _ _ _ (by decide) (by decide) r l).trans rfl) ?_
    refine good_step (F := F) (R := 3584) (Memref.whole cc0_scratch0) (xRaw c X0) 6 1 (by decide) _ rfl _ (by decide) _ _ _ _ (fun r l => (chunk_read (F := F) _ _ 6 1 _ rfl _ _ _ (by decide) (by decide) r l).trans rfl) ?_
    refine good_step (F := F) (R := 3584) (Memref.whole cc0_scratch0) (xRaw c X0) 6 0 (by decide) _ rfl _ (by decide) _ _ _ _ (fun r l => (chunk_read (F := F) _ _ 6 0 _ rfl _ _ _ (by decide) (by decide) r l).trans rfl) ?_
    refine good_step (F := F) (R := 3584) (Memref.whole cc0_scratch0) (xRaw c X0) 5 2 (by decide) _ rfl _ (by decide) _ _ _ _ (fun r l => (chunk_read (F := F) _ _ 5 2 _ rfl _ _ _ (by decide) (by decide) r l).trans rfl) ?_
    refine good_step (F := F) (R := 3584) (Memref.whole cc0_scratch0) (xRaw c X0) 5 1 (by decide) _ rfl _ (by decide) _ _ _ _ (fun r l => (chunk_read (F := F) _ _ 5 1 _ rfl _ _ _ (by decide) (by decide) r l).trans rfl) ?_
    refine good_step (F := F) (R := 3584) (Memref.whole cc0_scratch0) (xRaw c X0) 5 0 (by decide) _ rfl _ (by decide) _ _ _ _ (fun r l => (chunk_read (F := F) _ _ 5 0 _ rfl _ _ _ (by decide) (by decide) r l).trans rfl) ?_
    refine good_step (F := F) (R := 3584) (Memref.whole cc0_scratch0) (xRaw c X0) 4 2 (by decide) _ rfl _ (by decide) _ _ _ _ (fun r l => (chunk_read (F := F) _ _ 4 2 _ rfl _ _ _ (by decide) (by decide) r l).trans rfl) ?_
    refine good_step (F := F) (R := 3584) (Memref.whole cc0_scratch0) (xRaw c X0) 4 1 (by decide) _ rfl _ (by decide) _ _ _ _ (fun r l => (chunk_read (F := F) _ _ 4 1 _ rfl _ _ _ (by decide) (by decide) r l).trans rfl) ?_
    refine good_step (F := F) (R := 3584) (Memref.whole cc0_scratch0) (xRaw c X0) 4 0 (by decide) _ rfl _ (by decide) _ _ _ _ (fun r l => (chunk_read (F := F) _ _ 4 0 _ rfl _ _ _ (by decide) (by decide) r l).trans rfl) ?_
    refine good_step (F := F) (R := 3584) (Memref.whole cc0_scratch0) (xRaw c X0) 3 2 (by decide) _ rfl _ (by decide) _ _ _ _ (fun r l => (chunk_read (F := F) _ _ 3 2 _ rfl _ _ _ (by decide) (by decide) r l).trans rfl) ?_
    refine good_step (F := F) (R := 3584) (Memref.whole cc0_scratch0) (xRaw c X0) 3 1 (by decide) _ rfl _ (by decide) _ _ _ _ (fun r l => (chunk_read (F := F) _ _ 3 1 _ rfl _ _ _ (by decide) (by decide) r l).trans rfl) ?_
    refine good_step (F := F) (R := 3584) (Memref.whole cc0_scratch0) (xRaw c X0) 3 0 (by decide) _ rfl _ (by decide) _ _ _ _ (fun r l => (chunk_read (F := F) _ _ 3 0 _ rfl _ _ _ (by decide) (by decide) r l).trans rfl) ?_
    refine good_step (F := F) (R := 3584) (Memref.whole cc0_scratch0) (xRaw c X0) 2 2 (by decide) _ rfl _ (by decide) _ _ _ _ (fun r l => (chunk_read (F := F) _ _ 2 2 _ rfl _ _ _ (by decide) (by decide) r l).trans rfl) ?_
    refine good_step (F := F) (R := 3584) (Memref.whole cc0_scratch0) (xRaw c X0) 2 1 (by decide) _ rfl _ (by decide) _ _ _ _ (fun r l => (chunk_read (F := F) _ _ 2 1 _ rfl _ _ _ (by decide) (by decide) r l).trans rfl) ?_
    refine good_step (F := F) (R := 3584) (Memref.whole cc0_scratch0) (xRaw c X0) 2 0 (by decide) _ rfl _ (by decide) _ _ _ _ (fun r l => (chunk_read (F := F) _ _ 2 0 _ rfl _ _ _ (by decide) (by decide) r l).trans rfl) ?_
    refine good_step (F := F) (R := 3584) (Memref.whole cc0_scratch0) (xRaw c X0) 1 2 (by decide) _ rfl _ (by decide) _ _ _ _ (fun r l => (chunk_read (F := F) _ _ 1 2 _ rfl _ _ _ (by decide) (by decide) r l).trans rfl) ?_
    refine good_step (F := F) (R := 3584) (Memref.whole cc0_scratch0) (xRaw c X0) 1 1 (by decide) _ rfl _ (by decide) _ _ _ _ (fun r l => (chunk_read (F := F) _ _ 1 1 _ rfl _ _ _ (by decide) (by decide) r l).trans rfl) ?_
    refine good_step (F := F) (R := 3584) (Memref.whole cc0_scratch0) (xRaw c X0) 1 0 (by decide) _ rfl _ (by decide) _ _ _ _ (fun r l => (chunk_read (F := F) _ _ 1 0 _ rfl _ _ _ (by decide) (by decide) r l).trans rfl) ?_
    refine good_step (F := F) (R := 3584) (Memref.whole cc0_scratch0) (xRaw c X0) 0 2 (by decide) _ rfl _ (by decide) _ _ _ _ (fun r l => (chunk_read (F := F) _ _ 0 2 _ rfl _ _ _ (by decide) (by decide) r l).trans rfl) ?_
    refine good_step (F := F) (R := 3584) (Memref.whole cc0_scratch0) (xRaw c X0) 0 1 (by decide) _ rfl _ (by decide) _ _ _ _ (fun r l => (chunk_read (F := F) _ _ 0 1 _ rfl _ _ _ (by decide) (by decide) r l).trans rfl) ?_
    refine good_step (F := F) (R := 3584) (Memref.whole cc0_scratch0) (xRaw c X0) 0 0 (by decide) _ rfl _ (by decide) _ _ _ _ (fun r l => (chunk_read (F := F) _ _ 0 0 _ rfl _ _ _ (by decide) (by decide) r l).trans rfl) ?_
    exact good_zero _ _ _
  ihave H8 : ((Memref.whole cc0_scratch3).view.loc (c : Thread nD τ) ↦{fullShare} ySw c arg3 f3) $$ [H8]
  · istop
    refine entails_of_eq (congrArg (fun f => (Memref.whole cc0_scratch3).view.loc (c : Thread nD τ) ↦{fullShare} f) ?_)
    refine y_words c _ (ySw c arg3 f3) _ ?_
    exact

        .cons (row_words (F := F) (S := 24) (square 2 arg3 f3) 2 7 _ rfl _ _ _ rfl)
        <| .cons (row_words (F := F) (S := 24) (square 2 arg3 f3) 2 6 _ rfl _ _ _ rfl)
        <| .cons (row_words (F := F) (S := 24) (square 2 arg3 f3) 2 5 _ rfl _ _ _ rfl)
        <| .cons (row_words (F := F) (S := 24) (square 2 arg3 f3) 2 4 _ rfl _ _ _ rfl)
        <| .cons (row_words (F := F) (S := 24) (square 2 arg3 f3) 2 3 _ rfl _ _ _ rfl)
        <| .cons (row_words (F := F) (S := 24) (square 2 arg3 f3) 2 2 _ rfl _ _ _ rfl)
        <| .cons (row_words (F := F) (S := 24) (square 2 arg3 f3) 2 1 _ rfl _ _ _ rfl)
        <| .cons (row_words (F := F) (S := 24) (square 2 arg3 f3) 2 0 _ rfl _ _ _ rfl)
        <| .cons (row_words (F := F) (S := 24) (square 2 arg3 f3) 1 7 _ rfl _ _ _ rfl)
        <| .cons (row_words (F := F) (S := 24) (square 2 arg3 f3) 1 6 _ rfl _ _ _ rfl)
        <| .cons (row_words (F := F) (S := 24) (square 2 arg3 f3) 1 5 _ rfl _ _ _ rfl)
        <| .cons (row_words (F := F) (S := 24) (square 2 arg3 f3) 1 4 _ rfl _ _ _ rfl)
        <| .cons (row_words (F := F) (S := 24) (square 2 arg3 f3) 1 3 _ rfl _ _ _ rfl)
        <| .cons (row_words (F := F) (S := 24) (square 2 arg3 f3) 1 2 _ rfl _ _ _ rfl)
        <| .cons (row_words (F := F) (S := 24) (square 2 arg3 f3) 1 1 _ rfl _ _ _ rfl)
        <| .cons (row_words (F := F) (S := 24) (square 2 arg3 f3) 1 0 _ rfl _ _ _ rfl)
        <| .cons (row_words (F := F) (S := 24) (square 2 arg3 f3) 0 7 _ rfl _ _ _ rfl)
        <| .cons (row_words (F := F) (S := 24) (square 2 arg3 f3) 0 6 _ rfl _ _ _ rfl)
        <| .cons (row_words (F := F) (S := 24) (square 2 arg3 f3) 0 5 _ rfl _ _ _ rfl)
        <| .cons (row_words (F := F) (S := 24) (square 2 arg3 f3) 0 4 _ rfl _ _ _ rfl)
        <| .cons (row_words (F := F) (S := 24) (square 2 arg3 f3) 0 3 _ rfl _ _ _ rfl)
        <| .cons (row_words (F := F) (S := 24) (square 2 arg3 f3) 0 2 _ rfl _ _ _ rfl)
        <| .cons (row_words (F := F) (S := 24) (square 2 arg3 f3) 0 1 _ rfl _ _ _ rfl)
        <| .cons (row_words (F := F) (S := 24) (square 2 arg3 f3) 0 0 _ rfl _ _ _ rfl)
        <| .nil
  ihave H7 : ((Memref.whole cc0_scratch2).view.loc (c : Thread nD τ) ↦{fullShare} xSw c arg1 f1) $$ [H7]
  · istop
    refine entails_of_eq (congrArg (fun f => (Memref.whole cc0_scratch2).view.loc (c : Thread nD τ) ↦{fullShare} f) ?_)
    refine x_words c _ (xSw c arg1 f1) _ ?_
    exact

        .cons (row_words (F := F) (S := 32) (square 3 arg1 f1) 3 7 _ rfl _ _ _ rfl)
        <| .cons (row_words (F := F) (S := 32) (square 3 arg1 f1) 3 6 _ rfl _ _ _ rfl)
        <| .cons (row_words (F := F) (S := 32) (square 3 arg1 f1) 3 5 _ rfl _ _ _ rfl)
        <| .cons (row_words (F := F) (S := 32) (square 3 arg1 f1) 3 4 _ rfl _ _ _ rfl)
        <| .cons (row_words (F := F) (S := 32) (square 3 arg1 f1) 3 3 _ rfl _ _ _ rfl)
        <| .cons (row_words (F := F) (S := 32) (square 3 arg1 f1) 3 2 _ rfl _ _ _ rfl)
        <| .cons (row_words (F := F) (S := 32) (square 3 arg1 f1) 3 1 _ rfl _ _ _ rfl)
        <| .cons (row_words (F := F) (S := 32) (square 3 arg1 f1) 3 0 _ rfl _ _ _ rfl)
        <| .cons (row_words (F := F) (S := 32) (square 3 arg1 f1) 2 7 _ rfl _ _ _ rfl)
        <| .cons (row_words (F := F) (S := 32) (square 3 arg1 f1) 2 6 _ rfl _ _ _ rfl)
        <| .cons (row_words (F := F) (S := 32) (square 3 arg1 f1) 2 5 _ rfl _ _ _ rfl)
        <| .cons (row_words (F := F) (S := 32) (square 3 arg1 f1) 2 4 _ rfl _ _ _ rfl)
        <| .cons (row_words (F := F) (S := 32) (square 3 arg1 f1) 2 3 _ rfl _ _ _ rfl)
        <| .cons (row_words (F := F) (S := 32) (square 3 arg1 f1) 2 2 _ rfl _ _ _ rfl)
        <| .cons (row_words (F := F) (S := 32) (square 3 arg1 f1) 2 1 _ rfl _ _ _ rfl)
        <| .cons (row_words (F := F) (S := 32) (square 3 arg1 f1) 2 0 _ rfl _ _ _ rfl)
        <| .cons (row_words (F := F) (S := 32) (square 3 arg1 f1) 1 7 _ rfl _ _ _ rfl)
        <| .cons (row_words (F := F) (S := 32) (square 3 arg1 f1) 1 6 _ rfl _ _ _ rfl)
        <| .cons (row_words (F := F) (S := 32) (square 3 arg1 f1) 1 5 _ rfl _ _ _ rfl)
        <| .cons (row_words (F := F) (S := 32) (square 3 arg1 f1) 1 4 _ rfl _ _ _ rfl)
        <| .cons (row_words (F := F) (S := 32) (square 3 arg1 f1) 1 3 _ rfl _ _ _ rfl)
        <| .cons (row_words (F := F) (S := 32) (square 3 arg1 f1) 1 2 _ rfl _ _ _ rfl)
        <| .cons (row_words (F := F) (S := 32) (square 3 arg1 f1) 1 1 _ rfl _ _ _ rfl)
        <| .cons (row_words (F := F) (S := 32) (square 3 arg1 f1) 1 0 _ rfl _ _ _ rfl)
        <| .cons (row_words (F := F) (S := 32) (square 3 arg1 f1) 0 7 _ rfl _ _ _ rfl)
        <| .cons (row_words (F := F) (S := 32) (square 3 arg1 f1) 0 6 _ rfl _ _ _ rfl)
        <| .cons (row_words (F := F) (S := 32) (square 3 arg1 f1) 0 5 _ rfl _ _ _ rfl)
        <| .cons (row_words (F := F) (S := 32) (square 3 arg1 f1) 0 4 _ rfl _ _ _ rfl)
        <| .cons (row_words (F := F) (S := 32) (square 3 arg1 f1) 0 3 _ rfl _ _ _ rfl)
        <| .cons (row_words (F := F) (S := 32) (square 3 arg1 f1) 0 2 _ rfl _ _ _ rfl)
        <| .cons (row_words (F := F) (S := 32) (square 3 arg1 f1) 0 1 _ rfl _ _ _ rfl)
        <| .cons (row_words (F := F) (S := 32) (square 3 arg1 f1) 0 0 _ rfl _ _ _ rfl)
        <| .nil
  iapply (Scf.wp_for_bind frame (wpE (defs₀ (F := F)) Variants.none c none) Set.univ _ _ _ k0_t1_ok _ _
      (fun k _ => inv1 c (yRaw c Y0) (ySw c arg3 f3) k) (fun k acc => step1 c arg1 harg1 arg3 harg3 _ _ k)) $$ [H6 H8 H10]
  · unfold inv1
    isplitl [H6]; · iexact H6
    isplitl [H8]; · iexact H8
    iexists f10
    isplitl [H10]; · iexact H10
    ipureintro; intro y hy; omega
  iintro %u1 Hinv
  unfold inv1
  icases Hinv with ⟨H6, H8, %g10, H10, %hg10⟩
  have ht1 : k0_t1_loop.trips = 80 := by decide +kernel
  have hg10 : g10 = yPacked c (yRaw c Y0) (ySw c arg3 f3) := by
    funext y
    have hy : (y 1).val < 1280 := (y 1).isLt
    exact hg10 y (by show (y 1).val < 16 * k0_t1_loop.trips; rw [ht1]; omega)
  subst hg10
  sl_step
  iapply (Scf.wp_for_bind frame (wpE (defs₀ (F := F)) Variants.none c none) Set.univ _ _ _ k0_t2_ok _ _
      (fun k _ => inv2 c (xRaw c X0) (xSw c arg1 f1) k) (fun k acc => step2 c arg1 harg1 arg3 harg3 _ _ k)) $$ [H5 H7 H9]
  · unfold inv2
    isplitl [H5]; · iexact H5
    isplitl [H7]; · iexact H7
    iexists f9
    isplitl [H9]; · iexact H9
    ipureintro; intro y hy; omega
  iintro %u2 Hinv
  unfold inv2
  icases Hinv with ⟨H5, H7, %g9, H9, %hg9⟩
  have ht2 : k0_t2_loop.trips = 112 := by decide +kernel
  have hg9 : g9 = xPacked c (xRaw c X0) (xSw c arg1 f1) := by
    funext y
    have hy : (y 1).val < 1792 := (y 1).isLt
    exact hg9 y (by show (y 1).val < 16 * k0_t2_loop.trips; rw [ht2]; omega)
  subst hg9
  sl_step
  ihave HS := (slots_split c f11) $$ H11
  icases HS with ⟨S0, S1⟩
  iapply (Scf.wp_for_bind frame (wpE (defs₀ (F := F)) Variants.none c none) Set.univ _ _ _ k0_t3_ok _ _
      (fun k _ => inv3 c (xPacked c (xRaw c X0) (xSw c arg1 f1)) (yPacked c (yRaw c Y0) (ySw c arg3 f3)) f4 k)
      (fun k acc => step3 c arg1 harg1 arg3 harg3 _ _ f4 0#32 1#32 k)) $$ [H9 H10 H4 S0 S1 Hq14 Hq15 HW]
  · unfold inv3 mid3
    isplitl [H9]; · iexact H9
    isplitl [H10]; · iexact H10
    isplitl [H4]; · iapply (fromB_zero c f4) $$ H4
    isplitr [HW]
    · isplitl [S0]; · iexists f11; iexact S0
      isplitl [Hq14]; · iexact Hq14
      isplitl [S1]; · iexists f11; iexact S1
      iexact Hq15
    iexists _; iexact HW
  iintro %u3 Hinv
  ihave Hinv := (inv3_end c (xPacked c (xRaw c X0) (xSw c arg1 f1)) (yPacked c (yRaw c Y0) (ySw c arg3 f3)) f4) $$ Hinv
  icases Hinv with ⟨H9, H10, HB, ⟨%s1, FL1⟩, ⟨%s0, FL0⟩, ⟨%W3, HW⟩⟩
  sl_exec
  sl_step
  ihave HOut := (out_whole c _) $$ [HB FL1_dst FL0_dst]
  · isplitl [HB]; · iexact HB
    isplitl [FL1_dst]; · iexact FL1_dst
    iexact FL0_dst
  ihave H11 := (slots_join c s0 s1) $$ [FL0_src FL1_src]
  · isplitl [FL0_src]; · iexact FL0_src
    iexact FL1_src
  iapply Hk
  isplitl [H0]; · iexact H0
  isplitl [H1]; · iexact H1
  isplitl [H2]; · iexact H2
  isplitl [H3]; · iexact H3
  isplitl [HOut]; · iexact HOut
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexact H11
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hq13]; · iexact Hq13
  isplitl [FL0]; · iexact FL0
  isplitl [FL1]; · iexact FL1
  iexists _; iexact HW

end Cert.KernelIdeal.Hand
-- ==== Proof.IdealLaunch.lean ====
module

public import proofs.«01_k».proof.Proof.IdealBody
public import Idealize.ShloMosaic.Lib.Pipeline.KitQuiescent

@[expose] public section

/-! The run of the idealized kernel's program: it terminates without a fault, leaves its arguments and its semaphores as it found them,
and its result array holds `out`. -/

namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The pipeline's algebra within the whole one. -/
noncomputable abbrev EP : Emb (UR sig nD τ) (MT nD τ sig Unit (Elt F) ℕ (Pipeline.UD sig nD τ) ℕ) := embL

/-- The kernel's own semaphores. -/
abbrev osem0 : Fin 14 → SemLoc sig := fun j => (![SemLoc.dma 2, SemLoc.dma 3, SemLoc.dma 4, SemLoc.dma 5, SemLoc.dma 6, SemLoc.dma 7, SemLoc.dma 8, SemLoc.dma 9, SemLoc.dma 10, SemLoc.dma 11, SemLoc.dma 12, SemLoc.dma 13, SemLoc.dma 14, SemLoc.dma 15] : Fin 14 → SemLoc sig) j
theorem ownSemFacts0 : Pipeline.OwnSemFacts spec0 osem0 := by decide
omit [FloatOps F] in
theorem ownSems0_eq (c : Dev nD) :
    (Pipeline.ownSems0 (Ix := Unit) (Name := ℕ) (U := Pipeline.UD sig nD τ) (Lvl := ℕ) (Val := Elt F) (τ := τ) osem0 c : sProp 𝕄)
      = iprop((semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0)) := by
  rw [Pipeline.ownSems0_eq_of_list c osem0 [0, 1, 2, 3, 4, 5, 6, 7, 8, 9, 10, 11, 12, 13] (by decide) (by decide)]; rfl

variable (m : (ℓ : Loc nD τ sig) → Buf (Elt F) ℓ) (ρ : Dev nD → PrngReg)

/-- The scale windows' staging buffers as the pipeline fills them. -/
noncomputable def sx (c : Dev nD) : ((win0_0.stage (cfg0.slots t0_0 0))).view.ty.Contents (Elt F) := (win0_0.stage (cfg0.slots t0_0 0)).view.rep (iblk m c 0 t0_0)
noncomputable def sy (c : Dev nD) : ((win0_1.stage (cfg0.slots t0_0 1))).view.ty.Contents (Elt F) := (win0_1.stage (cfg0.slots t0_0 1)).view.rep (iblk m c 1 t0_0)

/-- What the program leaves in its result. -/
noncomputable def out (c : Dev nD) : Cont F c main_v8 :=
  result c (V m c main_v2) (V m c main_v6) (win0_0.stage (cfg0.slots t0_0 0)) (sx m c) (win0_1.stage (cfg0.slots t0_0 1)) (sy m c)

/-- What the kernel works on besides its scales: the words, the output, its scratch and its semaphores. -/
noncomputable def region (c : Dev nD) (o : Cont F c main_v8) : sProp 𝕄 :=
  iprop(((Memref.whole main_v2).view.loc (c : Thread nD τ) ↦{fullShare} V m c main_v2)
    ∗ ((Memref.whole main_v6).view.loc (c : Thread nD τ) ↦{fullShare} V m c main_v6)
    ∗ ((Memref.whole main_v8).view.loc (c : Thread nD τ) ↦{fullShare} o)
    ∗ (∃ h : Cont F c cc0_scratch0, (Memref.whole cc0_scratch0).view.loc (c : Thread nD τ) ↦{fullShare} h)
    ∗ (∃ h : Cont F c cc0_scratch1, (Memref.whole cc0_scratch1).view.loc (c : Thread nD τ) ↦{fullShare} h)
    ∗ (∃ h : Cont F c cc0_scratch2, (Memref.whole cc0_scratch2).view.loc (c : Thread nD τ) ↦{fullShare} h)
    ∗ (∃ h : Cont F c cc0_scratch3, (Memref.whole cc0_scratch3).view.loc (c : Thread nD τ) ↦{fullShare} h)
    ∗ (∃ h : Cont F c cc0_scratch4, (Memref.whole cc0_scratch4).view.loc (c : Thread nD τ) ↦{fullShare} h)
    ∗ (∃ h : Cont F c cc0_scratch5, (Memref.whole cc0_scratch5).view.loc (c : Thread nD τ) ↦{fullShare} h)
    ∗ (∃ h : Cont F c cc0_scratch6, (Memref.whole cc0_scratch6).view.loc (c : Thread nD τ) ↦{fullShare} h)
    ∗ (semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0)
    ∗ ((((c : Thread nD τ).loc main_arg0) ↦{fullShare} V m c main_arg0) ∗ (((c : Thread nD τ).loc main_arg1) ↦{fullShare} V m c main_arg1) ∗ (((c : Thread nD τ).loc main_arg2) ↦{fullShare} V m c main_arg2) ∗ (((c : Thread nD τ).loc main_arg3) ↦{fullShare} V m c main_arg3)))

/-- The proof data of the one pipeline. -/
noncomputable def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
  Φ t := if t.val = 0 then region m c (V m c main_v8) else region m c (out m c)
  q _ := fullShare
  owed _ := 0

theorem Phi_eq (c : Dev nD) (t : Fin (cfg0.N + 1)) : (dats m 0 c).Φ t = if t.val = 0 then region m c (V m c main_v8) else region m c (out m c) := by dsimp only [dats]
theorem Phi_first (c : Dev nD) (t : Fin (cfg0.N + 1)) (h : t.val = 0) : (dats m 0 c).Φ t = region m c (V m c main_v8) := (Phi_eq m c t).trans (if_pos h)
theorem Phi_last (c : Dev nD) (t : Fin (cfg0.N + 1)) (h : t.val ≠ 0) : (dats m 0 c).Φ t = region m c (out m c) := (Phi_eq m c t).trans (if_neg h)
theorem before_w0 (c : Dev nD) (t : Fin cfg0.N) (d) : (dats m 0 c).before 0 t d = iblk m c 0 t := by
  unfold Dat.before; rw [if_pos (fetch0_0 t)]; unfold Dat.fetched Dat.blockOf iblk; dsimp only [dats]; rfl
theorem before_w1 (c : Dev nD) (t : Fin cfg0.N) (d) : (dats m 0 c).before 1 t d = iblk m c 1 t := by
  unfold Dat.before; rw [if_pos (fetch0_1 t)]; unfold Dat.fetched Dat.blockOf iblk; dsimp only [dats]; rfl
theorem after_w0 (c : Dev nD) (t : Fin cfg0.N) : (dats m 0 c).after 0 t = iblk m c 0 t := by dsimp only [dats]
theorem after_w1 (c : Dev nD) (t : Fin cfg0.N) : (dats m 0 c).after 1 t = iblk m c 1 t := by dsimp only [dats]

/-- The body table's entry is the kernel on the point's staging buffers. -/
theorem defs_tc : (defs₀ (F := F)) .tc cfg0.body
    = fun a => (cc0_wgrad (Memref.whole main_v2) (Memref.isWhole_whole _) (win0_0.stage (a.2 0)) (hstage0_0 0) (Memref.whole main_v6) (Memref.isWhole_whole _) (win0_1.stage (a.2 1)) (hstage0_1 0) (Memref.whole main_v8) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8) := rfl
theorem prog_eq (t : Fin cfg0.N) : (defs₀ (F := F)) .tc cfg0.body (cfg0.bodyArgs t (cfg0.slots t)) = (cc0_wgrad (Memref.whole main_v2) (Memref.isWhole_whole _) (win0_0.stage (cfg0.slots t 0)) (hstage0_0 0) (Memref.whole main_v6) (Memref.isWhole_whole _) (win0_1.stage (cfg0.slots t 1)) (hstage0_1 0) (Memref.whole main_v8) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8) :=
  (congrFun defs_tc _).trans rfl

set_option backward.isDefEq.respectTransparency.types false in
theorem body_obligation (c : Dev nD) : BodyObligation (dats (F := F) m 0 c) (defs₀ (F := F)) Variants.none () Set.univ := fun t => by
  obtain rfl := fin_N0 t
  rw [bigSep_W0, bigSep_W0]
  dsimp only
  simp only [before_w0, before_w1, after_w0, after_w1]
  rw [Phi_first m c (t0_0 : Fin cfg0.N).castSucc rfl, Phi_last m c (t0_0 : Fin cfg0.N).succ (by decide)]
  unfold Dat.owesAt Pipeline.owesWithin
  rw [show (dats m 0 c).owed (t0_0 : Fin cfg0.N).castSucc = 0 from rfl, show (dats m 0 c).owed (t0_0 : Fin cfg0.N).succ = 0 from rfl]
  unfold owns region
  iintro ⟨⟨H0, H2, H4, ⟨%f5, H5⟩, ⟨%f6, H6⟩, ⟨%f7, H7⟩, ⟨%f8, H8⟩, ⟨%f9, H9⟩, ⟨%f10, H10⟩, ⟨%f11, H11⟩, HQS, HA⟩, ⟨%W, -, HW⟩, ⟨%d0, %g0, %hg0, H1⟩, ⟨%d1, %g1, %hg1, H3⟩⟩
  icases HQS with ⟨Q2, Q3, Q4, Q5, Q6, Q7, Q8, Q9, Q10, Q11, Q12, Q13, Q14, Q15⟩
  ihave H1 := (pointsTo_rep_entails (c : Thread nD τ) (win0_0.stage (cfg0.slots t0_0 0)) g0 fullShare) $$ H1
  ihave H3 := (pointsTo_rep_entails (c : Thread nD τ) (win0_1.stage (cfg0.slots t0_0 1)) g1 fullShare) $$ H3
  rw [hg0, hg1]
  sl_rw [prog_eq t0_0]
  iapply (bodyRun c (win0_0.stage (cfg0.slots t0_0 0)) (hstage0_0 0) (win0_1.stage (cfg0.slots t0_0 1)) (hstage0_1 0) _ _ _ _ _ _ _ _ _ _ _ _ W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [Q2]; · iexact Q2
  isplitl [Q3]; · iexact Q3
  isplitl [Q4]; · iexact Q4
  isplitl [Q5]; · iexact Q5
  isplitl [Q6]; · iexact Q6
  isplitl [Q7]; · iexact Q7
  isplitl [Q8]; · iexact Q8
  isplitl [Q9]; · iexact Q9
  isplitl [Q10]; · iexact Q10
  isplitl [Q11]; · iexact Q11
  isplitl [Q12]; · iexact Q12
  isplitl [Q13]; · iexact Q13
  isplitl [Q14]; · iexact Q14
  isplitl [Q15]; · iexact Q15
  isplitl [HW]; · iexact HW
  iintro ⟨H0, H1, H2, H3, H4, H5, H6, H7, H8, H9, H10, H11, Q2, Q3, Q4, Q5, Q6, Q7, Q8, Q9, Q10, Q11, Q12, Q13, Q14, Q15, ⟨%W', HW⟩⟩
  isplitl [H0 H2 H4 H5 H6 H7 H8 H9 H10 H11 Q2 Q3 Q4 Q5 Q6 Q7 Q8 Q9 Q10 Q11 Q12 Q13 Q14 Q15 HA]
  · isplitl [H0]; · iexact H0
    isplitl [H2]; · iexact H2
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [Q2 Q3 Q4 Q5 Q6 Q7 Q8 Q9 Q10 Q11 Q12 Q13 Q14 Q15]
    · isplitl [Q2]; · iexact Q2
      isplitl [Q3]; · iexact Q3
      isplitl [Q4]; · iexact Q4
      isplitl [Q5]; · iexact Q5
      isplitl [Q6]; · iexact Q6
      isplitl [Q7]; · iexact Q7
      isplitl [Q8]; · iexact Q8
      isplitl [Q9]; · iexact Q9
      isplitl [Q10]; · iexact Q10
      isplitl [Q11]; · iexact Q11
      isplitl [Q12]; · iexact Q12
      isplitl [Q13]; · iexact Q13
      isplitl [Q14]; · iexact Q14
      iexact Q15
    iexact HA
  isplitl [HW]
  · iexists W'; isplitr; · ipureintro; exact fun _ _ => Or.inl trivial
    iexact HW
  isplitl [H1]
  · iexists _; isplitr; · ipureintro; exact View.read_rep _ _
    iexact H1
  iexists _; isplitr; · ipureintro; exact View.read_rep _ _
  iexact H3

/-! ### The run -/

/-- What the pipeline needs beside its arrays and scratch. -/
noncomputable def intoR (c : Dev nD) : sProp 𝕄 :=
  iprop(((Memref.whole main_v2).view.loc (c : Thread nD τ) ↦{fullShare} V m c main_v2)
    ∗ ((Memref.whole main_v6).view.loc (c : Thread nD τ) ↦{fullShare} V m c main_v6)
    ∗ ((Memref.whole main_v8).view.loc (c : Thread nD τ) ↦{fullShare} V m c main_v8) ∗ (semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0) ∗ ((((c : Thread nD τ).loc main_arg0) ↦{fullShare} V m c main_arg0) ∗ (((c : Thread nD τ).loc main_arg1) ↦{fullShare} V m c main_arg1) ∗ (((c : Thread nD τ).loc main_arg2) ↦{fullShare} V m c main_arg2) ∗ (((c : Thread nD τ).loc main_arg3) ↦{fullShare} V m c main_arg3)))
/-- What it gives back of them. -/
noncomputable def outOfR (c : Dev nD) : sProp 𝕄 :=
  iprop(((Memref.whole main_v8).view.loc (c : Thread nD τ) ↦{fullShare} out m c) ∗ ((((c : Thread nD τ).loc main_arg0) ↦{fullShare} V m c main_arg0) ∗ (((c : Thread nD τ).loc main_arg1) ↦{fullShare} V m c main_arg1) ∗ (((c : Thread nD τ).loc main_arg2) ↦{fullShare} V m c main_arg2) ∗ (((c : Thread nD τ).loc main_arg3) ↦{fullShare} V m c main_arg3)))
/-- The facts of the final memory. -/
def QY (c : Dev nD) (s : MemSt nD τ sig (Elt F)) : Prop :=
  s.mem ((c : Thread nD τ).loc main_v8) = out m c ∧ s.mem ((c : Thread nD τ).loc main_arg0) = V m c main_arg0 ∧ s.mem ((c : Thread nD τ).loc main_arg1) = V m c main_arg1
    ∧ s.mem ((c : Thread nD τ).loc main_arg2) = V m c main_arg2 ∧ s.mem ((c : Thread nD τ).loc main_arg3) = V m c main_arg3

noncomputable def u₀ : Pipeline.UD sig nD τ := (initOf (Pipeline.cells cfgs cellOf_inj) (Pipeline.launchToks cfgs cellOf_inj), 1)

set_option backward.isDefEq.respectTransparency.types false in
/-- Every run of the program terminates; at its end the result is `out`, the arguments are untouched and every semaphore is at zero. -/
theorem run_main : θ_run defs (onTc (τ := τ) (main (F := F))) ⟨m, fun _ => 0, ρ⟩ (fun r => (∀ c, QY m c r.2) ∧ r.2.sem = fun _ => 0) :=
  Pipeline.θ_run_region_kit_quiescent cfgs (dats m) () (0 : Fin 1) launch0 ownSemFacts0 EP defs₀ Variants.none m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := Pipeline.hmain_prefix cfgs 0 defs₀ Variants.none m main hostOps0 hostOps0_sub hostOps0_fresh main_chain)
    (hA := fun _ _ => rfl)
    (X := intoR m) (Y := outOfR m) (Z := fun _ => iprop(emp))
    (hX := fun c => by
      rw [unscopedRest0_eq, ownSems0_eq]
      unfold intoR
      iintro ⟨⟨A0, A1, A2, A3, -, -, H2, -, -, H6, H8⟩, HS, -, -, -⟩; imodintro
      isplitr []
      · isplitl [H2]; · iexact H2
        isplitl [H6]; · iexact H6
        isplitl [H8]; · iexact H8
        isplitl [HS]; · iexact HS
        isplitl [A0]; · iexact A0
        isplitl [A1]; · iexact A1
        isplitl [A2]; · iexact A2
        iexact A3
      iempintro)
    (hin := fun c => by
      rw [scopedRest0_eq, Phi_first m c 0 rfl]
      unfold intoR region
      iintro ⟨⟨H2, H6, H8, HS, HA⟩, S0, S1, S2, S3, S4, S5, S6⟩
      isplitl [H2]; · iexact H2
      isplitl [H6]; · iexact H6
      isplitl [H8]; · iexact H8
      isplitl [S0]; · iexact S0
      isplitl [S1]; · iexact S1
      isplitl [S2]; · iexact S2
      isplitl [S3]; · iexact S3
      isplitl [S4]; · iexact S4
      isplitl [S5]; · iexact S5
      isplitl [S6]; · iexact S6
      isplitl [HS]; · iexact HS
      iexact HA)
    (hout := fun c => by
      rw [scopedRest0_eq, Phi_last m c (Fin.last cfg0.N) (by decide), ownSems0_eq]
      unfold outOfR region
      iintro ⟨-, -, H8, S0, S1, S2, S3, S4, S5, S6, HS, HA⟩
      isplitl [H8 HA]
      · isplitl [H8]; · iexact H8
        iexact HA
      isplitl [HS]; · iexact HS
      isplitl [S0]; · iexact S0
      isplitl [S1]; · iexact S1
      isplitl [S2]; · iexact S2
      isplitl [S3]; · iexact S3
      isplitl [S4]; · iexact S4
      isplitl [S5]; · iexact S5
      iexact S6)
    (QY := QY m)
    (hY := fun c s' => by
      unfold outOfR QY
      iintro ⟨⟨H8, A0, A1, A2, A3⟩, -, HSI⟩
      icombine HSI H8 gives %h8
      icombine HSI A0 gives %h0
      icombine HSI A1 gives %h1
      icombine HSI A2 gives %h2
      icombine HSI A3 gives %h3
      imodintro
      isplitr
      · ipureintro
        exact ⟨Buf.eq_of_forall_mem_univ h8, Buf.eq_of_forall_mem_univ h0, Buf.eq_of_forall_mem_univ h1, Buf.eq_of_forall_mem_univ h2, Buf.eq_of_forall_mem_univ h3⟩
      iexact HSI)
    (hQ := fun _ hh hz => ⟨fun c => (hh c).2, hz⟩)

/-- The run, its final arguments compared with the launch's. -/
theorem run_out : θ_run defs (onTc (τ := τ) (main (F := F))) ⟨m, fun _ => 0, ρ⟩ (fun r => (∀ c : Dev nD, r.2.mem ((c : Thread nD τ).loc main_v8) = out m c
      ∧ r.2.mem ((c : Thread nD τ).loc main_arg0) = m ((c : Thread nD τ).loc main_arg0) ∧ r.2.mem ((c : Thread nD τ).loc main_arg1) = m ((c : Thread nD τ).loc main_arg1)
      ∧ r.2.mem ((c : Thread nD τ).loc main_arg2) = m ((c : Thread nD τ).loc main_arg2) ∧ r.2.mem ((c : Thread nD τ).loc main_arg3) = m ((c : Thread nD τ).loc main_arg3))
      ∧ r.2.sem = fun _ => 0) :=
  (θ_run defs _ _).mono (fun _ h => ⟨fun c => ⟨(h.1 c).1, (h.1 c).2.1.trans (V_main_arg0 m c), (h.1 c).2.2.1.trans (V_main_arg1 m c),
    (h.1 c).2.2.2.1.trans (V_main_arg2 m c), (h.1 c).2.2.2.2.trans (V_main_arg3 m c)⟩, h.2⟩) (run_main m ρ)

end Cert.KernelIdeal.Hand
-- ==== Proof.IdealColumns.lean ====
module

public import proofs.«01_k».proof.Proof.IdealBlocks
public import Idealize.ShloMosaic.Lib.Pointwise

@[expose] public section

/-! The factors of the output blocks of the idealized kernel, element by element, and the order of their columns. -/

namespace Cert.KernelIdeal.Hand
open Cert.KernelIdeal Cert.KernelIdeal.Gen
open Idealize.ShloMosaic Idealize.ShloMosaic.TcCoe Idealize.ShloMosaic.Tactic

section
variable {F : FTy → Type} [FloatOps F]

/-- Row `r` of 512 is half `r % 2` of pair `r / 2`. -/
theorem rows512_apply (v : Vec F S1x256x2x128 .bf16) (r : Fin 512) (l : Fin 128) :
    rows512 v (ix2 r l) = v (ix4 0 ⟨r.val / 2, by omega⟩ ⟨r.val % 2, by omega⟩ l) := by
  pointwise [rows512]
  rcases (by omega : r.val % 2 = 0 ∨ r.val % 2 = 1) with e | e
  · rw [if_pos (by omega)]
    simp only [e]
    rfl
  · rw [if_neg (by omega)]
    simp only [e]
    rfl

@[reducible] def sideL (p : Fin 12 → FVec F S512x128 .bf16) : List ((s : Shape) × (s.Idx → F .bf16)) :=
  [⟨S512x128, p 0⟩, ⟨S512x128, p 1⟩, ⟨S512x128, p 2⟩, ⟨S512x128, p 3⟩, ⟨S512x128, p 4⟩, ⟨S512x128, p 5⟩, ⟨S512x128, p 6⟩, ⟨S512x128, p 7⟩, ⟨S512x128, p 8⟩, ⟨S512x128, p 9⟩, ⟨S512x128, p 10⟩, ⟨S512x128, p 11⟩]

theorem wide_sum (k : ℕ) : ((List.replicate k S512x128).map fun s : Shape => if h : s.rank = S512x1536.rank then s.size ((1 : Fin S512x1536.rank).cast h.symm) else 0).sum = 128 * k := by
  rw [List.map_replicate, List.sum_replicate]
  show k * 128 = 128 * k
  omega

/-- Column `128 g + l` of twelve planes side by side is column `l` of plane `g`. -/
theorem side12_apply (p : Fin 12 → FVec F S512x128 .bf16) (g : Fin 12) (r : Fin 512) (l : Fin 128) :
    side12 p (ix2 r ⟨128 * g.val + l.val, by omega⟩) = p g (ix2 r l) := by
  have hx : ∀ g : Fin 12, (sideL p)[g.val]'g.isLt = ⟨S512x128, p g⟩ := by
    intro g
    fin_cases g <;> rfl
  have e : (sideL p).map (·.1) = List.replicate 12 S512x128 := rfl
  have ht : ((sideL p).take g.val).map (·.1) = List.replicate g.val S512x128 := by
    rw [List.map_take, e, List.take_replicate, Nat.min_eq_left (by omega)]
  refine concatenate_apply_piece (1 : Fin S512x1536.rank) (sideL p) concatenates_S512x128_S512x128_S512x128_S512x128_S512x128_S512x128_S512x128_S512x128_S512x128_S512x128_S512x128_S512x128_S512x1536_d1
    (ix2 r ⟨128 * g.val + l.val, by omega⟩) g.val g.isLt S512x128 (p g) (hx g) rfl (128 * g.val) (by rw [ht]; exact wide_sum g.val) (ix2 r l) ?_ rfl
  intro b hb
  match b with
  | ⟨0, _⟩ => rfl
  | ⟨1, _⟩ => exact absurd rfl hb

/-- The left factor at row `r` and column `t`. -/
theorem lhsM_apply (c : Dev nD) (f10 : Cont F c cc0_scratch5) (k : Fin 5) (r : Fin 512) (t : Fin 1536) :
    lhsM c f10 k (ix2 r t) = f10 (ix4 ⟨t.val / 128, by omega⟩ ⟨256 * k.val + r.val / 2, by omega⟩ ⟨r.val % 2, by omega⟩ ⟨t.val % 128, by omega⟩ : S12x1280x2x128.Idx) := by
  have et : t = ⟨128 * (t.val / 128) + t.val % 128, by omega⟩ := Fin.ext (by show t.val = 128 * (t.val / 128) + t.val % 128; omega)
  refine (congrArg (fun t => lhsM c f10 k (ix2 r t)) et).trans ?_
  refine (side12_apply _ ⟨t.val / 128, by omega⟩ r ⟨t.val % 128, by omega⟩).trans ?_
  rw [rows512_apply]
  refine congrArg f10 ?_
  funext a
  match a with
  | ⟨0, _⟩ => apply Fin.ext; show t.val / 128 + 1 * 0 = t.val / 128; omega
  | ⟨1, _⟩ => apply Fin.ext; show 256 * k.val + 1 * (r.val / 2) = 256 * k.val + r.val / 2; omega
  | ⟨2, _⟩ => apply Fin.ext; show 0 + 1 * (r.val % 2) = r.val % 2; omega
  | ⟨3, _⟩ => apply Fin.ext; show 0 + 1 * (t.val % 128) = t.val % 128; omega

/-- The right factor at row `r` and column `t`. -/
theorem rhsM_apply (c : Dev nD) (f9 : Cont F c cc0_scratch4) (n : Fin 7) (r : Fin 512) (t : Fin 1536) :
    rhsM c f9 n (ix2 r t) = f9 (ix4 ⟨t.val / 128, by omega⟩ ⟨256 * n.val + r.val / 2, by omega⟩ ⟨r.val % 2, by omega⟩ ⟨t.val % 128, by omega⟩ : S12x1792x2x128.Idx) := by
  have et : t = ⟨128 * (t.val / 128) + t.val % 128, by omega⟩ := Fin.ext (by show t.val = 128 * (t.val / 128) + t.val % 128; omega)
  refine (congrArg (fun t => rhsM c f9 n (ix2 r t)) et).trans ?_
  refine (side12_apply _ ⟨t.val / 128, by omega⟩ r ⟨t.val % 128, by omega⟩).trans ?_
  rw [rows512_apply]
  refine congrArg f9 ?_
  funext a
  match a with
  | ⟨0, _⟩ => apply Fin.ext; show t.val / 128 + 1 * 0 = t.val / 128; omega
  | ⟨1, _⟩ => apply Fin.ext; show 256 * n.val + 1 * (r.val / 2) = 256 * n.val + r.val / 2; omega
  | ⟨2, _⟩ => apply Fin.ext; show 0 + 1 * (r.val % 2) = r.val % 2; omega
  | ⟨3, _⟩ => apply Fin.ext; show 0 + 1 * (t.val % 128) = t.val % 128; omega

end

/-- Output block `(k, n)` at the ideal instance. -/
theorem blockM_apply (c : Dev nD) (f9 : Cont Ideal c cc0_scratch4) (f10 : Cont Ideal c cc0_scratch5) (k : Fin 5) (n : Fin 7) (r q : Fin 512) :
    blockM c f9 f10 k n (ix2 r q) = ∑ t : Fin 1536, lhsM c f10 k (ix2 r t) * rhsM c f9 n (ix2 q t) := by
  pointwise [blockM]

/-- The columns of the factors are the pairs of a batch and a position. -/
def cols : Fin 1536 ≃ Fin 4 × Fin 384 where
  toFun t := (⟨t.val / 128 % 4, by omega⟩, ⟨t.val / 512 * 128 + t.val % 128, by omega⟩)
  invFun p := ⟨p.2.val / 128 * 512 + p.1.val * 128 + p.2.val % 128, by have := p.1.isLt; have := p.2.isLt; omega⟩
  left_inv t := Fin.ext (by show (t.val / 512 * 128 + t.val % 128) / 128 * 512 + t.val / 128 % 4 * 128 + (t.val / 512 * 128 + t.val % 128) % 128 = t.val; omega)
  right_inv p := by
    obtain ⟨⟨b, hb⟩, ⟨s, hs⟩⟩ := p
    refine Prod.ext (Fin.ext ?_) (Fin.ext ?_)
    · show (s / 128 * 512 + b * 128 + s % 128) / 128 % 4 = b; omega
    · show (s / 128 * 512 + b * 128 + s % 128) / 512 * 128 + (s / 128 * 512 + b * 128 + s % 128) % 128 = s; omega

/-- A sum over the columns is the sum over batches and positions. -/
theorem sum_cols (f : Fin 4 → Fin 384 → EReal) :
    ∑ t : Fin 1536, f (cols t).1 (cols t).2 = ∑ b : Fin 4, ∑ s : Fin 384, f b s := by
  rw [Fintype.sum_equiv cols (fun t => f (cols t).1 (cols t).2) (fun p => f p.1 p.2) fun _ => rfl]
  simp only [Fintype.sum_prod_type]

end Cert.KernelIdeal.Hand
-- ==== Proof.IdealHost.lean ====
module

public import proofs.«01_k».proof.Proof.Gen.KernelIdeal.Frame
public import proofs.«01_k».proof.Proof.IdealPiece
public import Idealize.ShloMosaic.Lib.Pointwise
public import Idealize.ShloMosaic.Lib.BitcastConvert

@[expose] public section

/-! What the host hands to the idealized kernel: the code bytes of the four batches as one word, and the scales with their axes reversed. -/

namespace Cert.KernelIdeal.Hand
open Cert.KernelIdeal Cert.KernelIdeal.Gen
open Idealize.ShloMosaic Idealize.ShloMosaic.TcCoe Idealize.ShloMosaic.Tactic

variable {F : FTy → Type} [FloatOps F]

/-- Byte `b` of a word widened from bytes along the added axis is its byte there. -/
theorem byteOf_widen {C : ℕ} (x : (⟨3, ![C, 384, 4]⟩ : Shape).Idx → BitVec 8) (h : (⟨2, ![C, 384]⟩ : Shape).SplitsWords 32 ⟨3, ![C, 384, 4]⟩ 8) (ch : Fin C) (s : Fin 384) (b : Fin 4) :
    byteOf (Host.bitcastConvertWiden ⟨2, ![C, 384]⟩ 32 x h (ix2 ch s)) b.val = x (ix3 ch s b) := by
  apply BitVec.eq_of_getLsbD_eq
  intro q hq
  rw [byteOf, BitVec.getLsbD_extractLsb', decide_eq_true hq, Bool.true_and, Host.bitcastConvertWiden_getLsbD _ _ _ _ _ _ (by omega)]
  have e : (8 * b.val + q) % 8 = q := by omega
  rw [e]
  refine congrArg (fun i => (x i).getLsbD q) ?_
  funext a
  match a with
  | ⟨0, _⟩ => rfl
  | ⟨1, _⟩ => rfl
  | ⟨2, _⟩ => apply Fin.ext; show (8 * b.val + q) / 8 = b.val; omega

variable (m : (ℓ : Loc nD τ sig) → Buf (Elt F) ℓ)

theorem V_v2 (c : Dev nD) : V m c main_v2 = shapeCast S3584x1x384 (Host.bitcastConvertWiden S3584x384 32 (transpose S3584x384x4 [0, 2, 1] (m ((c : Thread nD τ).loc main_arg0)) transposes_S3584x4x384_S3584x384x4_0_2_1) splits_S3584x384_w32_S3584x384x4_w8) shapeCasts_S3584x384_S3584x1x384 := by
  unfold V hostOps0
  after_results
  rfl
theorem V_v6 (c : Dev nD) : V m c main_v6 = shapeCast S2560x1x384 (Host.bitcastConvertWiden S2560x384 32 (transpose S2560x384x4 [0, 2, 1] (m ((c : Thread nD τ).loc main_arg2)) transposes_S2560x4x384_S2560x384x4_0_2_1) splits_S2560x384_w32_S2560x384x4_w8) shapeCasts_S2560x384_S2560x1x384 := by
  unfold V hostOps0
  after_results
  rfl
theorem V_v3 (c : Dev nD) : V m c main_v3 = transpose S3x4x3584 [2, 1, 0] (m ((c : Thread nD τ).loc main_arg1)) transposes_S3584x4x3_S3x4x3584_2_1_0 := by
  unfold V hostOps0
  after_results
theorem V_v7 (c : Dev nD) : V m c main_v7 = transpose S3x4x2560 [2, 1, 0] (m ((c : Thread nD τ).loc main_arg3)) transposes_S2560x4x3_S3x4x2560_2_1_0 := by
  unfold V hostOps0
  after_results

/-- Byte `b` of the word of channel `ch` of `x` at position `s` is the code of batch `b`. -/
theorem x_byte (c : Dev nD) (ch : Fin 3584) (s : Fin 384) (b : Fin 4) :
    byteOf (V m c main_v2 (ix3 ch (0 : Fin 1) s : S3584x1x384.Idx)) b.val = m ((c : Thread nD τ).loc main_arg0) (ix3 ch b s : S3584x4x384.Idx) := by
  rw [V_v2]
  have e : Shape.reshapeEquiv shapeCasts_S3584x384_S3584x1x384 (ix3 ch (0 : Fin 1) s : S3584x1x384.Idx) = ix2 ch s := Shape.reshapeEquiv_eq_of_rowMajor _ (by
    rw [Shape.rowMajor_val_three, Shape.rowMajor_val_two]
    show ch.val * 384 + s.val = (ch.val * 1 + 0) * 384 + s.val
    omega)
  unfold shapeCast
  rw [e]
  refine (byteOf_widen (C := 3584) _ _ ch s b).trans ?_
  pointwise []

/-- The same for `dy`. -/
theorem y_byte (c : Dev nD) (ch : Fin 2560) (s : Fin 384) (b : Fin 4) :
    byteOf (V m c main_v6 (ix3 ch (0 : Fin 1) s : S2560x1x384.Idx)) b.val = m ((c : Thread nD τ).loc main_arg2) (ix3 ch b s : S2560x4x384.Idx) := by
  rw [V_v6]
  have e : Shape.reshapeEquiv shapeCasts_S2560x384_S2560x1x384 (ix3 ch (0 : Fin 1) s : S2560x1x384.Idx) = ix2 ch s := Shape.reshapeEquiv_eq_of_rowMajor _ (by
    rw [Shape.rowMajor_val_three, Shape.rowMajor_val_two]
    show ch.val * 384 + s.val = (ch.val * 1 + 0) * 384 + s.val
    omega)
  unfold shapeCast
  rw [e]
  refine (byteOf_widen (C := 2560) _ _ ch s b).trans ?_
  pointwise []

/-- The scale of channel `ch` of `x` at tile `j` and batch `b`. -/
theorem x_scale (c : Dev nD) (ch : Fin 3584) (j : Fin 3) (b : Fin 4) :
    V m c main_v3 (ix3 j b ch : S3x4x3584.Idx) = m ((c : Thread nD τ).loc main_arg1) (ix3 ch b j : S3584x4x3.Idx) := by
  rw [V_v3]
  pointwise []
/-- The same for `dy`. -/
theorem y_scale (c : Dev nD) (ch : Fin 2560) (j : Fin 3) (b : Fin 4) :
    V m c main_v7 (ix3 j b ch : S3x4x2560.Idx) = m ((c : Thread nD τ).loc main_arg3) (ix3 ch b j : S2560x4x3.Idx) := by
  rw [V_v7]
  pointwise []

/-- The scales' windows are whole arrays. -/
theorem idx_zero0 : ∀ t : Fin cfg0.N, win0_0.index t (0 : Fin 3) = 0 ∧ win0_0.index t (1 : Fin 3) = 0 ∧ win0_0.index t (2 : Fin 3) = 0 :=
  (by decide +kernel : ∀ t : Fin grid0.N, _)
theorem idx_zero1 : ∀ t : Fin cfg0.N, win0_1.index t (0 : Fin 3) = 0 ∧ win0_1.index t (1 : Fin 3) = 0 ∧ win0_1.index t (2 : Fin 3) = 0 :=
  (by decide +kernel : ∀ t : Fin grid0.N, _)
theorem emb0 (t : Fin cfg0.N) (j : S3x4x3584.Idx) : ((cfg0.win 0).blk t).view.emb j = j := by
  obtain ⟨e0, e1, e2⟩ := idx_zero0 t
  funext a; apply Fin.ext
  match a with
  | ⟨0, _⟩ => show win0_0.index t (0 : Fin 3) * 3 + 1 * (j 0).val = (j 0).val; omega
  | ⟨1, _⟩ => show win0_0.index t (1 : Fin 3) * 4 + 1 * (j 1).val = (j 1).val; omega
  | ⟨2, _⟩ => show win0_0.index t (2 : Fin 3) * 3584 + 1 * (j 2).val = (j 2).val; omega
theorem emb1 (t : Fin cfg0.N) (j : S3x4x2560.Idx) : ((cfg0.win 1).blk t).view.emb j = j := by
  obtain ⟨e0, e1, e2⟩ := idx_zero1 t
  funext a; apply Fin.ext
  match a with
  | ⟨0, _⟩ => show win0_1.index t (0 : Fin 3) * 3 + 1 * (j 0).val = (j 0).val; omega
  | ⟨1, _⟩ => show win0_1.index t (1 : Fin 3) * 4 + 1 * (j 1).val = (j 1).val; omega
  | ⟨2, _⟩ => show win0_1.index t (2 : Fin 3) * 2560 + 1 * (j 2).val = (j 2).val; omega
/-- The block of the scales of `x` is their array. -/
theorem iblk0_eq (c : Dev nD) (t : Fin cfg0.N) : iblk m c 0 t = V m c main_v3 := by
  funext j; show V m c main_v3 (((cfg0.win 0).blk t).view.emb j) = V m c main_v3 j; rw [emb0]
/-- The same for `dy`. -/
theorem iblk1_eq (c : Dev nD) (t : Fin cfg0.N) : iblk m c 1 t = V m c main_v7 := by
  funext j; show V m c main_v7 (((cfg0.win 1).blk t).view.emb j) = V m c main_v7 j; rw [emb1]

end Cert.KernelIdeal.Hand
-- ==== Proof.RefValue.lean ====
module

public import proofs.«01_k».proof.Proof.Gen.ReferenceIdeal.Value
public import Idealize.ShloMosaic.Lib.Pointwise

@[expose] public section

/-! The reference's result at the ideal instance, element by element. -/

namespace Cert.Weights
open Idealize.ShloMosaic

/-- The weight of channel `ch` at batch `b` and position `s`: its decoded code times the scale of the position's tile of 128. -/
noncomputable def weight {C : ℕ} (a : (⟨3, ![C, 4, 384]⟩ : Shape).Idx → BitVec 8) (z : (⟨3, ![C, 4, 3]⟩ : Shape).Idx → EReal) (ch : Fin C) (b : Fin 4) (s : Fin 384) : EReal :=
  Ideal.ofBits FTy.fp8e4m3 (a (ix3 ch b s)) * z (ix3 ch b ⟨s.val / 128, by omega⟩)

/-- Element `(n, k)` of the weight gradient. -/
noncomputable def grad (a0 : (⟨3, ![3584, 4, 384]⟩ : Shape).Idx → BitVec 8) (a1 : (⟨3, ![3584, 4, 3]⟩ : Shape).Idx → EReal)
    (a2 : (⟨3, ![2560, 4, 384]⟩ : Shape).Idx → BitVec 8) (a3 : (⟨3, ![2560, 4, 3]⟩ : Shape).Idx → EReal) (n : Fin 2560) (k : Fin 3584) : EReal :=
  ∑ b : Fin 4, ∑ s : Fin 384, weight a2 a3 n b s * weight a0 a1 k b s

end Cert.Weights

namespace Cert.ReferenceIdeal.Hand
open Cert.ReferenceIdeal Cert.ReferenceIdeal.Gen
open Idealize.ShloMosaic

set_option maxRecDepth 16384 in
/-- The reference computes the weight gradient. -/
theorem value (a0 : Vec Ideal S3584x4x384 .i8) (a1 : Vec Ideal S3584x4x3 .f32) (a2 : Vec Ideal S2560x4x384 .i8) (a3 : Vec Ideal S2560x4x3 .f32) (n : Fin 2560) (k : Fin 3584) :
    Value.G4 a0 a1 a2 a3 (ix2 n k) = Weights.grad a0 a1 a2 a3 n k := by
  unfold Value.G4 Weights.grad Weights.weight
  pointwise [k0_pay1]

end Cert.ReferenceIdeal.Hand
-- ==== Proof.IdealValue.lean ====
module

public import proofs.«01_k».proof.Proof.IdealLaunch
public import proofs.«01_k».proof.Proof.IdealColumns
public import proofs.«01_k».proof.Proof.IdealHost
public import proofs.«01_k».proof.Proof.RefValue

@[expose] public section

/-! What the idealized kernel leaves in its result, element by element: the weight gradient of its arguments. -/

namespace Cert.KernelIdeal.Hand
open Cert.KernelIdeal Cert.KernelIdeal.Gen
open Idealize.ShloMosaic Idealize.ShloMosaic.TcCoe Idealize.ShloMosaic.Tactic
open Cert.Weights (weight grad)

variable (m : (ℓ : Loc nD τ sig) → Buf (Elt Ideal) ℓ)

/-- The packed value of a channel and a group, at a lane, is the weight of the channel at the group's batch and the position of the lane in
the group's tile, provided that the word there holds the code and the scale word the scale. -/
theorem packAt_weight {R S : ℕ} (hS : ∀ ch, ch < R → ch / 1024 * 8 + 8 ≤ S) (raw : (⟨3, ![3, R, 128]⟩ : Shape).Idx → BitVec 32)
    (sw : (⟨4, ![S, 8, 2, 128]⟩ : Shape).Idx → Elt Ideal .bf16) (a : (⟨3, ![R, 4, 384]⟩ : Shape).Idx → BitVec 8) (z : (⟨3, ![R, 4, 3]⟩ : Shape).Idx → EReal)
    (g : Fin 12) (ch : ℕ) (hch : ch < R) (l : Fin 128)
    (hr : byteOf (raw (ix3 ⟨g.val / 4, by omega⟩ ⟨ch, hch⟩ l)) (g.val % 4) = a (ix3 ⟨ch, hch⟩ ⟨g.val % 4, by omega⟩ ⟨128 * (g.val / 4) + l.val, by omega⟩))
    (hs : sw (ix4 ⟨ch / 1024 * 8 + ch % 128 / 16, by have := hS ch hch; omega⟩ ⟨ch % 16 / 2, by omega⟩ ⟨ch % 2, by omega⟩ ⟨ch / 128 % 8 * 16 + g.val, by omega⟩)
      = z (ix3 ⟨ch, hch⟩ ⟨g.val % 4, by omega⟩ ⟨g.val / 4, by omega⟩)) :
    packAt hS raw sw g ch hch l = weight a z ⟨ch, hch⟩ ⟨g.val % 4, by omega⟩ ⟨128 * (g.val / 4) + l.val, by omega⟩ := by
  unfold packAt weight
  rw [hr, hs]
  simp only [Ideal.mulf_def, Ideal.extf_def, Ideal.truncf_def]
  refine congrArg₂ (· * ·) rfl (congrArg z ?_)
  funext i
  match i with
  | ⟨0, _⟩ => rfl
  | ⟨1, _⟩ => rfl
  | ⟨2, _⟩ => apply Fin.ext; show g.val / 4 = (128 * (g.val / 4) + l.val) / 128; omega

/-- What the last loop of the kernel reads of `x`. -/
noncomputable abbrev xP (c : Dev nD) : Cont Ideal c cc0_scratch4 := xPacked c (xRaw c (V m c main_v2)) (xSw c (win0_0.stage (cfg0.slots t0_0 0)) (sx m c))
/-- What the last loop of the kernel reads of `dy`. -/
noncomputable abbrev yP (c : Dev nD) : Cont Ideal c cc0_scratch5 := yPacked c (yRaw c (V m c main_v6)) (ySw c (win0_1.stage (cfg0.slots t0_0 1)) (sy m c))

/-- Row `512 k + r` of a packed array whose words hold codes and whose scale words hold scales, column by column. -/
theorem packed_weight {R S N : ℕ} (hS : ∀ ch, ch < R → ch / 1024 * 8 + 8 ≤ S) (hN : R = 2 * N) (raw : (⟨3, ![3, R, 128]⟩ : Shape).Idx → BitVec 32)
    (sw : (⟨4, ![S, 8, 2, 128]⟩ : Shape).Idx → Elt Ideal .bf16) (a : (⟨3, ![R, 4, 384]⟩ : Shape).Idx → BitVec 8) (z : (⟨3, ![R, 4, 3]⟩ : Shape).Idx → EReal)
    (hr : ∀ (ch : ℕ) (hch : ch < R) (g : Fin 12) (l : Fin 128), byteOf (raw (ix3 ⟨g.val / 4, by omega⟩ ⟨ch, hch⟩ l)) (g.val % 4) = a (ix3 ⟨ch, hch⟩ ⟨g.val % 4, by omega⟩ ⟨128 * (g.val / 4) + l.val, by omega⟩))
    (hs : ∀ (ch : ℕ) (hch : ch < R) (g : Fin 12), sw (ix4 ⟨ch / 1024 * 8 + ch % 128 / 16, by have := hS ch hch; omega⟩ ⟨ch % 16 / 2, by omega⟩ ⟨ch % 2, by omega⟩ ⟨ch / 128 % 8 * 16 + g.val, by omega⟩)
      = z (ix3 ⟨ch, hch⟩ ⟨g.val % 4, by omega⟩ ⟨g.val / 4, by omega⟩))
    (k : ℕ) (r : Fin 512) (hk : 512 * k + 512 ≤ R) (t : Fin 1536) :
    packed hS hN raw sw (ix4 ⟨t.val / 128, by omega⟩ ⟨256 * k + r.val / 2, by omega⟩ ⟨r.val % 2, by omega⟩ ⟨t.val % 128, by omega⟩)
      = weight a z ⟨512 * k + r.val, by omega⟩ (cols t).1 (cols t).2 := by
  have hch : 512 * k + r.val < R := by omega
  refine (packAt_congr hS raw sw _ ⟨t.val / 128, by omega⟩ _ (512 * k + r.val) _ hch _ ⟨t.val % 128, by omega⟩ rfl (by show 2 * (256 * k + r.val / 2) + r.val % 2 = _; omega) rfl).trans ?_
  refine (packAt_weight hS raw sw a z _ _ hch _ (hr _ hch _ _) (hs _ hch _)).trans ?_
  exact congrArg (weight a z _ _) (Fin.ext (by show 128 * (t.val / 128 / 4) + t.val % 128 = t.val / 512 * 128 + t.val % 128; omega))

/-- The scale word of a channel of `x` and a group. -/
theorem x_sw (c : Dev nD) (ch : ℕ) (hch : ch < 3584) (g : Fin 12) :
    xSw c (win0_0.stage (cfg0.slots t0_0 0)) (sx m c) (ix4 ⟨ch / 1024 * 8 + ch % 128 / 16, by omega⟩ ⟨ch % 16 / 2, by omega⟩ ⟨ch % 2, by omega⟩ ⟨ch / 128 % 8 * 16 + g.val, by omega⟩ : (⟨4, ![32, 8, 2, 128]⟩ : Shape).Idx)
      = m ((c : Thread nD τ).loc main_arg1) (ix3 ⟨ch, hch⟩ ⟨g.val % 4, by omega⟩ ⟨g.val / 4, by omega⟩ : S3584x4x3.Idx) := by
  refine (words_at (F := Ideal) (C := 3584) (S := 32) 3 rfl (by intro ch h; omega) (win0_0.stage (cfg0.slots t0_0 0)) (sx m c) ch hch g).trans ?_
  rw [sx, View.read_rep, iblk0_eq]
  exact x_scale m c ⟨ch, hch⟩ ⟨g.val / 4, by omega⟩ ⟨g.val % 4, by omega⟩

/-- The word of a channel of `x` and a group, at a lane, holds the code. -/
theorem x_raw (c : Dev nD) (ch : ℕ) (hch : ch < 3584) (g : Fin 12) (l : Fin 128) :
    byteOf (xRaw c (V m c main_v2) (ix3 ⟨g.val / 4, by omega⟩ ⟨ch, hch⟩ l : (⟨3, ![3, 3584, 128]⟩ : Shape).Idx)) (g.val % 4)
      = m ((c : Thread nD τ).loc main_arg0) (ix3 ⟨ch, hch⟩ ⟨g.val % 4, by omega⟩ ⟨128 * (g.val / 4) + l.val, by omega⟩ : S3584x4x384.Idx) :=
  x_byte m c ⟨ch, hch⟩ ⟨128 * (g.val / 4) + l.val, by omega⟩ ⟨g.val % 4, by omega⟩

/-- The right factor holds the weights of `x`. -/
theorem right_weight (c : Dev nD) (n : Fin 7) (r : Fin 512) (t : Fin 1536) :
    rhsM c (xP m c) n (ix2 r t) = weight (m ((c : Thread nD τ).loc main_arg0)) (m ((c : Thread nD τ).loc main_arg1)) ⟨512 * n.val + r.val, by omega⟩ (cols t).1 (cols t).2 :=
  (rhsM_apply c (xP m c) n r t).trans (packed_weight (by intro ch h; omega) (by decide) (xRaw c (V m c main_v2)) (xSw c (win0_0.stage (cfg0.slots t0_0 0)) (sx m c))
    (m ((c : Thread nD τ).loc main_arg0)) (m ((c : Thread nD τ).loc main_arg1)) (fun ch hch g l => x_raw m c ch hch g l) (fun ch hch g => x_sw m c ch hch g) n.val r (by omega) t)

/-- The scale word of a channel of `dy` and a group. -/
theorem y_sw (c : Dev nD) (ch : ℕ) (hch : ch < 2560) (g : Fin 12) :
    ySw c (win0_1.stage (cfg0.slots t0_0 1)) (sy m c) (ix4 ⟨ch / 1024 * 8 + ch % 128 / 16, by omega⟩ ⟨ch % 16 / 2, by omega⟩ ⟨ch % 2, by omega⟩ ⟨ch / 128 % 8 * 16 + g.val, by omega⟩ : (⟨4, ![24, 8, 2, 128]⟩ : Shape).Idx)
      = m ((c : Thread nD τ).loc main_arg3) (ix3 ⟨ch, hch⟩ ⟨g.val % 4, by omega⟩ ⟨g.val / 4, by omega⟩ : S2560x4x3.Idx) := by
  refine (words_at (F := Ideal) (C := 2560) (S := 24) 2 rfl (by intro ch h; omega) (win0_1.stage (cfg0.slots t0_0 1)) (sy m c) ch hch g).trans ?_
  rw [sy, View.read_rep, iblk1_eq]
  exact y_scale m c ⟨ch, hch⟩ ⟨g.val / 4, by omega⟩ ⟨g.val % 4, by omega⟩

/-- The word of a channel of `dy` and a group, at a lane, holds the code. -/
theorem y_raw (c : Dev nD) (ch : ℕ) (hch : ch < 2560) (g : Fin 12) (l : Fin 128) :
    byteOf (yRaw c (V m c main_v6) (ix3 ⟨g.val / 4, by omega⟩ ⟨ch, hch⟩ l : (⟨3, ![3, 2560, 128]⟩ : Shape).Idx)) (g.val % 4)
      = m ((c : Thread nD τ).loc main_arg2) (ix3 ⟨ch, hch⟩ ⟨g.val % 4, by omega⟩ ⟨128 * (g.val / 4) + l.val, by omega⟩ : S2560x4x384.Idx) :=
  y_byte m c ⟨ch, hch⟩ ⟨128 * (g.val / 4) + l.val, by omega⟩ ⟨g.val % 4, by omega⟩

/-- The left factor holds the weights of `dy`. -/
theorem left_weight (c : Dev nD) (k : Fin 5) (r : Fin 512) (t : Fin 1536) :
    lhsM c (yP m c) k (ix2 r t) = weight (m ((c : Thread nD τ).loc main_arg2)) (m ((c : Thread nD τ).loc main_arg3)) ⟨512 * k.val + r.val, by omega⟩ (cols t).1 (cols t).2 :=
  (lhsM_apply c (yP m c) k r t).trans (packed_weight (by intro ch h; omega) (by decide) (yRaw c (V m c main_v6)) (ySw c (win0_1.stage (cfg0.slots t0_0 1)) (sy m c))
    (m ((c : Thread nD τ).loc main_arg2)) (m ((c : Thread nD τ).loc main_arg3)) (fun ch hch g l => y_raw m c ch hch g l) (fun ch hch g => y_sw m c ch hch g) k.val r (by omega) t)

/-- The kernel computes the weight gradient. -/
theorem value (c : Dev nD) (n : Fin 2560) (k : Fin 3584) :
    out m c (ix2 n k : S2560x3584.Idx) = grad (m ((c : Thread nD τ).loc main_arg0)) (m ((c : Thread nD τ).loc main_arg1)) (m ((c : Thread nD τ).loc main_arg2)) (m ((c : Thread nD τ).loc main_arg3)) n k := by
  refine (outM_eq c (xP m c) (yP m c) ⟨n.val / 512, by omega⟩ ⟨k.val / 512, by omega⟩ (ix2 n k : S2560x3584.Idx) (ix2 ⟨n.val % 512, by omega⟩ ⟨k.val % 512, by omega⟩)
    (by show n.val = 512 * (n.val / 512) + n.val % 512; omega) (by show k.val = 512 * (k.val / 512) + k.val % 512; omega)).trans ?_
  refine Eq.trans (α := EReal) (blockM_apply c (xP m c) (yP m c) _ _ _ _) ?_
  unfold grad
  refine Eq.trans (α := EReal) ?_ (sum_cols fun b s => weight (m ((c : Thread nD τ).loc main_arg2)) (m ((c : Thread nD τ).loc main_arg3)) n b s * weight (m ((c : Thread nD τ).loc main_arg0)) (m ((c : Thread nD τ).loc main_arg1)) k b s)
  refine Finset.sum_congr rfl fun t _ => ?_
  rw [left_weight, right_weight]
  have en : (⟨512 * (n.val / 512) + n.val % 512, by omega⟩ : Fin 2560) = n := Fin.ext (by show 512 * (n.val / 512) + n.val % 512 = n.val; omega)
  have ek : (⟨512 * (k.val / 512) + k.val % 512, by omega⟩ : Fin 3584) = k := Fin.ext (by show 512 * (k.val / 512) + k.val % 512 = k.val; omega)
  exact congrArg₂ (fun n k => weight (m ((c : Thread nD τ).loc main_arg2)) (m ((c : Thread nD τ).loc main_arg3)) n (cols t).1 (cols t).2 * weight (m ((c : Thread nD τ).loc main_arg0)) (m ((c : Thread nD τ).loc main_arg1)) k (cols t).1 (cols t).2) en ek

end Cert.KernelIdeal.Hand
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.ReferenceIdeal.Value
public import proofs.«01_k».proof.Proof.WordLaunch
public import proofs.«01_k».proof.Proof.IdealValue
public import Idealize.ShloMosaic.Lib.Bf16PairInverse

@[expose] public section

noncomputable section

namespace Cert.Proof

open Idealize.ShloMosaic Idealize.ShloMosaic.TcCoe Idealize.SL.Sem

/-- The kernel terminates without a fault, and leaves its arguments and its semaphores as it found them. -/
theorem frame_kernel : Cert.quiescent_Kernel := fun m g _ => Cert.Kernel.Hand.run_frame (F := Bits) m g

/-- So does the idealized kernel. -/
theorem frame_ideal : Cert.quiescent_KernelIdeal := fun m g _ =>
  (θ_run _ _ _).mono (fun _ h => ⟨fun c => (h.1 c).2, h.2⟩) (Cert.KernelIdeal.Hand.run_out (F := Ideal) m g)

/-- So does the reference over the extended reals. -/
theorem frame_reference : Cert.quiescent_ReferenceIdeal := fun m g _ => Cert.ReferenceIdeal.Gen.frame m g

/-- The idealized kernel is the kernel with its words of packed bf16 pairs read as pairs. -/
theorem preserves : Cert.preserves_Kernel_KernelIdeal :=
  open Cert.KernelIdeal IdealRules.bf16_pair in
  ⟨bufferStatement S32x8x2x128 S32x8x1x128, bufferStatement S24x8x2x128 S24x8x1x128, bufferStatement S12x1792x2x128 S12x1792x1x128,
    bufferStatement S12x1280x2x128 S12x1280x1x128, statement S16x128 S8x128, statement S1x8x2x128 S1x8x1x128,
    statement S1x256x2x128 S1x256x1x128, statement S512x128 S256x128⟩

/-- The kernel's result is the reference's function of the same arguments. -/
theorem out_eq (m : (ℓ : Loc Cert.KernelIdeal.nD Cert.KernelIdeal.τ Cert.KernelIdeal.sig) → Buf (Elt Ideal) ℓ) (c : Dev Cert.KernelIdeal.nD) :
    Cert.ReferenceIdeal.Value.G4 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1))
        (m ((c : Thread Cert.KernelIdeal.nD Cert.KernelIdeal.τ).loc Cert.KernelIdeal.main_arg2)) (m ((c : Thread Cert.KernelIdeal.nD Cert.KernelIdeal.τ).loc Cert.KernelIdeal.main_arg3))
      = Cert.KernelIdeal.Hand.out m c := by
  funext i
  obtain ⟨n, k, rfl⟩ : ∃ (n : Fin 2560) (k : Fin 3584), i = ix2 n k :=
    ⟨i 0, i 1, funext fun a => by match a with | ⟨0, _⟩ => rfl | ⟨1, _⟩ => rfl⟩
  exact (Cert.ReferenceIdeal.Hand.value _ _ _ _ n k).trans (Cert.KernelIdeal.Hand.value m c n k).symm

/-- Kernel and reference compute the same function over the extended reals. -/
theorem algebraic : Cert.algebraic_KernelIdeal_ReferenceIdeal := fun m g m' g' _ heq =>
  ⟨fun c => Cert.KernelIdeal.Hand.out m c,
    (θ_run _ _ _).mono (fun _ h => h.1) (Cert.KernelIdeal.Hand.run_out (F := Ideal) m g),
    (θ_run _ _ _).mono (fun _ h c => ⟨(h c).1.trans (by
        obtain ⟨e0, e1, e2, e3⟩ := heq c
        rw [e0, e1, e2, e3]
        exact out_eq m c), (h c).2⟩) (Cert.ReferenceIdeal.Value.run (F := Ideal) m' g')⟩

theorem claim : Cert.Claim := ⟨Cert.Kernel.Gen.facts, Cert.KernelIdeal.Gen.facts, Cert.ReferenceIdeal.Gen.facts,
  frame_kernel, frame_ideal, frame_reference, preserves, algebraic⟩

end Cert.Proof

end
